-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x384x32x32 : Shape := ⟨4, ![4, 384, 32, 32]⟩
abbrev S384x384 : Shape := ⟨2, ![384, 384]⟩
abbrev S384 : Shape := ⟨1, ![384]⟩
abbrev S384x512 : Shape := ⟨2, ![384, 512]⟩
abbrev S8x16x64 : Shape := ⟨3, ![8, 16, 64]⟩
abbrev S1024x64 : Shape := ⟨2, ![1024, 64]⟩
abbrev S64 : Shape := ⟨1, ![64]⟩
abbrev S8x1x64 : Shape := ⟨3, ![8, 1, 64]⟩
abbrev S384x24 : Shape := ⟨2, ![384, 24]⟩
abbrev S24 : Shape := ⟨1, ![24]⟩
abbrev S512x384 : Shape := ⟨2, ![512, 384]⟩
abbrev S_ : Shape := ⟨0, ![]⟩

class Facts : Prop where
  bcast_S_S384 : S_.BroadcastsInDim S384 (![] : Fin 0 → Fin S384.rank)
  bcast_S_S384x512 : S_.BroadcastsInDim S384x512 (![] : Fin 0 → Fin S384x512.rank)
  bcast_S_S8x16x64 : S_.BroadcastsInDim S8x16x64 (![] : Fin 0 → Fin S8x16x64.rank)
  bcast_S_S1024x64 : S_.BroadcastsInDim S1024x64 (![] : Fin 0 → Fin S1024x64.rank)
  bcast_S_S64 : S_.BroadcastsInDim S64 (![] : Fin 0 → Fin S64.rank)
  bcast_S_S8x1x64 : S_.BroadcastsInDim S8x1x64 (![] : Fin 0 → Fin S8x1x64.rank)

variable [Facts]

def fn_part1 {F : FTy → Type} [FloatOps F] (main_arg15 : FVec F S8x1x64 .f32) (main_v2 : IVec S384 1) (main_v5 : IVec S384x512 1) (main_v8 : IVec S384x512 1) (main_v11 : IVec S8x16x64 1) (main_v14 : IVec S1024x64 1) (main_v17 : IVec S64 1) : IVec S384 1 × IVec S384x512 1 × IVec S384x512 1 × IVec S8x16x64 1 × IVec S1024x64 1 × IVec S64 1 × IVec S8x1x64 1 :=
  let main_v18 : FVec F S8x1x64 .f32 := Host.absf main_arg15
  let main_cst_5 : FVec F S_ .f32 := constant S_ .f32 0x7F800000#32
  let main_v19 : FVec F S8x1x64 .f32 := broadcastInDim S8x1x64 ![] bcast_S_S8x1x64 main_cst_5
  let main_v20 : IVec S8x1x64 1 := cmpf .olt main_v18 main_v19
  (main_v2, main_v5, main_v8, main_v11, main_v14, main_v17, main_v20)

def fn {F : FTy → Type} [FloatOps F] (main_arg0 : FVec F S4x384x32x32 .f32) (main_arg1 : FVec F S384x384 .f32) (main_arg2 : FVec F S384 .f32) (main_arg3 : FVec F S384x384 .f32) (main_arg4 : FVec F S384 .f32) (main_arg5 : FVec F S384 .f32) (main_arg6 : FVec F S384x512 .f32) (main_arg7 : FVec F S384x512 .f32) (main_arg8 : FVec F S384x512 .f32) (main_arg9 : FVec F S8x16x64 .f32) (main_arg10 : FVec F S8x16x64 .f32) (main_arg11 : FVec F S1024x64 .f32) (main_arg12 : FVec F S64 .f32) (main_arg13 : FVec F S1024x64 .f32) (main_arg14 : FVec F S64 .f32) (main_arg15 : FVec F S8x1x64 .f32) (main_arg16 : FVec F S8x1x64 .f32) (main_arg17 : FVec F S384x24 .f32) (main_arg18 : FVec F S24 .f32) (main_arg19 : FVec F S512x384 .f32) : IVec S384 1 × IVec S384x512 1 × IVec S384x512 1 × IVec S8x16x64 1 × IVec S1024x64 1 × IVec S64 1 × IVec S8x1x64 1 :=
  let main_v0 : FVec F S384 .f32 := Host.absf main_arg5
  let main_cst : FVec F S_ .f32 := constant S_ .f32 0x7F800000#32
  let main_v1 : FVec F S384 .f32 := broadcastInDim S384 ![] bcast_S_S384 main_cst
  let main_v2 : IVec S384 1 := cmpf .olt main_v0 main_v1
  let main_v3 : FVec F S384x512 .f32 := Host.absf main_arg6
  let main_cst_0 : FVec F S_ .f32 := constant S_ .f32 0x7F800000#32
  let main_v4 : FVec F S384x512 .f32 := broadcastInDim S384x512 ![] bcast_S_S384x512 main_cst_0
  let main_v5 : IVec S384x512 1 := cmpf .olt main_v3 main_v4
  let main_v6 : FVec F S384x512 .f32 := Host.absf main_arg7
  let main_cst_1 : FVec F S_ .f32 := constant S_ .f32 0x7F800000#32
  let main_v7 : FVec F S384x512 .f32 := broadcastInDim S384x512 ![] bcast_S_S384x512 main_cst_1
  let main_v8 : IVec S384x512 1 := cmpf .olt main_v6 main_v7
  let main_v9 : FVec F S8x16x64 .f32 := Host.absf main_arg9
  let main_cst_2 : FVec F S_ .f32 := constant S_ .f32 0x7F800000#32
  let main_v10 : FVec F S8x16x64 .f32 := broadcastInDim S8x16x64 ![] bcast_S_S8x16x64 main_cst_2
  let main_v11 : IVec S8x16x64 1 := cmpf .olt main_v9 main_v10
  let main_v12 : FVec F S1024x64 .f32 := Host.absf main_arg11
  let main_cst_3 : FVec F S_ .f32 := constant S_ .f32 0x7F800000#32
  let main_v13 : FVec F S1024x64 .f32 := broadcastInDim S1024x64 ![] bcast_S_S1024x64 main_cst_3
  let main_v14 : IVec S1024x64 1 := cmpf .olt main_v12 main_v13
  let main_v15 : FVec F S64 .f32 := Host.absf main_arg12
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg15 main_v2 main_v5 main_v8 main_v11 main_v14 main_v17
-- ==== Kernel.lean ====
abbrev S4x384x32x32 : Shape := ⟨4, ![4, 384, 32, 32]⟩
abbrev S384x384 : Shape := ⟨2, ![384, 384]⟩
abbrev S384 : Shape := ⟨1, ![384]⟩
abbrev S384x512 : Shape := ⟨2, ![384, 512]⟩
abbrev S8x16x64 : Shape := ⟨3, ![8, 16, 64]⟩
abbrev S1024x64 : Shape := ⟨2, ![1024, 64]⟩
abbrev S64 : Shape := ⟨1, ![64]⟩
abbrev S8x1x64 : Shape := ⟨3, ![8, 1, 64]⟩
abbrev S384x24 : Shape := ⟨2, ![384, 24]⟩
abbrev S24 : Shape := ⟨1, ![24]⟩
abbrev S512x384 : Shape := ⟨2, ![512, 384]⟩
abbrev S4x32x32x384 : Shape := ⟨4, ![4, 32, 32, 384]⟩
abbrev S4x1024x384 : Shape := ⟨3, ![4, 1024, 384]⟩
abbrev S4x2x16x64 : Shape := ⟨4, ![4, 2, 16, 64]⟩
abbrev S4x16x2x64 : Shape := ⟨4, ![4, 16, 2, 64]⟩
abbrev S4x1x2048 : Shape := ⟨3, ![4, 1, 2048]⟩
abbrev S16x64x64 : Shape := ⟨3, ![16, 64, 64]⟩
abbrev S_ : Shape := ⟨0, ![]⟩
abbrev S16x2x64x2x64 : Shape := ⟨5, ![16, 2, 64, 2, 64]⟩
abbrev S1 : Shape := ⟨1, ![1]⟩
abbrev S2 : Shape := ⟨1, ![2]⟩
abbrev S2048x128 : Shape := ⟨2, ![2048, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x384 : Shape := ⟨2, ![1, 384]⟩
abbrev S1x24 : Shape := ⟨2, ![1, 24]⟩
abbrev S4x4x1024x128 : Shape := ⟨4, ![4, 4, 1024, 128]⟩
abbrev S4x4x1024x6 : Shape := ⟨4, ![4, 4, 1024, 6]⟩
abbrev S1x1024x384 : Shape := ⟨3, ![1, 1024, 384]⟩
abbrev S1x4x1024x128 : Shape := ⟨4, ![1, 4, 1024, 128]⟩
abbrev S1x4x1024x6 : Shape := ⟨4, ![1, 4, 1024, 6]⟩
abbrev S1024x384 : Shape := ⟨2, ![1024, 384]⟩
abbrev S1024 : Shape := ⟨1, ![1024]⟩
abbrev S1024x1 : Shape := ⟨2, ![1024, 1]⟩
abbrev S1024x512 : Shape := ⟨2, ![1024, 512]⟩
abbrev S1024x24 : Shape := ⟨2, ![1024, 24]⟩
abbrev S1024x128 : Shape := ⟨2, ![1024, 128]⟩
abbrev S1x1x1024x128 : Shape := ⟨4, ![1, 1, 1024, 128]⟩
abbrev S1024x6 : Shape := ⟨2, ![1024, 6]⟩
abbrev S1x1x1024x6 : Shape := ⟨4, ![1, 1, 1024, 6]⟩
abbrev S1x1x2048 : Shape := ⟨3, ![1, 1, 2048]⟩
abbrev S2x1x64 : Shape := ⟨3, ![2, 1, 64]⟩
abbrev S1024x65 : Shape := ⟨2, ![1024, 65]⟩
abbrev S65x64 : Shape := ⟨2, ![65, 64]⟩
abbrev S128x128 : Shape := ⟨2, ![128, 128]⟩
abbrev S64x128 : Shape := ⟨2, ![64, 128]⟩
abbrev S64x16x128 : Shape := ⟨3, ![64, 16, 128]⟩
abbrev S64x1x128 : Shape := ⟨3, ![64, 1, 128]⟩
abbrev S64x2048 : Shape := ⟨2, ![64, 2048]⟩
abbrev S1x2048 : Shape := ⟨2, ![1, 2048]⟩
abbrev S1x1x64 : Shape := ⟨3, ![1, 1, 64]⟩
abbrev S64x64 : Shape := ⟨2, ![64, 64]⟩
abbrev S1023x128 : Shape := ⟨2, ![1023, 128]⟩
abbrev S2x128 : Shape := ⟨2, ![2, 128]⟩
abbrev S1022x128 : Shape := ⟨2, ![1022, 128]⟩
abbrev S3x128 : Shape := ⟨2, ![3, 128]⟩
abbrev S1021x128 : Shape := ⟨2, ![1021, 128]⟩
abbrev S4x128 : Shape := ⟨2, ![4, 128]⟩
abbrev S1020x128 : Shape := ⟨2, ![1020, 128]⟩
abbrev S5x128 : Shape := ⟨2, ![5, 128]⟩
abbrev S1019x128 : Shape := ⟨2, ![1019, 128]⟩
abbrev S6x128 : Shape := ⟨2, ![6, 128]⟩
abbrev S1018x128 : Shape := ⟨2, ![1018, 128]⟩
abbrev S7x128 : Shape := ⟨2, ![7, 128]⟩
abbrev S1017x128 : Shape := ⟨2, ![1017, 128]⟩
abbrev S128x384 : Shape := ⟨2, ![128, 384]⟩

abbrev nBuf : Space → Nat
  | .hbm => 83
  | .vmem => 51
  | .smem => 0
  | _ => 0

abbrev bufTy : (tb : Table) → Fin (tcTables nBuf tb) → BufTy
  | .hbm, ⟨0, _⟩ => ⟨S4x384x32x32, .f32⟩
  | .hbm, ⟨1, _⟩ => ⟨S384x384, .f32⟩
  | .hbm, ⟨2, _⟩ => ⟨S384, .f32⟩
  | .hbm, ⟨3, _⟩ => ⟨S384x384, .f32⟩
  | .hbm, ⟨4, _⟩ => ⟨S384, .f32⟩
  | .hbm, ⟨5, _⟩ => ⟨S384, .f32⟩
  | .hbm, ⟨6, _⟩ => ⟨S384x512, .f32⟩
  | .hbm, ⟨7, _⟩ => ⟨S384x512, .f32⟩
  | .hbm, ⟨8, _⟩ => ⟨S384x512, .f32⟩
  | .hbm, ⟨9, _⟩ => ⟨S8x16x64, .f32⟩
  | .hbm, ⟨10, _⟩ => ⟨S8x16x64, .f32⟩
  | .hbm, ⟨11, _⟩ => ⟨S1024x64, .f32⟩
  | .hbm, ⟨12, _⟩ => ⟨S64, .f32⟩
  | .hbm, ⟨13, _⟩ => ⟨S1024x64, .f32⟩
  | .hbm, ⟨14, _⟩ => ⟨S64, .f32⟩
  | .hbm, ⟨15, _⟩ => ⟨S8x1x64, .f32⟩
  | .hbm, ⟨16, _⟩ => ⟨S8x1x64, .f32⟩
  | .hbm, ⟨17, _⟩ => ⟨S384x24, .f32⟩
  | .hbm, ⟨18, _⟩ => ⟨S24, .f32⟩
  | .hbm, ⟨19, _⟩ => ⟨S512x384, .f32⟩
  | .hbm, ⟨20, _⟩ => ⟨S4x32x32x384, .f32⟩
  | .hbm, ⟨21, _⟩ => ⟨S4x1024x384, .f32⟩
  | .hbm, ⟨22, _⟩ => ⟨S384x384, .f32⟩
  | .hbm, ⟨23, _⟩ => ⟨S384x384, .f32⟩
  | .hbm, ⟨24, _⟩ => ⟨S4x2x16x64, .f32⟩
  | .hbm, ⟨25, _⟩ => ⟨S4x16x2x64, .f32⟩
  | .hbm, ⟨26, _⟩ => ⟨S4x1x2048, .f32⟩
  | .hbm, ⟨27, _⟩ => ⟨S4x2x16x64, .f32⟩
  | .hbm, ⟨28, _⟩ => ⟨S4x16x2x64, .f32⟩
  | .hbm, ⟨29, _⟩ => ⟨S4x1x2048, .f32⟩
  | .hbm, ⟨30, _⟩ => ⟨S16x64x64, .f32⟩
  | .hbm, ⟨31, _⟩ => ⟨S_, .f32⟩
  | .hbm, ⟨32, _⟩ => ⟨S16x2x64x2x64, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S16x2x64x2x64, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S16x2x64x2x64, .f32⟩
  | .hbm, ⟨45, _⟩ => ⟨S2048x128, .f32⟩
  | .hbm, ⟨46, _⟩ => ⟨S16x64x64, .f32⟩
  | .hbm, ⟨47, _⟩ => ⟨S_, .f32⟩
  | .hbm, ⟨48, _⟩ => ⟨S16x2x64x2x64, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S16x2x64x2x64, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S16x2x64x2x64, .f32⟩
  | .hbm, ⟨61, _⟩ => ⟨S2048x128, .f32⟩
  | .hbm, ⟨62, _⟩ => ⟨S1x64, .f32⟩
  | .hbm, ⟨63, _⟩ => ⟨S2x64, .f32⟩
  | .hbm, ⟨64, _⟩ => ⟨S128, .f32⟩
  | .hbm, ⟨65, _⟩ => ⟨S1x128, .f32⟩
  | .hbm, ⟨66, _⟩ => ⟨S1x64, .f32⟩
  | .hbm, ⟨67, _⟩ => ⟨S2x64, .f32⟩
  | .hbm, ⟨68, _⟩ => ⟨S128, .f32⟩
  | .hbm, ⟨69, _⟩ => ⟨S1x128, .f32⟩
  | .hbm, ⟨70, _⟩ => ⟨S1x384, .f32⟩
  | .hbm, ⟨71, _⟩ => ⟨S1x384, .f32⟩
  | .hbm, ⟨72, _⟩ => ⟨S1x24, .f32⟩
  | .hbm, ⟨73, _⟩ => ⟨S4x1024x384, .f32⟩
  | .hbm, ⟨74, _⟩ => ⟨S4x4x1024x128, .f32⟩
  | .hbm, ⟨75, _⟩ => ⟨S4x4x1024x128, .f32⟩
  | .hbm, ⟨76, _⟩ => ⟨S4x4x1024x128, .f32⟩
  | .hbm, ⟨77, _⟩ => ⟨S4x4x1024x6, .f32⟩
  | .hbm, ⟨78, _⟩ => ⟨S4x4x1024x128, .f32⟩
  | .hbm, ⟨79, _⟩ => ⟨S1x384, .f32⟩
  | .hbm, ⟨80, _⟩ => ⟨S4x1024x384, .f32⟩
  | .hbm, ⟨81, _⟩ => ⟨S4x32x32x384, .f32⟩
  | .hbm, ⟨82, _⟩ => ⟨S4x384x32x32, .f32⟩
  | .local _ .vmem, ⟨0, _⟩ => ⟨S1x1024x384, .f32⟩
  | .local _ .vmem, ⟨1, _⟩ => ⟨S1x1024x384, .f32⟩
  | .local _ .vmem, ⟨2, _⟩ => ⟨S384x384, .f32⟩
  | .local _ .vmem, ⟨3, _⟩ => ⟨S1x384, .f32⟩
  | .local _ .vmem, ⟨4, _⟩ => ⟨S1x384, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x24, .f32⟩
  | .local _ .vmem, ⟨9, _⟩ => ⟨S1x24, .f32⟩
  | .local _ .vmem, ⟨10, _⟩ => ⟨S1x1024x384, .f32⟩
  | .local _ .vmem, ⟨11, _⟩ => ⟨S1x1024x384, .f32⟩
  | .local _ .vmem, ⟨12, _⟩ => ⟨S1x4x1024x128, .f32⟩
  | .local _ .vmem, ⟨13, _⟩ => ⟨S1x4x1024x128, .f32⟩
  | .local _ .vmem, ⟨14, _⟩ => ⟨S1x4x1024x128, .f32⟩
  | .local _ .vmem, ⟨15, _⟩ => ⟨S1x4x1024x128, .f32⟩
  | .local _ .vmem, ⟨16, _⟩ => ⟨S1x4x1024x128, .f32⟩
  | .local _ .vmem, ⟨17, _⟩ => ⟨S1x4x1024x128, .f32⟩
  | .local _ .vmem, ⟨18, _⟩ => ⟨S1x4x1024x6, .f32⟩
  | .local _ .vmem, ⟨19, _⟩ => ⟨S1x4x1024x6, .f32⟩
  | .local _ .vmem, ⟨20, _⟩ => ⟨S1x1x1024x128, .f32⟩
  | .local _ .vmem, ⟨21, _⟩ => ⟨S1x1x1024x128, .f32⟩
  | .local _ .vmem, ⟨22, _⟩ => ⟨S1x1x1024x128, .f32⟩
  | .local _ .vmem, ⟨23, _⟩ => ⟨S1x1x1024x128, .f32⟩
  | .local _ .vmem, ⟨24, _⟩ => ⟨S1x1x1024x128, .f32⟩
  | .local _ .vmem, ⟨25, _⟩ => ⟨S1x1x1024x128, .f32⟩
  | .local _ .vmem, ⟨26, _⟩ => ⟨S1x1x2048, .f32⟩
  | .local _ .vmem, ⟨27, _⟩ => ⟨S1x1x2048, .f32⟩
  | .local _ .vmem, ⟨28, _⟩ => ⟨S1x1x2048, .f32⟩
  | .local _ .vmem, ⟨29, _⟩ => ⟨S1x1x2048, .f32⟩
  | .local _ .vmem, ⟨30, _⟩ => ⟨S2048x128, .f32⟩
  | .local _ .vmem, ⟨31, _⟩ => ⟨S1x128, .f32⟩
  | .local _ .vmem, ⟨32, _⟩ => ⟨S2048x128, .f32⟩
  | .local _ .vmem, ⟨33, _⟩ => ⟨S1x128, .f32⟩
  | .local _ .vmem, ⟨34, _⟩ => ⟨S2x1x64, .f32⟩
  | .local _ .vmem, ⟨35, _⟩ => ⟨S2x1x64, .f32⟩
  | .local _ .vmem, ⟨36, _⟩ => ⟨S2x1x64, .f32⟩
  | .local _ .vmem, ⟨37, _⟩ => ⟨S2x1x64, .f32⟩
  | .local _ .vmem, ⟨38, _⟩ => ⟨S1x1x1024x6, .f32⟩
  | .local _ .vmem, ⟨39, _⟩ => ⟨S1x1x1024x6, .f32⟩
  | .local _ .vmem, ⟨40, _⟩ => ⟨S1x1x1024x128, .f32⟩
  | .local _ .vmem, ⟨41, _⟩ => ⟨S1x1x1024x128, .f32⟩
  | .local _ .vmem, ⟨42, _⟩ => ⟨S1x4x1024x128, .f32⟩
  | .local _ .vmem, ⟨43, _⟩ => ⟨S1x4x1024x128, .f32⟩
  | .local _ .vmem, ⟨44, _⟩ => ⟨S512x384, .f32⟩
  | .local _ .vmem, ⟨45, _⟩ => ⟨S384x384, .f32⟩
  | .local _ .vmem, ⟨46, _⟩ => ⟨S1x384, .f32⟩
  | .local _ .vmem, ⟨47, _⟩ => ⟨S1x1024x384, .f32⟩
  | .local _ .vmem, ⟨48, _⟩ => ⟨S1x1024x384, .f32⟩
  | .local _ .vmem, ⟨49, _⟩ => ⟨S1x1024x384, .f32⟩
  | .local _ .vmem, ⟨50, _⟩ => ⟨S1x1024x384, .f32⟩
  | _, _ => ⟨S4x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_c_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43_0 : Ref sig .tc := ⟨.hbm, 73, rfl⟩
abbrev main_v43_1 : Ref sig .tc := ⟨.hbm, 74, rfl⟩
abbrev main_v43_2 : Ref sig .tc := ⟨.hbm, 75, rfl⟩
abbrev main_v43_3 : Ref sig .tc := ⟨.hbm, 76, rfl⟩
abbrev main_v43_4 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg2_0 : Ref sig .tc := ⟨.vmem, 45, rfl⟩
abbrev cc2_stg3_0 : Ref sig .tc := ⟨.vmem, 46, rfl⟩
abbrev cc2_stg4_0 : Ref sig .tc := ⟨.vmem, 47, rfl⟩
abbrev cc2_stg4_1 : Ref sig .tc := ⟨.vmem, 48, rfl⟩
abbrev cc2_stg5_0 : Ref sig .tc := ⟨.vmem, 49, rfl⟩
abbrev cc2_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc2_sem0_0 : DmaSem sig := 42
abbrev cc2_sem0_1 : DmaSem sig := 43
abbrev cc2_sem1_0 : DmaSem sig := 44
abbrev cc2_sem2_0 : DmaSem sig := 45
abbrev cc2_sem3_0 : DmaSem sig := 46
abbrev cc2_sem4_0 : DmaSem sig := 47
abbrev cc2_sem4_1 : DmaSem sig := 48
abbrev cc2_sem5_0 : DmaSem sig := 49
abbrev cc2_sem5_1 : DmaSem sig := 50

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x1024x6 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S2048x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2048x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S2x1x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S2x1x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 2 → Memref sig .tc .vmem S1x1x1024x6 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S384x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1024x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1024x384 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S4x384x32x32 : Shape := ⟨4, ![4, 384, 32, 32]⟩
abbrev S384x384 : Shape := ⟨2, ![384, 384]⟩
abbrev S384 : Shape := ⟨1, ![384]⟩
abbrev S384x512 : Shape := ⟨2, ![384, 512]⟩
abbrev S8x16x64 : Shape := ⟨3, ![8, 16, 64]⟩
abbrev S1024x64 : Shape := ⟨2, ![1024, 64]⟩
abbrev S64 : Shape := ⟨1, ![64]⟩
abbrev S8x1x64 : Shape := ⟨3, ![8, 1, 64]⟩
abbrev S384x24 : Shape := ⟨2, ![384, 24]⟩
abbrev S24 : Shape := ⟨1, ![24]⟩
abbrev S512x384 : Shape := ⟨2, ![512, 384]⟩
abbrev S384x4x32x32 : Shape := ⟨4, ![384, 4, 32, 32]⟩
abbrev S1x384x1x1 : Shape := ⟨4, ![1, 384, 1, 1]⟩
abbrev S4x32x32x384 : Shape := ⟨4, ![4, 32, 32, 384]⟩
abbrev S4x1024x384 : Shape := ⟨3, ![4, 1024, 384]⟩
abbrev S_ : Shape := ⟨0, ![]⟩
abbrev S4x1024 : Shape := ⟨2, ![4, 1024]⟩
abbrev S4x1024x1 : Shape := ⟨3, ![4, 1024, 1]⟩
abbrev S1x1x384 : Shape := ⟨3, ![1, 1, 384]⟩
abbrev S4x1024x512 : Shape := ⟨3, ![4, 1024, 512]⟩
abbrev S4x1024x8x64 : Shape := ⟨4, ![4, 1024, 8, 64]⟩
abbrev S4x8x1024x64 : Shape := ⟨4, ![4, 8, 1024, 64]⟩
abbrev S1024 : Shape := ⟨1, ![1024]⟩
abbrev S4x8x64x16x64 : Shape := ⟨5, ![4, 8, 64, 16, 64]⟩
abbrev S1x8x1x16x64 : Shape := ⟨5, ![1, 8, 1, 16, 64]⟩
abbrev S4x8x64x1024 : Shape := ⟨4, ![4, 8, 64, 1024]⟩
abbrev S4x8x64x64 : Shape := ⟨4, ![4, 8, 64, 64]⟩
abbrev S1x1x1x64 : Shape := ⟨4, ![1, 1, 1, 64]⟩
abbrev S1x8x1x64 : Shape := ⟨4, ![1, 8, 1, 64]⟩
abbrev S4x8x1x64 : Shape := ⟨4, ![4, 8, 1, 64]⟩
abbrev S4x8x65x64 : Shape := ⟨4, ![4, 8, 65, 64]⟩
abbrev S4x8x1024x65 : Shape := ⟨4, ![4, 8, 1024, 65]⟩
abbrev S1 : Shape := ⟨1, ![1]⟩
abbrev S65 : Shape := ⟨1, ![65]⟩
abbrev S1024x1 : Shape := ⟨2, ![1024, 1]⟩
abbrev S1x65 : Shape := ⟨2, ![1, 65]⟩
abbrev S1024x65 : Shape := ⟨2, ![1024, 65]⟩
abbrev S1x1x1024x65 : Shape := ⟨4, ![1, 1, 1024, 65]⟩
abbrev S4x8x1024 : Shape := ⟨3, ![4, 8, 1024]⟩
abbrev S4x8x1024x1 : Shape := ⟨4, ![4, 8, 1024, 1]⟩
abbrev S4x8x1024x64x8 : Shape := ⟨5, ![4, 8, 1024, 64, 8]⟩
abbrev S4x8x1024x512 : Shape := ⟨4, ![4, 8, 1024, 512]⟩
abbrev S4x8x1024x2 : Shape := ⟨4, ![4, 8, 1024, 2]⟩
abbrev S1x1x1024x1 : Shape := ⟨4, ![1, 1, 1024, 1]⟩
abbrev S4x8x1024x3 : Shape := ⟨4, ![4, 8, 1024, 3]⟩
abbrev S4x8x512x2x64 : Shape := ⟨5, ![4, 8, 512, 2, 64]⟩
abbrev S4 : Shape := ⟨1, ![4]⟩
abbrev S4x1x1x1 : Shape := ⟨4, ![4, 1, 1, 1]⟩
abbrev S8 : Shape := ⟨1, ![8]⟩
abbrev S1x8x1x1 : Shape := ⟨4, ![1, 8, 1, 1]⟩
abbrev S4x8x1024x3x1 : Shape := ⟨5, ![4, 8, 1024, 3, 1]⟩
abbrev S4x8x1024x3x3 : Shape := ⟨5, ![4, 8, 1024, 3, 3]⟩
abbrev S4x8x1024x3x2x64 : Shape := ⟨6, ![4, 8, 1024, 3, 2, 64]⟩
abbrev S4x8x1024x6x64 : Shape := ⟨5, ![4, 8, 1024, 6, 64]⟩
abbrev S2 : Shape := ⟨1, ![2]⟩
abbrev S1x1x1x1x2 : Shape := ⟨5, ![1, 1, 1, 1, 2]⟩
abbrev S4x8x1024x3x2 : Shape := ⟨5, ![4, 8, 1024, 3, 2]⟩
abbrev S4x8x1024x6 : Shape := ⟨4, ![4, 8, 1024, 6]⟩
abbrev S1x8 : Shape := ⟨2, ![1, 8]⟩
abbrev S1024x8 : Shape := ⟨2, ![1024, 8]⟩
abbrev S1024x8x1 : Shape := ⟨3, ![1024, 8, 1]⟩
abbrev S4x8x1024x8x64 : Shape := ⟨5, ![4, 8, 1024, 8, 64]⟩
abbrev S4x8x1024x8 : Shape := ⟨4, ![4, 8, 1024, 8]⟩
abbrev S1x1x1024x8 : Shape := ⟨4, ![1, 1, 1024, 8]⟩
abbrev S4x1024x24 : Shape := ⟨3, ![4, 1024, 24]⟩
abbrev S1x1x24 : Shape := ⟨3, ![1, 1, 24]⟩
abbrev S4x1024x8x3 : Shape := ⟨4, ![4, 1024, 8, 3]⟩

abbrev nBuf : Space → Nat
  | .hbm => 343
  | .vmem => 0
  | .smem => 0
  | _ => 0

abbrev hbmTy0_0 (i : Nat) : BufTy := match i % 128 with
  | 0 => ⟨S4x384x32x32, .f32⟩
  | 1 => ⟨S384x384, .f32⟩
  | 2 => ⟨S384, .f32⟩
  | 3 => ⟨S384x384, .f32⟩
  | 4 => ⟨S384, .f32⟩
  | 5 => ⟨S384, .f32⟩
  | 6 => ⟨S384x512, .f32⟩
  | 7 => ⟨S384x512, .f32⟩
  | 8 => ⟨S384x512, .f32⟩
  | 9 => ⟨S8x16x64, .f32⟩
  | 10 => ⟨S8x16x64, .f32⟩
  | 11 => ⟨S1024x64, .f32⟩
  | 12 => ⟨S64, .f32⟩
  | 13 => ⟨S1024x64, .f32⟩
  | 14 => ⟨S64, .f32⟩
  | 15 => ⟨S8x1x64, .f32⟩
  | 16 => ⟨S8x1x64, .f32⟩
  | 17 => ⟨S384x24, .f32⟩
  | 18 => ⟨S24, .f32⟩
  | 19 => ⟨S512x384, .f32⟩
  | 20 => ⟨S384x4x32x32, .f32⟩
  | 21 => ⟨S4x384x32x32, .f32⟩
  | 22 => ⟨S1x384x1x1, .f32⟩
  | 23 => ⟨S4x384x32x32, .f32⟩
  | 24 => ⟨S4x384x32x32, .f32⟩
  | 25 => ⟨S4x32x32x384, .f32⟩
  | 26 => ⟨S4x1024x384, .f32⟩
  | 27 => ⟨S4x1024x384, .f32⟩
  | 28 => ⟨S_, .f32⟩
  | 29 => ⟨S4x1024, .f32⟩
  | 30 => ⟨S4x1024x1, .f32⟩
  | 31 => ⟨S_, .f32⟩
  | 32 => ⟨S4x1024x1, .f32⟩
  | 33 => ⟨S4x1024x1, .f32⟩
  | 34 => ⟨S_, .f32⟩
  | 35 => ⟨S4x1024x1, .f32⟩
  | 36 => ⟨S4x1024x1, .f32⟩
  | 37 => ⟨S4x1024x1, .f32⟩
  | 38 => ⟨S4x1024x384, .f32⟩
  | 39 => ⟨S4x1024x384, .f32⟩
  | 40 => ⟨S1x1x384, .f32⟩
  | 41 => ⟨S4x1024x384, .f32⟩
  | 42 => ⟨S4x1024x384, .f32⟩
  | 43 => ⟨S4x1024x512, .f32⟩
  | 44 => ⟨S4x1024x8x64, .f32⟩
  | 45 => ⟨S4x8x1024x64, .f32⟩
  | 46 => ⟨S4x1024x512, .f32⟩
  | 47 => ⟨S4x1024x8x64, .f32⟩
  | 48 => ⟨S4x8x1024x64, .f32⟩
  | 49 => ⟨S4x1024x512, .f32⟩
  | 50 => ⟨S4x1024x8x64, .f32⟩
  | 51 => ⟨S4x8x1024x64, .f32⟩
  | 52 => ⟨S1024, .i32⟩
  | 53 => ⟨S4x8x64x16x64, .f32⟩
  | 54 => ⟨S1x8x1x16x64, .f32⟩
  | 55 => ⟨S4x8x64x16x64, .f32⟩
  | 56 => ⟨S4x8x64x16x64, .f32⟩
  | 57 => ⟨S4x8x64x16x64, .f32⟩
  | 58 => ⟨S1x8x1x16x64, .f32⟩
  | 59 => ⟨S4x8x64x16x64, .f32⟩
  | 60 => ⟨S4x8x64x16x64, .f32⟩
  | 61 => ⟨S4x8x64x1024, .f32⟩
  | 62 => ⟨S4x8x64x64, .f32⟩
  | 63 => ⟨S1x1x1x64, .f32⟩
  | 64 => ⟨S4x8x64x64, .f32⟩
  | 65 => ⟨S4x8x64x64, .f32⟩
  | 66 => ⟨S4x8x64x1024, .f32⟩
  | 67 => ⟨S4x8x64x64, .f32⟩
  | 68 => ⟨S1x1x1x64, .f32⟩
  | 69 => ⟨S4x8x64x64, .f32⟩
  | 70 => ⟨S4x8x64x64, .f32⟩
  | 71 => ⟨S1x8x1x64, .f32⟩
  | 72 => ⟨S4x8x1x64, .f32⟩
  | 73 => ⟨S4x8x65x64, .f32⟩
  | 74 => ⟨S1x8x1x64, .f32⟩
  | 75 => ⟨S4x8x1x64, .f32⟩
  | 76 => ⟨S4x8x65x64, .f32⟩
  | 77 => ⟨S4x8x1024x65, .f32⟩
  | 78 => ⟨S_, .f32⟩
  | 79 => ⟨S4x8x1024x65, .f32⟩
  | 80 => ⟨S4x8x1024x65, .f32⟩
  | 81 => ⟨S_, .i32⟩
  | 82 => ⟨S1, .i32⟩
  | 83 => ⟨S64, .i32⟩
  | 84 => ⟨S_, .i32⟩
  | 85 => ⟨S64, .i32⟩
  | 86 => ⟨S64, .i32⟩
  | 87 => ⟨S_, .i32⟩
  | 88 => ⟨S64, .i32⟩
  | 89 => ⟨S64, .i32⟩
  | 90 => ⟨S_, .i32⟩
  | 91 => ⟨S64, .i32⟩
  | 92 => ⟨S64, .i32⟩
  | 93 => ⟨S1, .i32⟩
  | 94 => ⟨S65, .i32⟩
  | 95 => ⟨S1024x1, .i32⟩
  | 96 => ⟨S1x65, .i32⟩
  | 97 => ⟨S1024x65, .i32⟩
  | 98 => ⟨S1024x65, .i32⟩
  | 99 => ⟨S1024x65, .i1⟩
  | 100 => ⟨S1x1x1024x65, .i1⟩
  | 101 => ⟨S_, .f32⟩
  | 102 => ⟨S_, .f32⟩
  | 103 => ⟨S4x8x1024x65, .i1⟩
  | 104 => ⟨S4x8x1024x65, .f32⟩
  | 105 => ⟨S4x8x1024x65, .f32⟩
  | 106 => ⟨S_, .f32⟩
  | 107 => ⟨S4x8x1024, .f32⟩
  | 108 => ⟨S_, .f32⟩
  | 109 => ⟨S4x8x1024, .f32⟩
  | 110 => ⟨S4x8x1024, .f32⟩
  | 111 => ⟨S4x8x1024x1, .f32⟩
  | 112 => ⟨S4x8x1024x65, .f32⟩
  | 113 => ⟨S4x8x1024x65, .f32⟩
  | 114 => ⟨S4x8x1024x65, .f32⟩
  | 115 => ⟨S_, .f32⟩
  | 116 => ⟨S4x8x1024, .f32⟩
  | 117 => ⟨S4x8x1024x1, .f32⟩
  | 118 => ⟨S4x8x1024x65, .f32⟩
  | 119 => ⟨S4x8x1024x65, .f32⟩
  | 120 => ⟨S4x8x1024x64, .f32⟩
  | 121 => ⟨S4x8x1024x64, .f32⟩
  | 122 => ⟨S4x8x1024x64x8, .f32⟩
  | 123 => ⟨S4x8x1024x512, .f32⟩
  | 124 => ⟨S4x8x1024x2, .f32⟩
  | 125 => ⟨S4x8x1024x2, .i32⟩
  | 126 => ⟨S_, .i32⟩
  | 127 => ⟨S_, .i32⟩
  | _ => ⟨S4x384x32x32, .f32⟩

abbrev hbmTy0_1 (i : Nat) : BufTy := match i % 128 with
  | 0 => ⟨S1024, .i32⟩
  | 1 => ⟨S1024, .i32⟩
  | 2 => ⟨S1024, .i32⟩
  | 3 => ⟨S_, .i32⟩
  | 4 => ⟨S1024, .i32⟩
  | 5 => ⟨S1024, .i1⟩
  | 6 => ⟨S1024, .i32⟩
  | 7 => ⟨S1024, .i32⟩
  | 8 => ⟨S_, .i32⟩
  | 9 => ⟨S1024, .i32⟩
  | 10 => ⟨S1024, .i1⟩
  | 11 => ⟨S1024, .i1⟩
  | 12 => ⟨S_, .i32⟩
  | 13 => ⟨S1024, .i32⟩
  | 14 => ⟨S1024, .i32⟩
  | 15 => ⟨S1024, .i32⟩
  | 16 => ⟨S1x1x1024x1, .i32⟩
  | 17 => ⟨S4x8x1024x1, .i32⟩
  | 18 => ⟨S4x8x1024x3, .i32⟩
  | 19 => ⟨S4x8x512x2x64, .f32⟩
  | 20 => ⟨S4x8x512x2x64, .f32⟩
  | 21 => ⟨S4, .i32⟩
  | 22 => ⟨S4x1x1x1, .i32⟩
  | 23 => ⟨S8, .i32⟩
  | 24 => ⟨S1x8x1x1, .i32⟩
  | 25 => ⟨S_, .i32⟩
  | 26 => ⟨S4x1x1x1, .i32⟩
  | 27 => ⟨S4x1x1x1, .i1⟩
  | 28 => ⟨S_, .i32⟩
  | 29 => ⟨S4x1x1x1, .i32⟩
  | 30 => ⟨S4x1x1x1, .i32⟩
  | 31 => ⟨S4x1x1x1, .i32⟩
  | 32 => ⟨S_, .i32⟩
  | 33 => ⟨S1x8x1x1, .i32⟩
  | 34 => ⟨S1x8x1x1, .i1⟩
  | 35 => ⟨S_, .i32⟩
  | 36 => ⟨S1x8x1x1, .i32⟩
  | 37 => ⟨S1x8x1x1, .i32⟩
  | 38 => ⟨S1x8x1x1, .i32⟩
  | 39 => ⟨S_, .i32⟩
  | 40 => ⟨S4x8x1024x3, .i32⟩
  | 41 => ⟨S4x8x1024x3, .i1⟩
  | 42 => ⟨S_, .i32⟩
  | 43 => ⟨S4x8x1024x3, .i32⟩
  | 44 => ⟨S4x8x1024x3, .i32⟩
  | 45 => ⟨S4x8x1024x3, .i32⟩
  | 46 => ⟨S4x8x1024x3, .i32⟩
  | 47 => ⟨S4x8x1024x3, .i32⟩
  | 48 => ⟨S4x8x1024x3x1, .i32⟩
  | 49 => ⟨S4x8x1024x3x1, .i32⟩
  | 50 => ⟨S4x8x1024x3x1, .i32⟩
  | 51 => ⟨S4x8x1024x3x3, .i32⟩
  | 52 => ⟨S4x8x1024x3x2x64, .f32⟩
  | 53 => ⟨S4x8x1024x6x64, .f32⟩
  | 54 => ⟨S_, .i32⟩
  | 55 => ⟨S4x1x1x1, .i32⟩
  | 56 => ⟨S4x1x1x1, .i1⟩
  | 57 => ⟨S_, .i32⟩
  | 58 => ⟨S4x1x1x1, .i32⟩
  | 59 => ⟨S4x1x1x1, .i32⟩
  | 60 => ⟨S4x1x1x1, .i32⟩
  | 61 => ⟨S_, .i32⟩
  | 62 => ⟨S1x8x1x1, .i32⟩
  | 63 => ⟨S1x8x1x1, .i1⟩
  | 64 => ⟨S_, .i32⟩
  | 65 => ⟨S1x8x1x1, .i32⟩
  | 66 => ⟨S1x8x1x1, .i32⟩
  | 67 => ⟨S1x8x1x1, .i32⟩
  | 68 => ⟨S_, .i32⟩
  | 69 => ⟨S4x8x1024x3, .i32⟩
  | 70 => ⟨S4x8x1024x3, .i1⟩
  | 71 => ⟨S_, .i32⟩
  | 72 => ⟨S4x8x1024x3, .i32⟩
  | 73 => ⟨S4x8x1024x3, .i32⟩
  | 74 => ⟨S4x8x1024x3, .i32⟩
  | 75 => ⟨S4x8x1024x3, .i32⟩
  | 76 => ⟨S4x8x1024x3, .i32⟩
  | 77 => ⟨S4x8x1024x3x1, .i32⟩
  | 78 => ⟨S4x8x1024x3x1, .i32⟩
  | 79 => ⟨S4x8x1024x3x1, .i32⟩
  | 80 => ⟨S4x8x1024x3x3, .i32⟩
  | 81 => ⟨S4x8x1024x3x2x64, .f32⟩
  | 82 => ⟨S4x8x1024x6x64, .f32⟩
  | 83 => ⟨S4x8x1024x3x1, .i32⟩
  | 84 => ⟨S_, .i32⟩
  | 85 => ⟨S4x8x1024x3x1, .i32⟩
  | 86 => ⟨S4x8x1024x3x1, .i32⟩
  | 87 => ⟨S2, .i32⟩
  | 88 => ⟨S1x1x1x1x2, .i32⟩
  | 89 => ⟨S4x8x1024x3x2, .i32⟩
  | 90 => ⟨S4x8x1024x3x2, .i32⟩
  | 91 => ⟨S4x8x1024x3x2, .i32⟩
  | 92 => ⟨S4x8x1024x6, .i32⟩
  | 93 => ⟨S1x1x1024x1, .i32⟩
  | 94 => ⟨S4x8x1024x6, .i32⟩
  | 95 => ⟨S4x8x1024x6, .i1⟩
  | 96 => ⟨S4x8x1024x6, .f32⟩
  | 97 => ⟨S_, .f32⟩
  | 98 => ⟨S4x8x1024x6, .f32⟩
  | 99 => ⟨S4x8x1024x6, .f32⟩
  | 100 => ⟨S_, .f32⟩
  | 101 => ⟨S_, .f32⟩
  | 102 => ⟨S4x8x1024x6, .f32⟩
  | 103 => ⟨S4x8x1024x6, .f32⟩
  | 104 => ⟨S_, .f32⟩
  | 105 => ⟨S4x8x1024, .f32⟩
  | 106 => ⟨S_, .f32⟩
  | 107 => ⟨S4x8x1024, .f32⟩
  | 108 => ⟨S4x8x1024, .f32⟩
  | 109 => ⟨S4x8x1024x1, .f32⟩
  | 110 => ⟨S4x8x1024x6, .f32⟩
  | 111 => ⟨S4x8x1024x6, .f32⟩
  | 112 => ⟨S4x8x1024x6, .f32⟩
  | 113 => ⟨S_, .f32⟩
  | 114 => ⟨S4x8x1024, .f32⟩
  | 115 => ⟨S4x8x1024x1, .f32⟩
  | 116 => ⟨S4x8x1024x6, .f32⟩
  | 117 => ⟨S4x8x1024x6, .f32⟩
  | 118 => ⟨S4x8x1024x64, .f32⟩
  | 119 => ⟨S8, .i32⟩
  | 120 => ⟨S1024x1, .i32⟩
  | 121 => ⟨S1x8, .i32⟩
  | 122 => ⟨S1024x8, .i32⟩
  | 123 => ⟨S1024x8, .i32⟩
  | 124 => ⟨S1024x8, .i32⟩
  | 125 => ⟨S_, .i32⟩
  | 126 => ⟨S1024x8, .i32⟩
  | 127 => ⟨S1024x8, .i1⟩
  | _ => ⟨S4x384x32x32, .f32⟩

abbrev hbmTy0_2 (i : Nat) : BufTy := match i % 128 with
  | 0 => ⟨S_, .i32⟩
  | 1 => ⟨S_, .i32⟩
  | 2 => ⟨S_, .i32⟩
  | 3 => ⟨S1024x8, .i32⟩
  | 4 => ⟨S1024x8, .i32⟩
  | 5 => ⟨S_, .i32⟩
  | 6 => ⟨S1024x8, .i32⟩
  | 7 => ⟨S1024x8, .i32⟩
  | 8 => ⟨S_, .i32⟩
  | 9 => ⟨S1024x8, .i32⟩
  | 10 => ⟨S1024x8, .i1⟩
  | 11 => ⟨S_, .i32⟩
  | 12 => ⟨S1024x8, .i32⟩
  | 13 => ⟨S1024x8, .i32⟩
  | 14 => ⟨S1024x8, .i32⟩
  | 15 => ⟨S1024x8x1, .i32⟩
  | 16 => ⟨S4x8x1024x8x64, .f32⟩
  | 17 => ⟨S_, .i32⟩
  | 18 => ⟨S1024x8, .i32⟩
  | 19 => ⟨S1024x8, .i1⟩
  | 20 => ⟨S_, .i32⟩
  | 21 => ⟨S1024x8, .i32⟩
  | 22 => ⟨S1024x8, .i32⟩
  | 23 => ⟨S1024x8, .i32⟩
  | 24 => ⟨S1024x8x1, .i32⟩
  | 25 => ⟨S4x8x1024x8x64, .f32⟩
  | 26 => ⟨S4x8x1024x8, .f32⟩
  | 27 => ⟨S_, .f32⟩
  | 28 => ⟨S4x8x1024x8, .f32⟩
  | 29 => ⟨S4x8x1024x8, .f32⟩
  | 30 => ⟨S1x1x1024x8, .i1⟩
  | 31 => ⟨S_, .f32⟩
  | 32 => ⟨S_, .f32⟩
  | 33 => ⟨S4x8x1024x8, .i1⟩
  | 34 => ⟨S4x8x1024x8, .f32⟩
  | 35 => ⟨S4x8x1024x8, .f32⟩
  | 36 => ⟨S_, .f32⟩
  | 37 => ⟨S4x8x1024, .f32⟩
  | 38 => ⟨S_, .f32⟩
  | 39 => ⟨S4x8x1024, .f32⟩
  | 40 => ⟨S4x8x1024, .f32⟩
  | 41 => ⟨S4x8x1024x1, .f32⟩
  | 42 => ⟨S4x8x1024x8, .f32⟩
  | 43 => ⟨S4x8x1024x8, .f32⟩
  | 44 => ⟨S4x8x1024x8, .f32⟩
  | 45 => ⟨S_, .f32⟩
  | 46 => ⟨S4x8x1024, .f32⟩
  | 47 => ⟨S4x8x1024x1, .f32⟩
  | 48 => ⟨S4x8x1024x8, .f32⟩
  | 49 => ⟨S4x8x1024x8, .f32⟩
  | 50 => ⟨S4x8x1024x64, .f32⟩
  | 51 => ⟨S4x1024x24, .f32⟩
  | 52 => ⟨S1x1x24, .f32⟩
  | 53 => ⟨S4x1024x24, .f32⟩
  | 54 => ⟨S4x1024x24, .f32⟩
  | 55 => ⟨S4x1024x24, .f32⟩
  | 56 => ⟨S4x1024x24, .f32⟩
  | 57 => ⟨S_, .f32⟩
  | 58 => ⟨S4x1024x24, .f32⟩
  | 59 => ⟨S4x1024x24, .f32⟩
  | 60 => ⟨S_, .f32⟩
  | 61 => ⟨S4x1024x24, .f32⟩
  | 62 => ⟨S4x1024x24, .f32⟩
  | 63 => ⟨S4x1024x8x3, .f32⟩
  | 64 => ⟨S4x8x1024x3, .f32⟩
  | 65 => ⟨S4x8x1024x1, .f32⟩
  | 66 => ⟨S4x8x1024x64, .f32⟩
  | 67 => ⟨S4x8x1024x64, .f32⟩
  | 68 => ⟨S4x8x1024x1, .f32⟩
  | 69 => ⟨S4x8x1024x64, .f32⟩
  | 70 => ⟨S4x8x1024x64, .f32⟩
  | 71 => ⟨S4x8x1024x64, .f32⟩
  | 72 => ⟨S4x8x1024x1, .f32⟩
  | 73 => ⟨S4x8x1024x64, .f32⟩
  | 74 => ⟨S4x8x1024x64, .f32⟩
  | 75 => ⟨S4x8x1024x64, .f32⟩
  | 76 => ⟨S4x1024x8x64, .f32⟩
  | 77 => ⟨S4x1024x512, .f32⟩
  | 78 => ⟨S4x1024x384, .f32⟩
  | 79 => ⟨S4x32x32x384, .f32⟩
  | 80 => ⟨S4x384x32x32, .f32⟩
  | 81 => ⟨S384x4x32x32, .f32⟩
  | 82 => ⟨S4x384x32x32, .f32⟩
  | 83 => ⟨S1x384x1x1, .f32⟩
  | 84 => ⟨S4x384x32x32, .f32⟩
  | 85 => ⟨S4x384x32x32, .f32⟩
  | 86 => ⟨S4x384x32x32, .f32⟩
  | _ => ⟨S4x384x32x32, .f32⟩

abbrev hbmTy (i : Nat) : BufTy := match i / 128 with
  | 0 => hbmTy0_0 i
  | 1 => hbmTy0_1 i
  | 2 => hbmTy0_2 i
  | _ => ⟨S4x384x32x32, .f32⟩

abbrev bufTy : (tb : Table) → Fin (tcTables nBuf tb) → BufTy
  | .hbm, ⟨i, _⟩ => hbmTy i
  | _, _ => ⟨S4x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_2 : Ref sig .tc := ⟨.hbm, 78, rfl⟩
abbrev main_v55 : Ref sig .tc := ⟨.hbm, 79, rfl⟩
abbrev main_v56 : Ref sig .tc := ⟨.hbm, 80, rfl⟩
abbrev main_c : Ref sig .tc := ⟨.hbm, 81, rfl⟩
abbrev main_v57 : Ref sig .tc := ⟨.hbm, 82, rfl⟩
abbrev main_v58 : Ref sig .tc := ⟨.hbm, 83, rfl⟩
abbrev main_c_3 : Ref sig .tc := ⟨.hbm, 84, rfl⟩
abbrev main_v59 : Ref sig .tc := ⟨.hbm, 85, rfl⟩
abbrev main_v60 : Ref sig .tc := ⟨.hbm, 86, rfl⟩
abbrev main_c_4 : Ref sig .tc := ⟨.hbm, 87, rfl⟩
abbrev main_v61 : Ref sig .tc := ⟨.hbm, 88, rfl⟩
abbrev main_v62 : Ref sig .tc := ⟨.hbm, 89, rfl⟩
abbrev main_c_5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_cst_8 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_9 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_values : Ref sig .tc := ⟨.hbm, 124, rfl⟩
abbrev main_indices : Ref sig .tc := ⟨.hbm, 125, rfl⟩
abbrev main_c_10 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_v8 : Ref sig .tc := ⟨.hbm, 135, rfl⟩
abbrev main_call1_c : Ref sig .tc := ⟨.hbm, 136, rfl⟩
abbrev main_call1_v9 : Ref sig .tc := ⟨.hbm, 137, rfl⟩
abbrev main_call1_v10 : Ref sig .tc := ⟨.hbm, 138, rfl⟩
abbrev main_call1_v11 : Ref sig .tc := ⟨.hbm, 139, rfl⟩
abbrev main_call1_c_0 : Ref sig .tc := ⟨.hbm, 140, rfl⟩
abbrev main_call1_v12 : Ref sig .tc := ⟨.hbm, 141, rfl⟩
abbrev main_call1_v13 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_11 : Ref sig .tc := ⟨.hbm, 153, rfl⟩
abbrev main_v99 : Ref sig .tc := ⟨.hbm, 154, rfl⟩
abbrev main_v100 : Ref sig .tc := ⟨.hbm, 155, rfl⟩
abbrev main_c_12 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_c_13 : Ref sig .tc := ⟨.hbm, 160, rfl⟩
abbrev main_v104 : Ref sig .tc := ⟨.hbm, 161, rfl⟩
abbrev main_v105 : Ref sig .tc := ⟨.hbm, 162, rfl⟩
abbrev main_c_14 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_c_15 : Ref sig .tc := ⟨.hbm, 167, rfl⟩
abbrev main_v109 : Ref sig .tc := ⟨.hbm, 168, rfl⟩
abbrev main_v110 : Ref sig .tc := ⟨.hbm, 169, rfl⟩
abbrev main_c_16 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_c_17 : Ref sig .tc := ⟨.hbm, 182, rfl⟩
abbrev main_v122 : Ref sig .tc := ⟨.hbm, 183, rfl⟩
abbrev main_v123 : Ref sig .tc := ⟨.hbm, 184, rfl⟩
abbrev main_c_18 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_19 : Ref sig .tc := ⟨.hbm, 189, rfl⟩
abbrev main_v127 : Ref sig .tc := ⟨.hbm, 190, rfl⟩
abbrev main_v128 : Ref sig .tc := ⟨.hbm, 191, rfl⟩
abbrev main_c_20 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_c_21 : Ref sig .tc := ⟨.hbm, 196, rfl⟩
abbrev main_v132 : Ref sig .tc := ⟨.hbm, 197, rfl⟩
abbrev main_v133 : Ref sig .tc := ⟨.hbm, 198, rfl⟩
abbrev main_c_22 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_c_23 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_24 : Ref sig .tc := ⟨.hbm, 225, rfl⟩
abbrev main_v158 : Ref sig .tc := ⟨.hbm, 226, rfl⟩
abbrev main_v159 : Ref sig .tc := ⟨.hbm, 227, rfl⟩
abbrev main_cst_25 : Ref sig .tc := ⟨.hbm, 228, rfl⟩
abbrev main_call2_v0 : Ref sig .tc := ⟨.hbm, 229, rfl⟩
abbrev main_call2_v1 : Ref sig .tc := ⟨.hbm, 230, rfl⟩
abbrev main_v160 : Ref sig .tc := ⟨.hbm, 231, rfl⟩
abbrev main_cst_26 : Ref sig .tc := ⟨.hbm, 232, rfl⟩
abbrev main_v161 : Ref sig .tc := ⟨.hbm, 233, rfl⟩
abbrev main_cst_27 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_28 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_c_29 : Ref sig .tc := ⟨.hbm, 253, rfl⟩
abbrev main_v179 : Ref sig .tc := ⟨.hbm, 254, rfl⟩
abbrev main_v180 : Ref sig .tc := ⟨.hbm, 255, rfl⟩
abbrev main_c_30 : Ref sig .tc := ⟨.hbm, 256, rfl⟩
abbrev main_c_31 : Ref sig .tc := ⟨.hbm, 257, rfl⟩
abbrev main_call3_v0 : Ref sig .tc := ⟨.hbm, 258, rfl⟩
abbrev main_call3_v1 : Ref sig .tc := ⟨.hbm, 259, rfl⟩
abbrev main_call3_v2 : Ref sig .tc := ⟨.hbm, 260, rfl⟩
abbrev main_call3_v3 : Ref sig .tc := ⟨.hbm, 261, rfl⟩
abbrev main_call3_v4 : Ref sig .tc := ⟨.hbm, 262, rfl⟩
abbrev main_v181 : Ref sig .tc := ⟨.hbm, 263, rfl⟩
abbrev main_c_32 : Ref sig .tc := ⟨.hbm, 264, rfl⟩
abbrev main_v182 : Ref sig .tc := ⟨.hbm, 265, rfl⟩
abbrev main_v183 : Ref sig .tc := ⟨.hbm, 266, rfl⟩
abbrev main_c_33 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_c_34 : Ref sig .tc := ⟨.hbm, 273, rfl⟩
abbrev main_v189 : Ref sig .tc := ⟨.hbm, 274, rfl⟩
abbrev main_v190 : Ref sig .tc := ⟨.hbm, 275, rfl⟩
abbrev main_c_35 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_cst_36 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_cst_37 : Ref sig .tc := ⟨.hbm, 287, rfl⟩
abbrev main_call4_v0 : Ref sig .tc := ⟨.hbm, 288, rfl⟩
abbrev main_call4_v1 : Ref sig .tc := ⟨.hbm, 289, rfl⟩
abbrev main_call4_v2 : Ref sig .tc := ⟨.hbm, 290, rfl⟩
abbrev main_v200 : Ref sig .tc := ⟨.hbm, 291, rfl⟩
abbrev main_cst_38 : Ref sig .tc := ⟨.hbm, 292, rfl⟩
abbrev main_v201 : Ref sig .tc := ⟨.hbm, 293, rfl⟩
abbrev main_cst_39 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_cst_40 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_cst_41 : Ref sig .tc := ⟨.hbm, 313, rfl⟩
abbrev main_v219 : Ref sig .tc := ⟨.hbm, 314, rfl⟩
abbrev main_v220 : Ref sig .tc := ⟨.hbm, 315, rfl⟩
abbrev main_cst_42 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩

abbrev nD : Nat := 1
abbrev τ : Topo := Topo.v7x

variable {F : FTy → Type} [FloatOps F]
-- ==== Proof.Nsa.Spec.lean ====
/-
  What one head of the attention computes for one query row, over the real numbers: three weighted means of value rows,
  one over the compressed keys, one over the positions that the selection picks, one over the sliding window. The weights
  are exponentials of scaled scores, without any shift by a maximum.
-/
module

public import Idealize.ShloMosaic.PureOps.Ideal

@[expose] public section

noncomputable section

namespace Cert.Nsa

/-- The scaled score of a query row against a key row. -/
def score (a b : Fin 64 → ℝ) : ℝ := (∑ d, a d * b d) * (1 / 8)

/-- The mean of `v` under the weights `w`, which are divided by their sum. -/
def wmean {n : ℕ} (w : Fin n → ℝ) (v : Fin n → EReal) : EReal := ∑ t, ((w t / ∑ l, w l : ℝ) : EReal) * v t

/-- The weight of compressed key `j` (0 is the memory key) for query row `i`: zero where the block is not complete yet. -/
def cw (q : Fin 64 → ℝ) (ck : Fin 65 → Fin 64 → ℝ) (i : Fin 1024) (j : Fin 65) : ℝ :=
  if 16 * j.val ≤ i.val + 1 then Real.exp (score q (ck j)) else 0

/-- The coarse branch: the mean of the compressed values. -/
def cOut (q : Fin 64 → ℝ) (ck : Fin 65 → Fin 64 → ℝ) (cv : Fin 65 → Fin 64 → EReal) (i : Fin 1024) (d : Fin 64) : EReal :=
  wmean (cw q ck i) (fun j => cv j d)

/-- The set of the positions at which `w` is largest is not empty. -/
theorem tops_nonempty (w : Fin 64 → ℝ) : (Finset.univ.filter fun J => ∀ j, w j ≤ w J).Nonempty := by
  obtain ⟨J, -, hJ⟩ := Finset.exists_max_image Finset.univ w ⟨0, Finset.mem_univ 0⟩
  exact ⟨J, by simpa using fun j => hJ j (Finset.mem_univ j)⟩

/-- The first position at which `w` is largest. -/
def pick (w : Fin 64 → ℝ) : Fin 64 := (Finset.univ.filter fun J => ∀ j, w j ≤ w J).min' (tops_nonempty w)

/-- No entry exceeds the one at `pick w`. -/
theorem le_pick (w : Fin 64 → ℝ) (j : Fin 64) : w j ≤ w (pick w) := by
  have h := Finset.min'_mem _ (tops_nonempty w)
  exact (Finset.mem_filter.1 h).2 j

/-- Every entry before `pick w` is smaller. -/
theorem lt_pick (w : Fin 64 → ℝ) (j : Fin 64) (h : j < pick w) : w j < w (pick w) := by
  by_contra hn
  have hj : j ∈ Finset.univ.filter fun J => ∀ j, w j ≤ w J :=
    Finset.mem_filter.2 ⟨Finset.mem_univ j, fun l => (le_pick w l).trans (not_lt.1 hn)⟩
  exact absurd (Finset.min'_le _ j hj) (not_le.2 h)

/-- A position with those two properties is `pick w`. -/
theorem pick_unique (w : Fin 64 → ℝ) (J : Fin 64) (h1 : ∀ j, w j ≤ w J) (h2 : ∀ j, j < J → w j < w J) : pick w = J := by
  rcases lt_trichotomy (pick w) J with h | h | h
  · exact absurd (le_pick w J) (not_le.2 (h2 _ h))
  · exact h
  · exact absurd (h1 (pick w)) (not_le.2 (lt_pick w _ h))

/-- A positive factor does not move the pick. -/
theorem pick_smul (w w' : Fin 64 → ℝ) (a : ℝ) (ha : 0 < a) (h : ∀ j, w' j = w j * a) : pick w' = pick w := by
  refine pick_unique _ _ (fun j => ?_) (fun j hj => ?_)
  · rw [h, h]; exact mul_le_mul_of_nonneg_right (le_pick w j) ha.le
  · rw [h, h]; exact mul_lt_mul_of_pos_right (lt_pick w j hj) ha

/-- The compressed block that row `i` selects. -/
def sel (q : Fin 64 → ℝ) (ck : Fin 65 → Fin 64 → ℝ) (i : Fin 1024) : Fin 64 := pick fun j => cw q ck i j.succ

/-- The six positions of the fine branch: the first four of the selected block, and the row's own pair. -/
def fpos (J : Fin 64) (i : Fin 1024) (t : Fin 6) : Fin 1024 :=
  if t.val < 4 then ⟨16 * J.val + t.val % 4, by omega⟩ else ⟨2 * (i.val / 2) + (t.val - 4), by omega⟩

/-- The weight of position `t` of the fine branch: zero behind the row. -/
def fw (q : Fin 64 → ℝ) (k : Fin 1024 → Fin 64 → ℝ) (J : Fin 64) (i : Fin 1024) (t : Fin 6) : ℝ :=
  if (fpos J i t).val ≤ i.val then Real.exp (score q (k (fpos J i t))) else 0

/-- The fine branch. -/
def fOut (q : Fin 64 → ℝ) (k : Fin 1024 → Fin 64 → ℝ) (v : Fin 1024 → Fin 64 → EReal) (J : Fin 64) (i : Fin 1024) (d : Fin 64) : EReal :=
  wmean (fw q k J i) (fun t => v (fpos J i t) d)

/-- The position `o` rows above row `i`. -/
def wpos (i : Fin 1024) (o : Fin 8) : Fin 1024 := ⟨i.val - o.val, by omega⟩

/-- The weight of that position: zero where it lies above the first row. -/
def ww (q : Fin 64 → ℝ) (k : Fin 1024 → Fin 64 → ℝ) (i : Fin 1024) (o : Fin 8) : ℝ :=
  if o.val ≤ i.val then Real.exp (score q (k (wpos i o))) else 0

/-- The sliding window. -/
def wOut (q : Fin 64 → ℝ) (k : Fin 1024 → Fin 64 → ℝ) (v : Fin 1024 → Fin 64 → EReal) (i : Fin 1024) (d : Fin 64) : EReal :=
  wmean (ww q k i) (fun o => v (wpos i o) d)

/-- One head at row `i` and lane `d`: the three branches under the three gates. -/
def head (q k : Fin 1024 → Fin 64 → ℝ) (v : Fin 1024 → Fin 64 → EReal) (ck : Fin 65 → Fin 64 → ℝ) (cv : Fin 65 → Fin 64 → EReal) (g0 g1 g2 : EReal) (i : Fin 1024) (d : Fin 64) : EReal :=
  cOut (q i) ck cv i d * g0 + fOut (q i) k v (sel (q i) ck i) i d * g1 + wOut (q i) k v i d * g2

/-- A common positive factor of the weights leaves the mean alone. -/
theorem wmean_smul {n : ℕ} (w w' : Fin n → ℝ) (v : Fin n → EReal) (a : ℝ) (ha : a ≠ 0) (h : ∀ t, w' t = w t * a) : wmean w' v = wmean w v := by
  have h2 : ∑ t, w' t = (∑ t, w t) * a := by
    rw [Finset.sum_mul]; exact Finset.sum_congr rfl fun t _ => h t
  unfold wmean
  exact Finset.sum_congr rfl fun t _ => by rw [h2, h, mul_div_mul_right _ _ ha]

/-- A factor that is a real number and not negative goes inside a sum of extended reals. -/
theorem sum_mul_real {n : ℕ} (f : Fin n → EReal) (a : ℝ) (ha : 0 ≤ a) : (∑ t, f t) * (a : EReal) = ∑ t, f t * (a : EReal) := by
  induction n with
  | zero => simp
  | succ n ih =>
    rw [Fin.sum_univ_succ, Fin.sum_univ_succ, EReal.right_distrib_of_nonneg_of_ne_top (EReal.coe_nonneg.2 ha) (EReal.coe_ne_top a), ih]

/-- The weights of the coarse branch are not negative. -/
theorem cw_nonneg (q : Fin 64 → ℝ) (ck : Fin 65 → Fin 64 → ℝ) (i : Fin 1024) (j : Fin 65) : 0 ≤ cw q ck i j := by
  unfold cw; split <;> positivity

/-- The memory key always carries weight. -/
theorem cw_sum_pos (q : Fin 64 → ℝ) (ck : Fin 65 → Fin 64 → ℝ) (i : Fin 1024) : 0 < ∑ j, cw q ck i j := by
  refine Finset.sum_pos' (fun j _ => cw_nonneg q ck i j) ⟨0, Finset.mem_univ _, ?_⟩
  unfold cw; rw [if_pos (by simp)]; positivity

/-- The weights of the fine branch are not negative. -/
theorem fw_nonneg (q : Fin 64 → ℝ) (k : Fin 1024 → Fin 64 → ℝ) (J : Fin 64) (i : Fin 1024) (t : Fin 6) : 0 ≤ fw q k J i t := by
  unfold fw; split <;> positivity

/-- The first position of a row's own pair always carries weight. -/
theorem fw_sum_pos (q : Fin 64 → ℝ) (k : Fin 1024 → Fin 64 → ℝ) (J : Fin 64) (i : Fin 1024) : 0 < ∑ t, fw q k J i t := by
  refine Finset.sum_pos' (fun t _ => fw_nonneg q k J i t) ⟨4, Finset.mem_univ _, ?_⟩
  have h : (fpos J i 4).val ≤ i.val := by
    have : (fpos J i 4).val = 2 * (i.val / 2) := by simp [fpos]
    omega
  unfold fw; rw [if_pos h]; positivity

/-- The weights of the window are not negative. -/
theorem ww_nonneg (q : Fin 64 → ℝ) (k : Fin 1024 → Fin 64 → ℝ) (i : Fin 1024) (o : Fin 8) : 0 ≤ ww q k i o := by
  unfold ww; split <;> positivity

/-- The row itself always carries weight. -/
theorem ww_sum_pos (q : Fin 64 → ℝ) (k : Fin 1024 → Fin 64 → ℝ) (i : Fin 1024) : 0 < ∑ o, ww q k i o := by
  refine Finset.sum_pos' (fun o _ => ww_nonneg q k i o) ⟨0, Finset.mem_univ _, ?_⟩
  unfold ww; rw [if_pos (by simp)]; positivity

end Cert.Nsa

end
-- ==== Proof.Nsa.Tool.lean ====
/-
  Small facts about the extended reals and about index words that the value proofs share: sums of real numbers, the
  constants the programs write as words, a masked maximum, and the first largest column found by a minimum of words.
-/
module

public import proofs.«01_k».proof.Proof.Nsa.Spec
public import Idealize.ShloMosaic.Lib.Pointwise
public import Idealize.ShloMosaic.Lib.WordCmp
public import Idealize.ShloMosaic.Lib.IdealHost

@[expose] public section

noncomputable section

namespace Cert.Nsa

open Idealize.ShloMosaic

/-- The sum of real numbers, taken among the extended reals, is the real sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A choice between two real numbers is a real number. -/
theorem ite_coe (p : Prop) [Decidable p] (a b : ℝ) : (if p then ((a : ℝ) : EReal) else ((b : ℝ) : EReal)) = ((if p then a else b : ℝ) : EReal) := by
  split <;> rfl

/-- The quotient of real numbers with a positive divisor is the real quotient. -/
theorem div_coe (a b : ℝ) (hb : 0 < b) : Ideal.div ((a : ℝ) : EReal) ((b : ℝ) : EReal) = ((a / b : ℝ) : EReal) := by
  have h : ((b : ℝ) : EReal) ≠ 0 := by simpa using hb.ne'
  rw [Ideal.div, if_neg h, ← EReal.coe_inv, ← EReal.coe_mul, div_eq_mul_inv]

/-- The word of one eighth. -/
theorem word_eighth : Ideal.ofBits .f32 0x3E000000#32 = ((1 / 8 : ℝ) : EReal) := by
  simp [Ideal.ofBits, Ideal.ieee, -EReal.coe_mul]; norm_num
/-- The word of one. -/
theorem word_one : Ideal.ofBits .f32 0x3F800000#32 = ((1 : ℝ) : EReal) := by simp
/-- The word of zero. -/
theorem word_zero : Ideal.ofBits .f32 0x00000000#32 = ((0 : ℝ) : EReal) := by simp [Ideal.ofBits, Ideal.ieee]
/-- The word of sixteen. -/
theorem word_sixteen : Ideal.ofBits .f32 0x41800000#32 = ((16 : ℝ) : EReal) := by
  simp [Ideal.ofBits, Ideal.ieee, -EReal.coe_mul]; norm_num
/-- The word of two. -/
theorem word_two : Ideal.ofBits .f32 0x40000000#32 = ((2 : ℝ) : EReal) := by
  simp [Ideal.ofBits, Ideal.ieee, -EReal.coe_mul]; norm_num
/-- The word of three. -/
theorem word_three : Ideal.ofBits .f32 0x40400000#32 = ((3 : ℝ) : EReal) := by
  simp [Ideal.ofBits, Ideal.ieee, -EReal.coe_mul]; norm_num
/-- The word of minus one. -/
theorem word_neg_one : Ideal.ofBits .f32 0xBF800000#32 = ((-1 : ℝ) : EReal) := by
  simp [Ideal.ofBits, Ideal.ieee, -EReal.coe_mul]; norm_num
/-- The word of 384. -/
theorem word_384 : Ideal.ofBits .f32 0x43C00000#32 = ((384 : ℝ) : EReal) := by
  simp [Ideal.ofBits, Ideal.ieee, -EReal.coe_mul]; norm_num
/-- The word of minus infinity. -/
theorem word_bot : Ideal.ofBits .f32 0xFF800000#32 = ⊥ := by
  simp [Ideal.ofBits, Ideal.ieee]
/-- The real number that the word of the small constant under the root stands for. -/
def eps : ℝ := (Ideal.ofBits .f32 0x358637BD#32).toReal
/-- That word is a positive real number. -/
theorem word_eps : Ideal.ofBits .f32 0x358637BD#32 = ((eps : ℝ) : EReal) ∧ 0 < eps := by
  have h : ∃ r : ℝ, 0 < r ∧ Ideal.ofBits .f32 0x358637BD#32 = ((r : ℝ) : EReal) := by
    refine ⟨_, ?_, by simp [Ideal.ofBits, Ideal.ieee, -EReal.coe_mul]; rfl⟩
    norm_num
  obtain ⟨r, hr, h⟩ := h
  have e : eps = r := by unfold eps; rw [h]; simp
  exact ⟨by rw [e, h], by rw [e]; exact hr⟩

/-- The maximum of entries each of which is a real number or minus infinity is one of these too. -/
theorem fold_max_cases {n : ℕ} (f : Fin n → EReal) (hf : ∀ x, f x = ⊥ ∨ ∃ r : ℝ, f x = ((r : ℝ) : EReal)) (s : Finset (Fin n)) :
    s.fold max ⊥ f = ⊥ ∨ ∃ r : ℝ, s.fold max ⊥ f = ((r : ℝ) : EReal) := by
  classical
  induction s using Finset.induction_on with
  | empty => left; simp
  | insert a s ha ih =>
    rw [Finset.fold_insert ha]
    rcases max_choice (f a) (s.fold max ⊥ f) with h | h <;> rw [h]
    · exact hf a
    · exact ih

/-- … and a real number where one of them is. -/
theorem fold_max_real {n : ℕ} (f : Fin n → EReal) (hf : ∀ x, f x = ⊥ ∨ ∃ r : ℝ, f x = ((r : ℝ) : EReal)) (x0 : Fin n) (h0 : f x0 ≠ ⊥) :
    ∃ M : ℝ, Finset.univ.fold max ⊥ f = ((M : ℝ) : EReal) := by
  rcases fold_max_cases f hf Finset.univ with h | h
  · have h1 : f x0 ≤ Finset.univ.fold max ⊥ f := (Finset.le_fold_max _).2 (Or.inr ⟨x0, Finset.mem_univ _, le_rfl⟩)
    rw [h] at h1; exact absurd (le_bot_iff.1 h1) h0
  · exact h

/-- A masked score shifted by a real number, exponentiated: the exponential times a factor, zero where masked. -/
theorem exp_shift (p : Prop) [Decidable p] (s M : ℝ) :
    Ideal.exp ((if p then ((s : ℝ) : EReal) else ⊥) - ((M : ℝ) : EReal)) = (((if p then Real.exp s else 0) * Real.exp (-M) : ℝ) : EReal) := by
  by_cases h : p
  · rw [if_pos h, if_pos h, ← EReal.coe_sub, Ideal.exp_coe, sub_eq_add_neg, Real.exp_add]
  · rw [if_neg h, if_neg h, EReal.bot_sub, zero_mul]; simp

/-- A maximum over real numbers that one of them attains. -/
theorem fold_max_eq {n : ℕ} (f : Fin n → ℝ) (x0 : Fin n) (h : ∀ x, f x ≤ f x0) :
    Finset.univ.fold max ⊥ (fun x => ((f x : ℝ) : EReal)) = ((f x0 : ℝ) : EReal) := by
  refine le_antisymm ?_ ((Finset.le_fold_max _).2 (Or.inr ⟨x0, Finset.mem_univ _, le_rfl⟩))
  exact (Finset.fold_max_le _).2 ⟨bot_le, fun x _ => by exact_mod_cast h x⟩

/-- The signed minimum of two words, as integers. -/
theorem toInt_minsi (a b : BitVec 32) : (IntOp.minsi a b).toInt = min a.toInt b.toInt := by
  unfold IntOp.minsi
  simp only [BitVec.slt, BitVec.sle, decide_eq_true_eq]
  split <;> omega

/-- The signed minimum of words, as integers. -/
theorem toInt_fold_minsi {n : ℕ} (z : BitVec 32) (f : Fin n → BitVec 32) (s : Finset (Fin n)) :
    (s.fold IntOp.minsi z f).toInt = s.fold min z.toInt (fun x => (f x).toInt) := by
  classical
  induction s using Finset.induction_on with
  | empty => simp
  | insert a s ha ih => rw [Finset.fold_insert ha, Finset.fold_insert ha, toInt_minsi, ih]

/-- The minimum of the columns at which a row attains its maximum is the word of the first of them. -/
theorem first_max_word (f : Fin 65 → ℝ) (h0 : ∀ j : Fin 64, f 0 < f j.succ) (M : EReal)
    (hM : M = Finset.univ.fold max ⊥ (fun x => ((f x : ℝ) : EReal))) :
    Finset.univ.fold IntOp.minsi (2147483647#32) (fun x => if M ≤ ((f x : ℝ) : EReal) then BitVec.ofNat 32 x.val else 65#32)
      = BitVec.ofNat 32 ((pick fun j => f j.succ).val + 1) := by
  set J := pick fun j => f j.succ with hJ
  have hle : ∀ x, f x ≤ f J.succ := by
    intro x
    refine Fin.cases ?_ (fun j => ?_) x
    · exact (h0 J).le
    · exact le_pick (fun j => f j.succ) j
  have hlt : ∀ x : Fin 65, x.val < J.val + 1 → f x < f J.succ := by
    intro x
    refine Fin.cases (fun _ => h0 J) (fun j hj => ?_) x
    exact lt_pick (fun j => f j.succ) j (by
      rw [Fin.lt_def, ← hJ]
      simpa using hj)
  rw [fold_max_eq f J.succ hle] at hM
  subst hM
  apply BitVec.eq_of_toInt_eq
  rw [toInt_fold_minsi]
  have hb : ∀ a : ℕ, a < 100 → (BitVec.ofNat 32 a).toInt = (a : ℤ) := fun a ha =>
    WordCmp.toInt_ofNat_of_lt (by norm_num; omega)
  have hJl := J.isLt
  rw [hb (J.val + 1) (by omega)]
  refine le_antisymm ?_ ?_
  · refine (Finset.fold_min_le _).2 (Or.inr ⟨J.succ, Finset.mem_univ _, ?_⟩)
    rw [if_pos le_rfl, hb J.succ.val (by simp; omega)]; simp
  · refine (Finset.le_fold_min _).2 ⟨?_, fun x _ => ?_⟩
    · have : (2147483647#32 : BitVec 32).toInt = 2147483647 := by decide
      rw [this]; push_cast; omega
    · have hx := x.isLt
      by_cases hc : ((f J.succ : ℝ) : EReal) ≤ ((f x : ℝ) : EReal)
      · rw [if_pos hc, hb x.val (by omega)]
        have : ¬ x.val < J.val + 1 := fun hl => absurd (EReal.coe_le_coe_iff.1 hc) (not_le.2 (hlt x hl))
        omega
      · rw [if_neg hc, hb 65 (by omega)]; push_cast; omega

/-- The head of a lane pair that lane `c` belongs to. -/
def hd (c : Fin 128) : Fin 2 := ⟨c.val / 64, by omega⟩
/-- Lane `d` of head `u` among the 128 lanes. -/
def lane (u : Fin 2) (d : Fin 64) : Fin 128 := ⟨64 * u.val + d.val, by omega⟩
/-- The lane inside its head. -/
def sub (c : Fin 128) : Fin 64 := ⟨c.val % 64, by omega⟩

theorem lane_hd_sub (c : Fin 128) : lane (hd c) (sub c) = c := by
  apply Fin.ext; simp only [lane, hd, sub]; omega
theorem hd_lane (u : Fin 2) (d : Fin 64) : hd (lane u d) = u := by
  apply Fin.ext; simp only [lane, hd]; omega
theorem sub_lane (u : Fin 2) (d : Fin 64) : sub (lane u d) = d := by
  apply Fin.ext; simp only [lane, sub]; omega

/-- The 128 lanes are the 64 lanes of the two heads. -/
def lanes : Fin 2 × Fin 64 ≃ Fin 128 where
  toFun p := lane p.1 p.2
  invFun c := (hd c, sub c)
  left_inv p := by
    show (hd (lane p.1 p.2), sub (lane p.1 p.2)) = p
    rw [hd_lane, sub_lane]
  right_inv c := lane_hd_sub c

/-- A sum over 128 lanes that counts the lanes of one head only. -/
theorem sum_head (f : Fin 128 → ℝ) (u : Fin 2) : ∑ x : Fin 128, f x * (if x.val / 64 = u.val then 1 else 0) = ∑ d : Fin 64, f (lane u d) := by
  rw [← Equiv.sum_comp lanes, Fintype.sum_prod_type, Finset.sum_eq_single u]
  · refine Finset.sum_congr rfl fun d _ => ?_
    have : (lanes (u, d)).val / 64 = u.val := congrArg Fin.val (hd_lane u d)
    rw [if_pos this, mul_one]; rfl
  · intro b _ hb
    refine Finset.sum_eq_zero fun d _ => ?_
    have : (lanes (b, d)).val / 64 = b.val := congrArg Fin.val (hd_lane b d)
    rw [if_neg (by rw [this]; exact fun h => hb (Fin.ext h)), mul_zero]
  · intro h; exact absurd (Finset.mem_univ _) h

/-- A mean: a sum under positive total weight, divided by the total. -/
theorem div_wmean {n : ℕ} (w : Fin n → ℝ) (v : Fin n → EReal) (hw : 0 < ∑ t, w t) :
    Ideal.div (∑ t, ((w t : ℝ) : EReal) * v t) ((∑ t, w t : ℝ) : EReal) = wmean w v := by
  unfold Ideal.div wmean
  rw [if_neg (fun h => hw.ne' (EReal.coe_eq_coe_iff.1 (h.trans EReal.coe_zero.symm))), ← EReal.coe_inv, sum_mul_real _ _ (inv_nonneg.2 hw.le)]
  refine Finset.sum_congr rfl fun t _ => ?_
  rw [mul_right_comm, ← EReal.coe_mul]
  rfl

end Cert.Nsa

end
-- ==== Proof.Nsa.Data.lean ====
/-
  What the whole problem computes, as a function of real data: the input projection, the normalized rows, the three
  projections of the heads, the compressed keys and values, the gates, the attention rows, and the result.
-/
module

public import proofs.«01_k».proof.Proof.Nsa.Tool

@[expose] public section

noncomputable section

namespace Cert.Nsa

open Idealize.ShloMosaic

/-- The factor of a row's normalization: one over the root of its mean square, which is 0 when an entry is infinite. -/
def rfac (X : Fin 384 → EReal) : EReal := Ideal.rsqrt (Ideal.div (∑ l, X l * X l) ((384 : ℝ) : EReal) + ((eps : ℝ) : EReal))

/-- A row divided by the root of its mean square and scaled lane by lane. -/
def rnorm (X : Fin 384 → EReal) (g : Fin 384 → ℝ) (o : Fin 384) : ℝ := (X o * rfac X).toReal * g o

/-- The data of the problem: the gains and the arrays on the side of queries and keys hold real numbers, the others are as they come. -/
structure Data where
  /-- The input, by image, position and channel. -/
  x : Fin 4 → Fin 1024 → Fin 384 → EReal
  /-- The matrix of the input projection, by output and input channel. -/
  w : Fin 384 → Fin 384 → EReal
  /-- Its bias. -/
  pb : Fin 384 → EReal
  /-- The scale of the normalization. -/
  g : Fin 384 → ℝ
  /-- The query projection. -/
  wq : Fin 384 → Fin 512 → ℝ
  /-- The key projection. -/
  wk : Fin 384 → Fin 512 → ℝ
  /-- The value projection. -/
  wv : Fin 384 → Fin 512 → EReal
  /-- The positional part of the compressed keys. -/
  kp : Fin 8 → Fin 16 → Fin 64 → ℝ
  /-- The positional part of the compressed values. -/
  vp : Fin 8 → Fin 16 → Fin 64 → EReal
  /-- The compression of the keys. -/
  wkc : Fin 1024 → Fin 64 → ℝ
  /-- Its bias. -/
  bkc : Fin 64 → ℝ
  /-- The compression of the values. -/
  wvc : Fin 1024 → Fin 64 → EReal
  /-- Its bias. -/
  bvc : Fin 64 → EReal
  /-- The memory key of each head. -/
  mck : Fin 8 → Fin 64 → ℝ
  /-- The memory value of each head. -/
  mcv : Fin 8 → Fin 64 → EReal
  /-- The gate projection. -/
  wg : Fin 384 → Fin 24 → EReal
  /-- Its bias. -/
  bg : Fin 24 → EReal
  /-- The projection of the attention rows. -/
  wo : Fin 512 → Fin 384 → EReal
  /-- The matrix of the output projection, by output and input channel. -/
  po : Fin 384 → Fin 384 → EReal
  /-- Its bias. -/
  pob : Fin 384 → EReal

/-- Column `d` of head `h` among the 512 columns. -/
def hcol (h : Fin 8) (d : Fin 64) : Fin 512 := ⟨64 * h.val + d.val, by omega⟩
/-- Gate `s` of head `h` among the 24 gates. -/
def gidx (h : Fin 8) (s : Fin 3) : Fin 24 := ⟨3 * h.val + s.val, by omega⟩
/-- The position of place `x` of the 1024 numbers that block `j` of a head compresses. -/
def crow (j : Fin 64) (x : Fin 1024) : Fin 1024 := ⟨16 * j.val + x.val / 64, by omega⟩
/-- The place inside the block. -/
def cpos (x : Fin 1024) : Fin 16 := ⟨x.val / 64, by omega⟩
/-- The lane of that place. -/
def clane (x : Fin 1024) : Fin 64 := ⟨x.val % 64, by omega⟩

namespace Data

variable (D : Data)

/-- The input projection. -/
def xin (b : Fin 4) (n : Fin 1024) (o : Fin 384) : EReal := (∑ k, D.x b n k * D.w o k) + D.pb o
/-- The normalized rows. -/
def xn (b : Fin 4) (n : Fin 1024) (o : Fin 384) : ℝ := rnorm (D.xin b n) D.g o
/-- The queries. -/
def q (b : Fin 4) (n : Fin 1024) (e : Fin 512) : ℝ := ∑ o, D.xn b n o * D.wq o e
/-- The keys. -/
def k (b : Fin 4) (n : Fin 1024) (e : Fin 512) : ℝ := ∑ o, D.xn b n o * D.wk o e
/-- The values. -/
def v (b : Fin 4) (n : Fin 1024) (e : Fin 512) : EReal := ∑ o, ((D.xn b n o : ℝ) : EReal) * D.wv o e
/-- The queries of one head. -/
def qh (b : Fin 4) (h : Fin 8) (n : Fin 1024) (d : Fin 64) : ℝ := D.q b n (hcol h d)
/-- The keys of one head. -/
def kh (b : Fin 4) (h : Fin 8) (n : Fin 1024) (d : Fin 64) : ℝ := D.k b n (hcol h d)
/-- The values of one head. -/
def vh (b : Fin 4) (h : Fin 8) (n : Fin 1024) (d : Fin 64) : EReal := D.v b n (hcol h d)
/-- The compressed key of block `j` of a head. -/
def ckb (b : Fin 4) (h : Fin 8) (j : Fin 64) (e : Fin 64) : ℝ :=
  (∑ x : Fin 1024, (D.kh b h (crow j x) (clane x) + D.kp h (cpos x) (clane x)) * D.wkc x e) + D.bkc e
/-- The compressed value of block `j` of a head. -/
def cvb (b : Fin 4) (h : Fin 8) (j : Fin 64) (e : Fin 64) : EReal :=
  (∑ x : Fin 1024, (D.vh b h (crow j x) (clane x) + D.vp h (cpos x) (clane x)) * D.wvc x e) + D.bvc e
/-- The compressed keys of a head behind its memory key. -/
def ck (b : Fin 4) (h : Fin 8) (j : Fin 65) (e : Fin 64) : ℝ :=
  if hj : j.val < 1 then D.mck h e else D.ckb b h ⟨j.val - 1, by omega⟩ e
/-- The compressed values of a head behind its memory value. -/
def cv (b : Fin 4) (h : Fin 8) (j : Fin 65) (e : Fin 64) : EReal :=
  if hj : j.val < 1 then D.mcv h e else D.cvb b h ⟨j.val - 1, by omega⟩ e
/-- The gates. -/
def gate (b : Fin 4) (n : Fin 1024) (m : Fin 24) : EReal :=
  Ideal.logistic ((∑ o, ((D.xn b n o : ℝ) : EReal) * D.wg o m) + D.bg m)
/-- The attention row of one head. -/
def ath (b : Fin 4) (h : Fin 8) (n : Fin 1024) (d : Fin 64) : EReal :=
  head (D.qh b h) (D.kh b h) (D.vh b h) (D.ck b h) (D.cv b h) (D.gate b n (gidx h 0)) (D.gate b n (gidx h 1))
    (D.gate b n (gidx h 2)) n d
/-- The attention rows, all heads side by side. -/
def att (b : Fin 4) (n : Fin 1024) (e : Fin 512) : EReal := D.ath b ⟨e.val / 64, by omega⟩ n ⟨e.val % 64, by omega⟩
/-- The projected attention rows. -/
def pr (b : Fin 4) (n : Fin 1024) (o : Fin 384) : EReal := ∑ e, D.att b n e * D.wo e o
/-- The result by image, position and channel. -/
def res (b : Fin 4) (n : Fin 1024) (c : Fin 384) : EReal :=
  ((∑ o, D.pr b n o * D.po c o) + D.pob c) + D.xin b n c

end Data

/-- An infinite number times itself is plus infinity. -/
theorem sq_top (y : EReal) (h : y = ⊤ ∨ y = ⊥) : y * y = ⊤ := by
  rcases h with rfl | rfl
  · exact EReal.top_mul_top
  · exact EReal.bot_mul_bot

/-- No square is negative. -/
theorem sq_nonneg' (y : EReal) : 0 ≤ y * y := by
  induction y with
  | bot => rw [EReal.bot_mul_bot]; exact le_top
  | top => rw [EReal.top_mul_top]; exact le_top
  | coe r => rw [← EReal.coe_mul]; exact EReal.coe_nonneg.2 (mul_self_nonneg r)

/-- A row divided by the root of its mean square holds real numbers, whatever the row holds: an infinite entry makes the factor 0. -/
theorem rfac_real (X : Fin 384 → EReal) (o : Fin 384) : X o * rfac X = (((X o * rfac X).toReal : ℝ) : EReal) := by
  by_cases hX : ∀ l, X l ≠ ⊤ ∧ X l ≠ ⊥
  · obtain ⟨Y, hY⟩ : ∃ Y : Fin 384 → ℝ, X = fun l => ((Y l : ℝ) : EReal) :=
      ⟨fun l => (X l).toReal, funext fun l => (EReal.coe_toReal (hX l).1 (hX l).2).symm⟩
    have e1 : ∑ l, X l * X l = ((∑ l, Y l * Y l : ℝ) : EReal) := by
      rw [← sum_coe]; exact Finset.sum_congr rfl fun l _ => by rw [hY, ← EReal.coe_mul]
    have hp : 0 < (∑ l, Y l * Y l) / 384 + eps := by
      have h0 : 0 ≤ ∑ l, Y l * Y l := Finset.sum_nonneg fun l _ => mul_self_nonneg _
      have h1 := word_eps.2
      positivity
    have e2 : ∃ r : ℝ, X o * rfac X = (r : EReal) := by
      unfold rfac
      rw [e1, div_coe _ _ (by norm_num), ← EReal.coe_add, Ideal.rsqrt_coe, if_neg (not_lt.2 hp.le), if_neg hp.ne', hY, ← EReal.coe_mul]
      exact ⟨_, rfl⟩
    obtain ⟨r, hr⟩ := e2
    rw [hr, EReal.toReal_coe]
  · push Not at hX
    obtain ⟨l, hl⟩ := hX
    have hl' : X l * X l = ⊤ := sq_top _ (or_iff_not_imp_left.2 hl)
    have e1 : ∑ l, X l * X l = ⊤ :=
      top_le_iff.1 (hl' ▸ Finset.single_le_sum (f := fun l => X l * X l) (fun l _ => sq_nonneg' (X l)) (Finset.mem_univ l))
    have e2 : rfac X = 0 := by
      unfold rfac
      have h384 : ((384 : ℝ) : EReal) ≠ 0 := by rw [← EReal.coe_zero]; exact fun h => by have := EReal.coe_eq_coe_iff.1 h; norm_num at this
      have e3 : Ideal.div ⊤ ((384 : ℝ) : EReal) = ⊤ := by
        unfold Ideal.div
        rw [if_neg h384, ← EReal.coe_inv]
        exact EReal.top_mul_coe_of_pos (by norm_num)
      rw [e1, e3, EReal.top_add_coe]
      rfl
    rw [e2, mul_zero, EReal.toReal_zero, EReal.coe_zero]

/-- The normalization of a row, step by step among the extended reals. -/
theorem rnorm_coe (X : Fin 384 → EReal) (g : Fin 384 → ℝ) (o : Fin 384) :
    X o * Ideal.rsqrt (Ideal.div (∑ l, X l * X l) ((384 : ℝ) : EReal) + ((eps : ℝ) : EReal)) * ((g o : ℝ) : EReal) = ((rnorm X g o : ℝ) : EReal) := by
  unfold rnorm
  rw [EReal.coe_mul, ← rfac_real]
  rfl

/-- A sum of products of real numbers, plus a real number. -/
theorem dot_add_coe {n : ℕ} (f g : Fin n → ℝ) (c : ℝ) :
    (∑ k, ((f k : ℝ) : EReal) * ((g k : ℝ) : EReal)) + ((c : ℝ) : EReal) = (((∑ k, f k * g k) + c : ℝ) : EReal) := by
  rw [EReal.coe_add, ← sum_coe]; simp only [EReal.coe_mul]

/-- A sum of products of real numbers. -/
theorem dot_coe {n : ℕ} (f g : Fin n → ℝ) :
    ∑ k, ((f k : ℝ) : EReal) * ((g k : ℝ) : EReal) = ((∑ k, f k * g k : ℝ) : EReal) := by
  rw [← sum_coe]; simp only [EReal.coe_mul]

end Cert.Nsa

end
-- ==== Proof.Nsa.Proj.lean ====
/-
  What one program of the projection kernel stores: the projected input rows, the queries, keys and values pair by pair of
  heads, and the gates pair by pair.
-/
module

public import proofs.«01_k».proof.Proof.Nsa.Data
public import Idealize.ShloMosaic.Lib.Pipeline.ValueKit
public import proofs.«01_k».proof.Proof.Gen.KernelIdeal.Frame

@[expose] public section

set_option maxRecDepth 16384

noncomputable section

namespace Cert.Nsa

open Idealize.ShloMosaic
open Cert.KernelIdeal Cert.KernelIdeal.Gen

/-- Lane `c` of pair `p` of heads among the 512 columns. -/
def pcol (p : Fin 4) (c : Fin 128) : Fin 512 := ⟨128 * p.val + c.val, by omega⟩
/-- Gate `c` of pair `p` among the 24 gates. -/
def pgate (p : Fin 4) (c : Fin 6) : Fin 24 := ⟨6 * p.val + c.val, by omega⟩

section
variable (v0 : Vec Ideal S1x1024x384 .f32) (v2 : Vec Ideal S384x384 .f32) (v5 v22 : Vec Ideal S1x384 .f32) (w : Vec Ideal S384x512 .f32)
  (wg : Vec Ideal S384x24 .f32) (bg : Vec Ideal S1x24 .f32)
  (X : Fin 1024 → Fin 384 → EReal) (W : Fin 1024 → Fin 384 → ℝ) (G : Fin 384 → ℝ) (Wq : Fin 384 → Fin 512 → ℝ)

/-- The projected rows. -/
theorem p0pay5_at (i : Fin 1024) (o : Fin 384) :
    k0_pay5 v0 v2 v5 (ix2 i o) = (∑ k : Fin 384, v0 (ix3 0 i k) * v2 (ix2 k o)) + v5 (ix2 0 o) := by
  pointwise [k0_pay5]

/-- The normalized rows. -/
theorem p0pay7_at (hX : ∀ i o, k0_pay5 v0 v2 v5 (ix2 i o) = X i o) (hG : ∀ o, v22 (ix2 0 o) = ((G o : ℝ) : EReal))
    (i : Fin 1024) (o : Fin 384) : k0_pay7 v0 v2 v5 v22 (ix2 i o) = ((rnorm (X i) G o : ℝ) : EReal) := by
  have e : k0_pay7 v0 v2 v5 v22 (ix2 i o) = k0_pay5 v0 v2 v5 (ix2 i o)
      * Ideal.rsqrt (Ideal.div (∑ l : Fin 384, k0_pay5 v0 v2 v5 (ix2 i l) * k0_pay5 v0 v2 v5 (ix2 i l)) (Ideal.ofBits .f32 0x43C00000#32)
        + Ideal.ofBits .f32 0x358637BD#32) * v22 (ix2 0 o) := by
    pointwise [k0_pay7]
  rw [e, hX, hG, word_384, word_eps.1]
  simp only [hX]
  exact rnorm_coe (X i) G o

/-- The queries. -/
theorem p0pay8_at (hN : ∀ i o, k0_pay7 v0 v2 v5 v22 (ix2 i o) = ((W i o : ℝ) : EReal)) (hw : ∀ o e, w (ix2 o e) = ((Wq o e : ℝ) : EReal))
    (i : Fin 1024) (e : Fin 512) : k0_pay8 v0 v2 v5 v22 w (ix2 i e) = ((∑ o, W i o * Wq o e : ℝ) : EReal) := by
  have h : k0_pay8 v0 v2 v5 v22 w (ix2 i e) = ∑ o : Fin 384, k0_pay7 v0 v2 v5 v22 (ix2 i o) * w (ix2 o e) := by
    pointwise [k0_pay8]
  rw [h]; simp only [hN, hw]; exact dot_coe _ _
/-- The keys. -/
theorem p0pay9_at (hN : ∀ i o, k0_pay7 v0 v2 v5 v22 (ix2 i o) = ((W i o : ℝ) : EReal)) (hw : ∀ o e, w (ix2 o e) = ((Wq o e : ℝ) : EReal))
    (i : Fin 1024) (e : Fin 512) : k0_pay9 v0 v2 v5 v22 w (ix2 i e) = ((∑ o, W i o * Wq o e : ℝ) : EReal) := by
  have h : k0_pay9 v0 v2 v5 v22 w (ix2 i e) = ∑ o : Fin 384, k0_pay7 v0 v2 v5 v22 (ix2 i o) * w (ix2 o e) := by
    pointwise [k0_pay9]
  rw [h]; simp only [hN, hw]; exact dot_coe _ _
/-- The values. -/
theorem p0pay10_at (Wv : Fin 384 → Fin 512 → EReal) (hN : ∀ i o, k0_pay7 v0 v2 v5 v22 (ix2 i o) = ((W i o : ℝ) : EReal)) (hw : ∀ o e, w (ix2 o e) = Wv o e)
    (i : Fin 1024) (e : Fin 512) : k0_pay10 v0 v2 v5 v22 w (ix2 i e) = ∑ o, ((W i o : ℝ) : EReal) * Wv o e := by
  have h : k0_pay10 v0 v2 v5 v22 w (ix2 i e) = ∑ o : Fin 384, k0_pay7 v0 v2 v5 v22 (ix2 i o) * w (ix2 o e) := by
    pointwise [k0_pay10]
  rw [h]; simp only [hN, hw]
/-- The gates. -/
theorem p0pay11_at (Z : FVec Ideal S1024x384 .f32) (i : Fin 1024) (m : Fin 24) :
    k0_pay11 Z wg bg (ix2 i m) = Ideal.logistic ((∑ o : Fin 384, Z (ix2 i o) * wg (ix2 o m)) + bg (ix2 0 m)) := by
  pointwise [k0_pay11]

end

/-- A place of a stored tile, by its row and lane. -/
theorem tile_place (x : S1x1x1024x128.Idx) (i : Fin 1024) (c : Fin 128) (h2 : i.val = (x 2).val) (h3 : c.val = (x 3).val) : x = ix4 0 0 i c := by
  blk_ext
/-- A place of a stored tile of gates, by its row and lane. -/
theorem tile_place6 (x : S1x1x1024x6.Idx) (i : Fin 1024) (c : Fin 6) (h2 : i.val = (x 2).val) (h3 : c.val = (x 3).val) : x = ix4 0 0 i c := by
  blk_ext

section
variable (x0 : Vec Ideal S1x1024x384 .f32) (x1 : Vec Ideal S384x384 .f32) (x2 x3 : Vec Ideal S1x384 .f32) (x4 x5 x6 : Vec Ideal S384x512 .f32)
  (x7 : Vec Ideal S384x24 .f32) (x8 : Vec Ideal S1x24 .f32)

/-- The stored input rows. -/
theorem out9_at (i : Fin 1024) (o : Fin 384) : out0_9 x0 x1 x2 x3 x4 x5 x6 x7 x8 (ix3 0 i o) = k0_pay5 x0 x1 x2 (ix2 i o) := by
  have l0 : View.ld x0 r0_0 = x0 := View.ld_unit_zero (by decide +kernel) _ x0
  have l1 : View.ld x1 r0_1 = x1 := View.ld_unit_zero (by decide +kernel) _ x1
  have l2 : View.ld x2 r0_2 = x2 := View.ld_unit_zero (by decide +kernel) _ x2
  unfold_out out0_9
  rw [View.canon_unit_zero (by decide +kernel), l0, l1, l2]
  generalize hZ : k0_pay5 x0 x1 x2 = Z
  pointwise [k0_pay6, hZ]

/-- The stored queries of a pair of heads. -/
theorem out10_at (p : Fin 4) (i : Fin 1024) (c : Fin 128) :
    out0_10 x0 x1 x2 x3 x4 x5 x6 x7 x8 (ix4 0 p i c) = k0_pay27 x0 x1 x2 x3 x4 x5 x6 x7 x8 (ix2 i (pcol p c)) := by
  unfold out0_10
  generalize k0_pay27 x0 x1 x2 x3 x4 x5 x6 x7 x8 = Z
  canon_tiles x h
  · have hp : p = 3 := Fin.ext (by have h1' : p.val = 3 + (x 1).val := h1; have : ((3 : Fin 4) : ℕ) = 3 := rfl; omega)
    subst hp
    rw [tile_place x i c h2 h3]
    have e : k0_pay1 (k0_pay25 Z) (ix4 0 0 i c) = Z (ix2 i (pcol 3 c)) := by pointwise [k0_pay1, k0_pay25, pcol]
    exact e
  · have hp : p = 2 := Fin.ext (by have h1' : p.val = 2 + (x 1).val := h1; have : ((2 : Fin 4) : ℕ) = 2 := rfl; omega)
    subst hp
    rw [tile_place x i c h2 h3]
    have e : k0_pay21 Z (ix4 0 0 i c) = Z (ix2 i (pcol 2 c)) := by pointwise [k0_pay21, pcol]
    exact e
  · have hp : p = 1 := Fin.ext (by have h1' : p.val = 1 + (x 1).val := h1; have : ((1 : Fin 4) : ℕ) = 1 := rfl; omega)
    subst hp
    rw [tile_place x i c h2 h3]
    have e : k0_pay16 Z (ix4 0 0 i c) = Z (ix2 i (pcol 1 c)) := by pointwise [k0_pay16, pcol]
    exact e
  · have hp : p = 0 := Fin.ext (by have h1' : p.val = (x 1).val := h1; have : ((0 : Fin 4) : ℕ) = 0 := rfl; omega)
    subst hp
    rw [tile_place x i c h2 h3]
    have e : k0_pay12 Z (ix4 0 0 i c) = Z (ix2 i (pcol 0 c)) := by pointwise [k0_pay12, pcol]
    exact e
/-- The stored keys of a pair of heads. -/
theorem out11_at (p : Fin 4) (i : Fin 1024) (c : Fin 128) :
    out0_11 x0 x1 x2 x3 x4 x5 x6 x7 x8 (ix4 0 p i c) = k0_pay28 x0 x1 x2 x3 x4 x5 x6 x7 x8 (ix2 i (pcol p c)) := by
  unfold out0_11
  generalize k0_pay28 x0 x1 x2 x3 x4 x5 x6 x7 x8 = Z
  canon_tiles x h
  · have hp : p = 3 := Fin.ext (by have h1' : p.val = 3 + (x 1).val := h1; have : ((3 : Fin 4) : ℕ) = 3 := rfl; omega)
    subst hp
    rw [tile_place x i c h2 h3]
    have e : k0_pay2 Z (ix4 0 0 i c) = Z (ix2 i (pcol 3 c)) := by pointwise [k0_pay2, pcol]
    exact e
  · have hp : p = 2 := Fin.ext (by have h1' : p.val = 2 + (x 1).val := h1; have : ((2 : Fin 4) : ℕ) = 2 := rfl; omega)
    subst hp
    rw [tile_place x i c h2 h3]
    have e : k0_pay22 Z (ix4 0 0 i c) = Z (ix2 i (pcol 2 c)) := by pointwise [k0_pay22, pcol]
    exact e
  · have hp : p = 1 := Fin.ext (by have h1' : p.val = 1 + (x 1).val := h1; have : ((1 : Fin 4) : ℕ) = 1 := rfl; omega)
    subst hp
    rw [tile_place x i c h2 h3]
    have e : k0_pay18 (k0_pay17 Z) (ix4 0 0 i c) = Z (ix2 i (pcol 1 c)) := by pointwise [k0_pay18, k0_pay17, pcol]
    exact e
  · have hp : p = 0 := Fin.ext (by have h1' : p.val = (x 1).val := h1; have : ((0 : Fin 4) : ℕ) = 0 := rfl; omega)
    subst hp
    rw [tile_place x i c h2 h3]
    have e : k0_pay13 Z (ix4 0 0 i c) = Z (ix2 i (pcol 0 c)) := by pointwise [k0_pay13, pcol]
    exact e
/-- The stored values of a pair of heads. -/
theorem out12_at (p : Fin 4) (i : Fin 1024) (c : Fin 128) :
    out0_12 x0 x1 x2 x3 x4 x5 x6 x7 x8 (ix4 0 p i c) = k0_pay29 x0 x1 x2 x3 x4 x5 x6 x7 x8 (ix2 i (pcol p c)) := by
  unfold out0_12
  generalize k0_pay29 x0 x1 x2 x3 x4 x5 x6 x7 x8 = Z
  canon_tiles x h
  · have hp : p = 3 := Fin.ext (by have h1' : p.val = 3 + (x 1).val := h1; have : ((3 : Fin 4) : ℕ) = 3 := rfl; omega)
    subst hp
    rw [tile_place x i c h2 h3]
    have e : k0_pay3 Z (ix4 0 0 i c) = Z (ix2 i (pcol 3 c)) := by pointwise [k0_pay3, pcol]
    exact e
  · have hp : p = 2 := Fin.ext (by have h1' : p.val = 2 + (x 1).val := h1; have : ((2 : Fin 4) : ℕ) = 2 := rfl; omega)
    subst hp
    rw [tile_place x i c h2 h3]
    have e : k0_pay23 Z (ix4 0 0 i c) = Z (ix2 i (pcol 2 c)) := by pointwise [k0_pay23, pcol]
    exact e
  · have hp : p = 1 := Fin.ext (by have h1' : p.val = 1 + (x 1).val := h1; have : ((1 : Fin 4) : ℕ) = 1 := rfl; omega)
    subst hp
    rw [tile_place x i c h2 h3]
    have e : k0_pay19 Z (ix4 0 0 i c) = Z (ix2 i (pcol 1 c)) := by pointwise [k0_pay19, pcol]
    exact e
  · have hp : p = 0 := Fin.ext (by have h1' : p.val = (x 1).val := h1; have : ((0 : Fin 4) : ℕ) = 0 := rfl; omega)
    subst hp
    rw [tile_place x i c h2 h3]
    have e : k0_pay14 Z (ix4 0 0 i c) = Z (ix2 i (pcol 0 c)) := by pointwise [k0_pay14, pcol]
    exact e
/-- The stored gates of a pair of heads. -/
theorem out13_at (p : Fin 4) (i : Fin 1024) (c : Fin 6) :
    out0_13 x0 x1 x2 x3 x4 x5 x6 x7 x8 (ix4 0 p i c) = k0_pay30 x0 x1 x2 x3 x4 x5 x6 x7 x8 (ix2 i (pgate p c)) := by
  unfold out0_13 k0_pay30
  generalize k0_pay26 x0 x1 x2 x3 x4 x5 x6 x7 x8 = Y
  have e15 : k0_pay15 Y (View.ld x7 r0_4) (View.ld x8 r0_5) (ix4 0 0 i c) = k0_pay11 Y (View.ld x7 r0_4) (View.ld x8 r0_5) (ix2 i (pgate 0 c)) := by
    unfold k0_pay15
    generalize k0_pay11 Y (View.ld x7 r0_4) (View.ld x8 r0_5) = Z
    pointwise [pgate]
  generalize k0_pay11 Y (View.ld x7 r0_4) (View.ld x8 r0_5) = Z at *
  canon_tiles x h
  · have hp : p = 3 := Fin.ext (by have h1' : p.val = 3 + (x 1).val := h1; have : ((3 : Fin 4) : ℕ) = 3 := rfl; omega)
    subst hp
    rw [tile_place6 x i c h2 h3]
    have e : k0_pay4 Z (ix4 0 0 i c) = Z (ix2 i (pgate 3 c)) := by pointwise [k0_pay4, pgate]
    exact e
  · have hp : p = 2 := Fin.ext (by have h1' : p.val = 2 + (x 1).val := h1; have : ((2 : Fin 4) : ℕ) = 2 := rfl; omega)
    subst hp
    rw [tile_place6 x i c h2 h3]
    have e : k0_pay24 Z (ix4 0 0 i c) = Z (ix2 i (pgate 2 c)) := by pointwise [k0_pay24, pgate]
    exact e
  · have hp : p = 1 := Fin.ext (by have h1' : p.val = 1 + (x 1).val := h1; have : ((1 : Fin 4) : ℕ) = 1 := rfl; omega)
    subst hp
    rw [tile_place6 x i c h2 h3]
    have e : k0_pay20 Z (ix4 0 0 i c) = Z (ix2 i (pgate 1 c)) := by pointwise [k0_pay20, pgate]
    exact e
  · have hp : p = 0 := Fin.ext (by have h1' : p.val = (x 1).val := h1; have : ((0 : Fin 4) : ℕ) = 0 := rfl; omega)
    subst hp
    rw [tile_place6 x i c h2 h3]
    exact e15

/-- The normalized rows as the stored values name them. -/
theorem pay26_eq : k0_pay26 x0 x1 x2 x3 x4 x5 x6 x7 x8 = k0_pay7 x0 x1 x2 x3 := by
  unfold k0_pay26
  rw [show View.ld x0 r0_0 = x0 from View.ld_unit_zero (by decide +kernel) _ x0, show View.ld x1 r0_1 = x1 from View.ld_unit_zero (by decide +kernel) _ x1,
    show View.ld x2 r0_2 = x2 from View.ld_unit_zero (by decide +kernel) _ x2, show View.ld x3 r0_2 = x3 from View.ld_unit_zero (by decide +kernel) _ x3]
/-- The queries as the stored values name them. -/
theorem pay27_eq : k0_pay27 x0 x1 x2 x3 x4 x5 x6 x7 x8 = k0_pay8 x0 x1 x2 x3 x4 := by
  unfold k0_pay27
  rw [show View.ld x0 r0_0 = x0 from View.ld_unit_zero (by decide +kernel) _ x0, show View.ld x1 r0_1 = x1 from View.ld_unit_zero (by decide +kernel) _ x1,
    show View.ld x2 r0_2 = x2 from View.ld_unit_zero (by decide +kernel) _ x2, show View.ld x3 r0_2 = x3 from View.ld_unit_zero (by decide +kernel) _ x3,
    show View.ld x4 r0_3 = x4 from View.ld_unit_zero (by decide +kernel) _ x4]
/-- The keys as the stored values name them. -/
theorem pay28_eq : k0_pay28 x0 x1 x2 x3 x4 x5 x6 x7 x8 = k0_pay9 x0 x1 x2 x3 x5 := by
  unfold k0_pay28
  rw [show View.ld x0 r0_0 = x0 from View.ld_unit_zero (by decide +kernel) _ x0, show View.ld x1 r0_1 = x1 from View.ld_unit_zero (by decide +kernel) _ x1,
    show View.ld x2 r0_2 = x2 from View.ld_unit_zero (by decide +kernel) _ x2, show View.ld x3 r0_2 = x3 from View.ld_unit_zero (by decide +kernel) _ x3,
    show View.ld x5 r0_3 = x5 from View.ld_unit_zero (by decide +kernel) _ x5]
/-- The values as the stored values name them. -/
theorem pay29_eq : k0_pay29 x0 x1 x2 x3 x4 x5 x6 x7 x8 = k0_pay10 x0 x1 x2 x3 x6 := by
  unfold k0_pay29
  rw [show View.ld x0 r0_0 = x0 from View.ld_unit_zero (by decide +kernel) _ x0, show View.ld x1 r0_1 = x1 from View.ld_unit_zero (by decide +kernel) _ x1,
    show View.ld x2 r0_2 = x2 from View.ld_unit_zero (by decide +kernel) _ x2, show View.ld x3 r0_2 = x3 from View.ld_unit_zero (by decide +kernel) _ x3,
    show View.ld x6 r0_3 = x6 from View.ld_unit_zero (by decide +kernel) _ x6]
/-- The gates as the stored values name them. -/
theorem pay30_eq : k0_pay30 x0 x1 x2 x3 x4 x5 x6 x7 x8 = k0_pay11 (k0_pay7 x0 x1 x2 x3) x7 x8 := by
  unfold k0_pay30
  rw [pay26_eq, show View.ld x7 r0_4 = x7 from View.ld_unit_zero (by decide +kernel) _ x7, show View.ld x8 r0_5 = x8 from View.ld_unit_zero (by decide +kernel) _ x8]

end

end Cert.Nsa

end
-- ==== Proof.Nsa.In0.lean ====
/-
  What the arrays of the first kernel hold when it starts, and the rows one of its programs computes from them.
-/
module

public import proofs.«01_k».proof.Proof.Nsa.Data
public import proofs.«01_k».proof.Proof.Nsa.Proj
import Idealize.ShloMosaic.Lib.Pipeline.ValueKit

@[expose] public section

set_option maxRecDepth 16384

noncomputable section

namespace Cert.Nsa

open Idealize.ShloMosaic Idealize.ShloMosaic.TcCoe
open Cert.KernelIdeal Cert.KernelIdeal.Gen

/-- A kernel's entry contents. -/
abbrev Entry := (c : Dev nD) → (b : Ref sig .tc) → Buf (Elt Ideal) ((c : Thread nD τ).loc b)

/-- The arrays the first kernel reads hold the data. -/
structure In0 (V : Entry) (c : Dev nD) (D : Data) : Prop where
  /-- The tokens. -/
  hx : ∀ b n k, V c main_v1 (ix3 b n k) = D.x b n k
  /-- The projection. -/
  hw : ∀ k o, V c main_v2 (ix2 k o) = D.w o k
  /-- Its bias. -/
  hb : ∀ o, V c main_v40 (ix2 0 o) = D.pb o
  /-- The gains. -/
  hg : ∀ o, V c main_v41 (ix2 0 o) = ((D.g o : ℝ) : EReal)
  /-- The query weights. -/
  hq : ∀ o e, V c main_arg6 (ix2 o e) = ((D.wq o e : ℝ) : EReal)
  /-- The key weights. -/
  hk : ∀ o e, V c main_arg7 (ix2 o e) = ((D.wk o e : ℝ) : EReal)
  /-- The value weights. -/
  hv : ∀ o e, V c main_arg8 (ix2 o e) = D.wv o e
  /-- The gate weights. -/
  hwg : ∀ o m, V c main_arg17 (ix2 o m) = D.wg o m
  /-- Their bias. -/
  hbg : ∀ m, V c main_v42 (ix2 0 m) = D.bg m

theorem idx0_0 : ∀ t : Fin cfg0.N, win0_0.index t = ![t.val, 0, 0] := by decide +kernel
theorem idx0_1 : ∀ t : Fin cfg0.N, win0_1.index t = ![0, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![0, 0] := by decide +kernel
theorem idx0_7 : ∀ t : Fin cfg0.N, win0_7.index t = ![0, 0] := by decide +kernel
theorem idx0_8 : ∀ t : Fin cfg0.N, win0_8.index t = ![0, 0] := by decide +kernel
theorem idx0_9 : ∀ t : Fin cfg0.N, win0_9.index t = ![t.val, 0, 0] := by decide +kernel
theorem idx0_10 : ∀ t : Fin cfg0.N, win0_10.index t = ![t.val, 0, 0, 0] := by decide +kernel
theorem idx0_11 : ∀ t : Fin cfg0.N, win0_11.index t = ![t.val, 0, 0, 0] := by decide +kernel
theorem idx0_12 : ∀ t : Fin cfg0.N, win0_12.index t = ![t.val, 0, 0, 0] := by decide +kernel
theorem idx0_13 : ∀ t : Fin cfg0.N, win0_13.index t = ![t.val, 0, 0, 0] := by decide +kernel

section
variable (V : Entry) (c : Dev nD) (D : Data) (H : In0 V c D) (t : Fin cfg0.N)

/-- The image a program works on. -/
def im0 (t : Fin cfg0.N) : Fin 4 := ⟨t.val, t.isLt⟩

include H

/-- The projected rows of a program. -/
theorem s0_5 (i : Fin 1024) (o : Fin 384) :
    k0_pay5 (iblk0 V c 0 t) (iblk0 V c 1 t) (iblk0 V c 2 t) (ix2 i o) = D.xin (im0 t) i o := by
  have e0 : ∀ k, iblk0 V c 0 t (ix3 0 i k) = V c main_v1 (ix3 (im0 t) i k) := fun k => by blk_ext [iblk0, idx0_0 t, im0]
  have e1 : ∀ k o, iblk0 V c 1 t (ix2 k o) = V c main_v2 (ix2 k o) := fun k o => by blk_ext [iblk0, idx0_1 t]
  have e2 : ∀ o, iblk0 V c 2 t (ix2 0 o) = V c main_v40 (ix2 0 o) := fun o => by blk_ext [iblk0, idx0_2 t]
  rw [p0pay5_at, e2, H.hb]
  simp only [e0, e1, H.hx, H.hw]
  rfl

/-- The normalized rows of a program. -/
theorem s0_7 (i : Fin 1024) (o : Fin 384) :
    k0_pay7 (iblk0 V c 0 t) (iblk0 V c 1 t) (iblk0 V c 2 t) (iblk0 V c 3 t) (ix2 i o) = ((D.xn (im0 t) i o : ℝ) : EReal) := by
  have e3 : ∀ o, iblk0 V c 3 t (ix2 0 o) = V c main_v41 (ix2 0 o) := fun o => by blk_ext [iblk0, idx0_3 t]
  exact p0pay7_at _ _ _ _ (D.xin (im0 t)) D.g (s0_5 V c D H t) (fun o => (e3 o).trans (H.hg o)) i o

end

end Cert.Nsa

end
-- ==== Proof.Nsa.Run.lean ====
/-
  The run of the kernel's program: it terminates, the arguments are unchanged, and the result array is named.
-/
module

public import proofs.«01_k».proof.Proof.Nsa.In0

@[expose] public section

set_option maxRecDepth 16384

noncomputable section

namespace Cert.Nsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the implicit arguments of the launch are found by unifying its conclusion with this one
set_option backward.isDefEq.respectTransparency.types false in
/-- The run of the whole program: it ends, the result array holds what the last stretch of host operations leaves there,
    and the arguments are as launched. -/
theorem run_main : θ_run defs (onTc (τ := τ) (main (F := Ideal))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c)⟩)

end Cert.Nsa

end
-- ==== Proof.Nsa.Holds.lean ====
/-
  What it means for the twenty argument arrays to hold the data of the problem.
-/
module

public import proofs.«01_k».proof.Proof.Nsa.Data

@[expose] public section

noncomputable section

namespace Cert.Nsa

open Idealize.ShloMosaic

/-- The argument arrays hold the data: real numbers for the gains and on the side of queries and keys, whatever they hold otherwise. -/
structure Holds (D : Data) (x0 : Vec Ideal (⟨4, ![4, 384, 32, 32]⟩ : Shape) .f32) (x1 : Vec Ideal (⟨2, ![384, 384]⟩ : Shape) .f32) (x2 : Vec Ideal (⟨1, ![384]⟩ : Shape) .f32)
    (x3 : Vec Ideal (⟨2, ![384, 384]⟩ : Shape) .f32) (x4 x5 : Vec Ideal (⟨1, ![384]⟩ : Shape) .f32) (x6 x7 x8 : Vec Ideal (⟨2, ![384, 512]⟩ : Shape) .f32)
    (x9 x10 : Vec Ideal (⟨3, ![8, 16, 64]⟩ : Shape) .f32) (x11 : Vec Ideal (⟨2, ![1024, 64]⟩ : Shape) .f32) (x12 : Vec Ideal (⟨1, ![64]⟩ : Shape) .f32)
    (x13 : Vec Ideal (⟨2, ![1024, 64]⟩ : Shape) .f32) (x14 : Vec Ideal (⟨1, ![64]⟩ : Shape) .f32) (x15 x16 : Vec Ideal (⟨3, ![8, 1, 64]⟩ : Shape) .f32)
    (x17 : Vec Ideal (⟨2, ![384, 24]⟩ : Shape) .f32) (x18 : Vec Ideal (⟨1, ![24]⟩ : Shape) .f32) (x19 : Vec Ideal (⟨2, ![512, 384]⟩ : Shape) .f32) : Prop where
  /-- The input. -/
  h0 : ∀ (b : Fin 4) (o : Fin 384) (n : Fin 1024), x0 (ix4 b o (⟨n.val / 32, by omega⟩ : Fin 32) (⟨n.val % 32, by omega⟩ : Fin 32)) = D.x b n o
  /-- The input projection. -/
  h1 : ∀ o k, x1 (ix2 o k) = D.w o k
  /-- Its bias. -/
  h2 : ∀ o, x2 (ix1 o) = D.pb o
  /-- The output projection. -/
  h3 : ∀ o k, x3 (ix2 o k) = D.po o k
  /-- Its bias. -/
  h4 : ∀ o, x4 (ix1 o) = D.pob o
  /-- The gains. -/
  h5 : ∀ o, x5 (ix1 o) = ((D.g o : ℝ) : EReal)
  /-- The query projection. -/
  h6 : ∀ o e, x6 (ix2 o e) = ((D.wq o e : ℝ) : EReal)
  /-- The key projection. -/
  h7 : ∀ o e, x7 (ix2 o e) = ((D.wk o e : ℝ) : EReal)
  /-- The value projection. -/
  h8 : ∀ o e, x8 (ix2 o e) = D.wv o e
  /-- The key positions. -/
  h9 : ∀ h p d, x9 (ix3 h p d) = ((D.kp h p d : ℝ) : EReal)
  /-- The value positions. -/
  h10 : ∀ h p d, x10 (ix3 h p d) = D.vp h p d
  /-- The compression of the keys. -/
  h11 : ∀ y e, x11 (ix2 y e) = ((D.wkc y e : ℝ) : EReal)
  /-- Its bias. -/
  h12 : ∀ e, x12 (ix1 e) = ((D.bkc e : ℝ) : EReal)
  /-- The compression of the values. -/
  h13 : ∀ y e, x13 (ix2 y e) = D.wvc y e
  /-- Its bias. -/
  h14 : ∀ e, x14 (ix1 e) = D.bvc e
  /-- The memory keys. -/
  h15 : ∀ h d, x15 (ix3 h 0 d) = ((D.mck h d : ℝ) : EReal)
  /-- The memory values. -/
  h16 : ∀ h d, x16 (ix3 h 0 d) = D.mcv h d
  /-- The gate projection. -/
  h17 : ∀ o m, x17 (ix2 o m) = D.wg o m
  /-- Its bias. -/
  h18 : ∀ m, x18 (ix1 m) = D.bg m
  /-- The projection of the attention rows. -/
  h19 : ∀ e o, x19 (ix2 e o) = D.wo e o

end Cert.Nsa

end
-- ==== Proof.Nsa.Host.lean ====
module

public import proofs.«01_k».proof.Proof.Nsa.Tool
public import proofs.«01_k».proof.Proof.Gen.KernelIdeal.Frame
public import Idealize.ShloMosaic.Lib.StableHlo.ReadAt
public import Idealize.ShloMosaic.Lib.Routing.OpsSet
import Idealize.ShloMosaic.Lib.Pipeline.ValueKit

@[expose] public section

set_option maxRecDepth 16384

noncomputable section

namespace Cert.Nsa

open Idealize.ShloMosaic
open Cert.KernelIdeal Cert.KernelIdeal.Gen

/-- The tokens: row `n` of batch `b` is the spatial position `(n / 32, n % 32)`. -/
theorem h_v1 (W : Valuation τ sig (Elt Ideal)) (b : Fin 4) (n : Fin 1024) (o : Fin 384) :
    StableHlo.after hostOps0 W (Proc.devRef .tc main_v1) (ix3 b n o)
      = W (Proc.devRef .tc main_arg0) (ix4 b o ⟨n.val / 32, by omega⟩ ⟨n.val % 32, by omega⟩) := by
  after_reads_at

/-- The first projection's weights, transposed. -/
theorem h_v2 (W : Valuation τ sig (Elt Ideal)) (c o : Fin 384) :
    StableHlo.after hostOps0 W (Proc.devRef .tc main_v2) (ix2 c o)
      = W (Proc.devRef .tc main_arg1) (ix2 o c) := by
  after_reads_at

/-- The last projection's weights, transposed. -/
theorem h_v3 (W : Valuation τ sig (Elt Ideal)) (c o : Fin 384) :
    StableHlo.after hostOps0 W (Proc.devRef .tc main_v3) (ix2 c o)
      = W (Proc.devRef .tc main_arg3) (ix2 o c) := by
  after_reads_at

/-- The key positions of a pair of heads, laid out by position, head and lane. -/
theorem h_v6 (W : Valuation τ sig (Elt Ideal)) (p : Fin 4) (x : Fin 2048) :
    StableHlo.after hostOps0 W (Proc.devRef .tc main_v6) (ix3 p 0 x)
      = W (Proc.devRef .tc main_arg9)
          (ix3 (⟨p.val * 2 + x.val / 64 % 2, by omega⟩ : Fin 8) (⟨x.val / 128, by omega⟩ : Fin 16)
            (⟨x.val % 64, by omega⟩ : Fin 64)) := by
  after_reads_at

/-- The value positions of a pair of heads, laid out by position, head and lane. -/
theorem h_v9 (W : Valuation τ sig (Elt Ideal)) (p : Fin 4) (x : Fin 2048) :
    StableHlo.after hostOps0 W (Proc.devRef .tc main_v9) (ix3 p 0 x)
      = W (Proc.devRef .tc main_arg10)
          (ix3 (⟨p.val * 2 + x.val / 64 % 2, by omega⟩ : Fin 8) (⟨x.val / 128, by omega⟩ : Fin 16)
            (⟨x.val % 64, by omega⟩ : Fin 64)) := by
  after_reads_at

/-- The compressed keys' bias, once per head of the pair. -/
theorem h_v35 (W : Valuation τ sig (Elt Ideal)) (c : Fin 128) :
    StableHlo.after hostOps0 W (Proc.devRef .tc main_v35) (ix2 0 c)
      = W (Proc.devRef .tc main_arg12) (ix1 (⟨c.val % 64, by omega⟩ : Fin 64)) := by
  after_reads_at

/-- The compressed values' bias, once per head of the pair. -/
theorem h_v39 (W : Valuation τ sig (Elt Ideal)) (c : Fin 128) :
    StableHlo.after hostOps0 W (Proc.devRef .tc main_v39) (ix2 0 c)
      = W (Proc.devRef .tc main_arg14) (ix1 (⟨c.val % 64, by omega⟩ : Fin 64)) := by
  after_reads_at

/-- The first projection's bias as a row. -/
theorem h_v40 (W : Valuation τ sig (Elt Ideal)) (c : Fin 384) :
    StableHlo.after hostOps0 W (Proc.devRef .tc main_v40) (ix2 0 c)
      = W (Proc.devRef .tc main_arg2) (ix1 c) := by
  after_reads_at

/-- The normalization's gains as a row. -/
theorem h_v41 (W : Valuation τ sig (Elt Ideal)) (c : Fin 384) :
    StableHlo.after hostOps0 W (Proc.devRef .tc main_v41) (ix2 0 c)
      = W (Proc.devRef .tc main_arg5) (ix1 c) := by
  after_reads_at

/-- The gates' bias as a row. -/
theorem h_v42 (W : Valuation τ sig (Elt Ideal)) (c : Fin 24) :
    StableHlo.after hostOps0 W (Proc.devRef .tc main_v42) (ix2 0 c)
      = W (Proc.devRef .tc main_arg18) (ix1 c) := by
  after_reads_at

/-- The last projection's bias as a row. -/
theorem h_v45 (W : Valuation τ sig (Elt Ideal)) (c : Fin 384) :
    StableHlo.after hostOps2 W (Proc.devRef .tc main_v45) (ix2 0 c)
      = W (Proc.devRef .tc main_arg4) (ix1 c) := by
  after_reads_at

/-- The result, back in spatial layout. -/
theorem h_v48 (W : Valuation τ sig (Elt Ideal)) (b : Fin 4) (c : Fin 384) (h w : Fin 32) :
    StableHlo.after hostOps3 W (Proc.devRef .tc main_v48) (ix4 b c h w)
      = W (Proc.devRef .tc main_v46) (ix3 b (⟨h.val * 32 + w.val, by omega⟩ : Fin 1024) c) := by
  after_reads_at

end Cert.Nsa
end
-- ==== Proof.Nsa.Scat.lean ====
/-
  The block-diagonal compression weights: a matrix written twice onto the diagonal blocks of a zero array.
-/
module

public import proofs.«01_k».proof.Proof.Nsa.Host
public import Idealize.ShloMosaic.Lib.Routing.OpsPair

@[expose] public section

set_option maxRecDepth 16384

noncomputable section

namespace Cert.Nsa

open Idealize.ShloMosaic Idealize.ShloMosaic.Routing
open Cert.KernelIdeal Cert.KernelIdeal.Gen

/-- The scatter that writes one diagonal block. -/
abbrev sd := scatter_S16x2x64x2x64_S2_S16x64x64_012_13_13_0

/-- Where an update lands: its three coordinates stay, the two block coordinates are the scatter's index. -/
theorem sd_lands (idx : IVec S2 32) (j : Fin 2) (h : ∀ a : Fin 2, (idx (ix1 a)).toInt = (j.val : Int))
    (k : S16x64x64.Idx) (y : S16x2x64x2x64.Idx) :
    sd.resultIdx? k idx = some y ↔
      ((k 0).val = (y 0).val ∧ (y 1).val = j.val ∧ (k 1).val = (y 2).val ∧ (y 3).val = j.val ∧ (k 2).val = (y 4).val) := by
  rw [resultIdx?_eq_some]
  have s0 : sd.start k idx 0 = 0 := rfl
  have s2 : sd.start k idx 2 = 0 := rfl
  have s4 : sd.start k idx 4 = 0 := rfl
  have e1 : sd.siIdx k ⟨0, by decide⟩ = ix1 0 := by funext a; fin_cases a; rfl
  have e3 : sd.siIdx k ⟨1, by decide⟩ = ix1 1 := by funext a; fin_cases a; rfl
  have s1 : sd.start k idx 1 = (j.val : Int) := by rw [← h 0, ← e1]; rfl
  have s3 : sd.start k idx 3 = (j.val : Int) := by rw [← h 1, ← e3]; rfl
  have w0 : sd.window k 0 = (k 0).val := rfl
  have w1 : sd.window k 1 = 0 := rfl
  have w2 : sd.window k 2 = (k 1).val := rfl
  have w3 : sd.window k 3 = 0 := rfl
  have w4 : sd.window k 4 = (k 2).val := rfl
  constructor
  · intro H
    have H0 := H 0; have H1 := H 1; have H2 := H 2; have H3 := H 3; have H4 := H 4
    rw [s0, w0] at H0; rw [s1, w1] at H1; rw [s2, w2] at H2; rw [s3, w3] at H3; rw [s4, w4] at H4
    refine ⟨?_, ?_, ?_, ?_, ?_⟩ <;> omega
  · rintro ⟨h0, h1, h2, h3, h4⟩ a
    fin_cases a
    · show sd.start k idx 0 + sd.window k 0 = _; rw [s0, w0]; show _ = ((y 0).val : Int); omega
    · show sd.start k idx 1 + sd.window k 1 = _; rw [s1, w1]; show _ = ((y 1).val : Int); omega
    · show sd.start k idx 2 + sd.window k 2 = _; rw [s2, w2]; show _ = ((y 2).val : Int); omega
    · show sd.start k idx 3 + sd.window k 3 = _; rw [s3, w3]; show _ = ((y 3).val : Int); omega
    · show sd.start k idx 4 + sd.window k 4 = _; rw [s4, w4]; show _ = ((y 4).val : Int); omega

/-- One such scatter read at an index: the matrix on its diagonal block, the operand elsewhere. -/
theorem sd_at (X : Vec Ideal S16x2x64x2x64 .f32) (idx : IVec S2 32) (j : Fin 2)
    (h : ∀ a : Fin 2, (idx (ix1 a)).toInt = (j.val : Int)) (U : Vec Ideal S16x64x64 .f32)
    (a : Fin 16) (u : Fin 2) (d : Fin 64) (v : Fin 2) (e : Fin 64) :
    Host.scatter sd (fun _ b => b) X idx U (ix5 a u d v e)
      = if u = j ∧ v = j then U (ix3 a d e) else X (ix5 a u d v e) := by
  by_cases hc : u = j ∧ v = j
  · rw [if_pos hc]
    refine scatter_set_hit sd X idx U _ _ (fun k hk => ?_) (ix3 a d e) ?_
    · obtain ⟨h0, -, h1, -, h2⟩ := (sd_lands idx j h k _).1 hk
      refine congrArg U (funext fun x => ?_)
      fin_cases x
      · exact Fin.ext h0
      · exact Fin.ext h1
      · exact Fin.ext h2
    · exact (sd_lands idx j h _ _).2 ⟨rfl, congrArg Fin.val hc.1, rfl, congrArg Fin.val hc.2, rfl⟩
  · rw [if_neg hc]
    refine scatter_set_miss sd X idx U _ fun k hk => hc ?_
    obtain ⟨-, h1, -, h2, -⟩ := (sd_lands idx j h k _).1 hk
    exact ⟨Fin.ext h1, Fin.ext h2⟩

/-- The weights written on both diagonal blocks, read at an index. -/
theorem diag_at (X : Vec Ideal S16x2x64x2x64 .f32) (U : Vec Ideal S16x64x64 .f32) (i j : IVec S2 32)
    (hi : ∀ a : Fin 2, i (ix1 a) = 0#32) (hj : ∀ a : Fin 2, j (ix1 a) = 1#32)
    (a : Fin 16) (u : Fin 2) (d : Fin 64) (v : Fin 2) (e : Fin 64) :
    Host.scatter sd (fun _ b => b) (Host.scatter sd (fun _ b => b) X i U) j U (ix5 a u d v e)
      = if u = v then U (ix3 a d e) else X (ix5 a u d v e) := by
  rw [sd_at _ j 1 (fun a => by rw [hj]; rfl), sd_at _ i 0 (fun a => by rw [hi]; rfl)]
  fin_cases u <;> fin_cases v <;> rfl

/-- The compressed keys' weights, block-diagonal in the head of the pair. -/
theorem h_v20 (W : Valuation τ sig (Elt Ideal)) (x : Fin 2048) (c : Fin 128) :
    StableHlo.after hostOps0 W (Proc.devRef .tc main_v20) (ix2 x c)
      = if x.val / 64 % 2 = c.val / 64 then
          W (Proc.devRef .tc main_arg11) (ix2 (⟨x.val / 128 * 64 + x.val % 64, by omega⟩ : Fin 1024) (⟨c.val % 64, by omega⟩ : Fin 64))
        else (0 : EReal) := by
  after_reads_simp
  clean_types
  pointwise
  refine (diag_at _ _ _ _ (fun a => ?_) (fun a => ?_) _ _ _ _ _).trans ?_
  · fin_cases a <;> (pointwise; after_reads_at)
  · fin_cases a <;> (pointwise; after_reads_at)
  · pointwise
    exact if_congr (Fin.ext_iff) rfl rfl

/-- The compressed values' weights, block-diagonal in the head of the pair. -/
theorem h_v31 (W : Valuation τ sig (Elt Ideal)) (x : Fin 2048) (c : Fin 128) :
    StableHlo.after hostOps0 W (Proc.devRef .tc main_v31) (ix2 x c)
      = if x.val / 64 % 2 = c.val / 64 then
          W (Proc.devRef .tc main_arg13) (ix2 (⟨x.val / 128 * 64 + x.val % 64, by omega⟩ : Fin 1024) (⟨c.val % 64, by omega⟩ : Fin 64))
        else (0 : EReal) := by
  after_reads_simp
  clean_types
  pointwise
  refine (diag_at _ _ _ _ (fun a => ?_) (fun a => ?_) _ _ _ _ _).trans ?_
  · fin_cases a <;> (pointwise; after_reads_at)
  · fin_cases a <;> (pointwise; after_reads_at)
  · pointwise
    exact if_congr (Fin.ext_iff) rfl rfl

/-- A sum over the 2048 rows against one column of a block-diagonal matrix: only the rows of the column's head count. -/
theorem sum_diag (f : Fin 2048 → EReal) (Wt : Fin 1024 → EReal) (u : Fin 2) :
    (∑ x : Fin 2048, f x * (if x.val / 64 % 2 = u.val then Wt (⟨x.val / 128 * 64 + x.val % 64, by omega⟩ : Fin 1024) else 0))
      = ∑ y : Fin 1024, f ⟨y.val / 64 * 128 + 64 * u.val + y.val % 64, by omega⟩ * Wt y := by
  have h1 : ∀ x : Fin 2048, (f x * (if x.val / 64 % 2 = u.val then Wt (⟨x.val / 128 * 64 + x.val % 64, by omega⟩ : Fin 1024) else 0))
      = if x.val / 64 % 2 = u.val then f x * Wt (⟨x.val / 128 * 64 + x.val % 64, by omega⟩ : Fin 1024) else 0 := fun x => by
    split
    · rfl
    · exact mul_zero _
  rw [Finset.sum_congr rfl fun x _ => h1 x, ← Finset.sum_filter]
  refine Finset.sum_bij' (fun x _ => (⟨x.val / 128 * 64 + x.val % 64, by omega⟩ : Fin 1024))
    (fun y _ => (⟨y.val / 64 * 128 + 64 * u.val + y.val % 64, by omega⟩ : Fin 2048)) ?_ ?_ ?_ ?_ ?_
  · intro x _; exact Finset.mem_univ _
  · intro y _
    rw [Finset.mem_filter]
    refine ⟨Finset.mem_univ _, ?_⟩
    show (y.val / 64 * 128 + 64 * u.val + y.val % 64) / 64 % 2 = u.val
    omega
  · intro x hx
    rw [Finset.mem_filter] at hx
    have := hx.2
    refine Fin.ext ?_
    show (x.val / 128 * 64 + x.val % 64) / 64 * 128 + 64 * u.val + (x.val / 128 * 64 + x.val % 64) % 64 = x.val
    omega
  · intro y _
    refine Fin.ext ?_
    show (y.val / 64 * 128 + 64 * u.val + y.val % 64) / 128 * 64 + (y.val / 64 * 128 + 64 * u.val + y.val % 64) % 64 = y.val
    omega
  · intro x hx
    rw [Finset.mem_filter] at hx
    have := hx.2
    have e : (⟨(x.val / 128 * 64 + x.val % 64) / 64 * 128 + 64 * u.val + (x.val / 128 * 64 + x.val % 64) % 64, by omega⟩ : Fin 2048) = x :=
      Fin.ext (by show (x.val / 128 * 64 + x.val % 64) / 64 * 128 + 64 * u.val + (x.val / 128 * 64 + x.val % 64) % 64 = x.val; omega)
    show _ = f ⟨(x.val / 128 * 64 + x.val % 64) / 64 * 128 + 64 * u.val + (x.val / 128 * 64 + x.val % 64) % 64, _⟩ * _
    rw [e]

end Cert.Nsa
end
-- ==== Proof.Nsa.Reg0.lean ====
/-
  What the first kernel leaves in its five arrays: the projected input, the queries, keys and values of the four pairs
  of heads, and their gates.
-/
module

public import proofs.«01_k».proof.Proof.Nsa.In0
import Idealize.ShloMosaic.Lib.Pipeline.ValueKit

@[expose] public section

set_option maxRecDepth 16384
set_option maxHeartbeats 1000000

noncomputable section

namespace Cert.Nsa

open Idealize.ShloMosaic Idealize.ShloMosaic.TcCoe
open Cert.KernelIdeal Cert.KernelIdeal.Gen

section
variable (V : Entry) (c : Dev nD) (D : Data) (H : In0 V c D)
include H

/-- The stored input rows of a program. -/
theorem b0_9 (t : Fin cfg0.N) (y : S1x1024x384.Idx) :
    out0_9 (iblk0 V c 0 t) (iblk0 V c 1 t) (iblk0 V c 2 t) (iblk0 V c 3 t) (iblk0 V c 4 t) (iblk0 V c 5 t) (iblk0 V c 6 t) (iblk0 V c 7 t) (iblk0 V c 8 t) y
      = D.xin (im0 t) (y 1) (y 2) := by
  have hy : y = ix3 0 (y 1) (y 2) := by blk_ext
  rw [hy]
  exact (out9_at _ _ _ _ _ _ _ _ _ (y 1) (y 2)).trans (s0_5 V c D H t _ _)

omit H in
/-- Where a program's rows go. -/
theorem e0_9 (t : Fin cfg0.N) (y : S1x1024x384.Idx) : (win0_9.blk t).view.emb y = ix3 (im0 t) (y 1) (y 2) := by
  blk_ext [idx0_9 t, im0]

/-- The projected input, as the first kernel leaves it. -/
theorem arr0_9 : (dat0 V c).arrAt 9 cfg0.N = fun i : S4x1024x384.Idx => D.xin (i 0) (i 1) (i 2) := by
  refine (dat0 V c).arrAt_eq_of_covers 9 _ (by decide +kernel) fun t hf y => ?_
  blk_simp; rw [after0_9]
  rw [b0_9 V c D H t y, e0_9 t y]
  rfl

/-- The queries, as a program stores them. -/
theorem b0_10 (t : Fin cfg0.N) (y : S1x4x1024x128.Idx) :
    out0_10 (iblk0 V c 0 t) (iblk0 V c 1 t) (iblk0 V c 2 t) (iblk0 V c 3 t) (iblk0 V c 4 t) (iblk0 V c 5 t) (iblk0 V c 6 t) (iblk0 V c 7 t) (iblk0 V c 8 t) y
      = ((D.q (im0 t) (y 2) (pcol (y 1) (y 3)) : ℝ) : EReal) := by
  have hy : y = ix4 0 (y 1) (y 2) (y 3) := by blk_ext
  rw [hy]
  have e : ∀ o e, iblk0 V c 4 t (ix2 o e) = V c main_arg6 (ix2 o e) := fun o e => by blk_ext [iblk0, idx0_4 t]
  refine (out10_at _ _ _ _ _ _ _ _ _ (y 1) (y 2) (y 3)).trans ?_
  rw [pay27_eq]
  exact p0pay8_at _ _ _ _ _ (D.xn (im0 t)) D.wq (s0_7 V c D H t) (fun o f => (e o f).trans (H.hq o f)) _ _

omit H in
/-- Where a program's block goes. -/
theorem e0_10 (t : Fin cfg0.N) (y : S1x4x1024x128.Idx) : (win0_10.blk t).view.emb y = ix4 (im0 t) (y 1) (y 2) (y 3) := by
  blk_ext [idx0_10 t, im0]

/-- The queries, as the first kernel leaves them. -/
theorem arr0_10 : (dat0 V c).arrAt 10 cfg0.N = fun i : S4x4x1024x128.Idx => ((D.q (i 0) (i 2) (pcol (i 1) (i 3)) : ℝ) : EReal) := by
  refine (dat0 V c).arrAt_eq_of_covers 10 _ (by decide +kernel) fun t hf y => ?_
  blk_simp; rw [after0_10]
  rw [b0_10 V c D H t y, e0_10 t y]
  rfl

/-- The keys, as a program stores them. -/
theorem b0_11 (t : Fin cfg0.N) (y : S1x4x1024x128.Idx) :
    out0_11 (iblk0 V c 0 t) (iblk0 V c 1 t) (iblk0 V c 2 t) (iblk0 V c 3 t) (iblk0 V c 4 t) (iblk0 V c 5 t) (iblk0 V c 6 t) (iblk0 V c 7 t) (iblk0 V c 8 t) y
      = ((D.k (im0 t) (y 2) (pcol (y 1) (y 3)) : ℝ) : EReal) := by
  have hy : y = ix4 0 (y 1) (y 2) (y 3) := by blk_ext
  rw [hy]
  have e : ∀ o e, iblk0 V c 5 t (ix2 o e) = V c main_arg7 (ix2 o e) := fun o e => by blk_ext [iblk0, idx0_5 t]
  refine (out11_at _ _ _ _ _ _ _ _ _ (y 1) (y 2) (y 3)).trans ?_
  rw [pay28_eq]
  exact p0pay9_at _ _ _ _ _ (D.xn (im0 t)) D.wk (s0_7 V c D H t) (fun o f => (e o f).trans (H.hk o f)) _ _

omit H in
/-- Where a program's block goes. -/
theorem e0_11 (t : Fin cfg0.N) (y : S1x4x1024x128.Idx) : (win0_11.blk t).view.emb y = ix4 (im0 t) (y 1) (y 2) (y 3) := by
  blk_ext [idx0_11 t, im0]

/-- The keys, as the first kernel leaves them. -/
theorem arr0_11 : (dat0 V c).arrAt 11 cfg0.N = fun i : S4x4x1024x128.Idx => ((D.k (i 0) (i 2) (pcol (i 1) (i 3)) : ℝ) : EReal) := by
  refine (dat0 V c).arrAt_eq_of_covers 11 _ (by decide +kernel) fun t hf y => ?_
  blk_simp; rw [after0_11]
  rw [b0_11 V c D H t y, e0_11 t y]
  rfl

/-- The values, as a program stores them. -/
theorem b0_12 (t : Fin cfg0.N) (y : S1x4x1024x128.Idx) :
    out0_12 (iblk0 V c 0 t) (iblk0 V c 1 t) (iblk0 V c 2 t) (iblk0 V c 3 t) (iblk0 V c 4 t) (iblk0 V c 5 t) (iblk0 V c 6 t) (iblk0 V c 7 t) (iblk0 V c 8 t) y
      = D.v (im0 t) (y 2) (pcol (y 1) (y 3)) := by
  have hy : y = ix4 0 (y 1) (y 2) (y 3) := by blk_ext
  rw [hy]
  have e : ∀ o e, iblk0 V c 6 t (ix2 o e) = V c main_arg8 (ix2 o e) := fun o e => by blk_ext [iblk0, idx0_6 t]
  refine (out12_at _ _ _ _ _ _ _ _ _ (y 1) (y 2) (y 3)).trans ?_
  rw [pay29_eq]
  exact p0pay10_at _ _ _ _ _ (D.xn (im0 t)) D.wv (s0_7 V c D H t) (fun o f => (e o f).trans (H.hv o f)) _ _

omit H in
/-- Where a program's block goes. -/
theorem e0_12 (t : Fin cfg0.N) (y : S1x4x1024x128.Idx) : (win0_12.blk t).view.emb y = ix4 (im0 t) (y 1) (y 2) (y 3) := by
  blk_ext [idx0_12 t, im0]

/-- The values, as the first kernel leaves them. -/
theorem arr0_12 : (dat0 V c).arrAt 12 cfg0.N = fun i : S4x4x1024x128.Idx => D.v (i 0) (i 2) (pcol (i 1) (i 3)) := by
  refine (dat0 V c).arrAt_eq_of_covers 12 _ (by decide +kernel) fun t hf y => ?_
  blk_simp; rw [after0_12]
  rw [b0_12 V c D H t y, e0_12 t y]
  rfl

/-- The gates, as a program stores them. -/
theorem w0_13 (t : Fin cfg0.N) (p : Fin 4) (i : Fin 1024) (z : Fin 6) :
    out0_13 (iblk0 V c 0 t) (iblk0 V c 1 t) (iblk0 V c 2 t) (iblk0 V c 3 t) (iblk0 V c 4 t) (iblk0 V c 5 t) (iblk0 V c 6 t) (iblk0 V c 7 t) (iblk0 V c 8 t) (ix4 0 p i z)
      = D.gate (im0 t) i (pgate p z) := by
  have e7 : ∀ o m, iblk0 V c 7 t (ix2 o m) = V c main_arg17 (ix2 o m) := fun o m => by blk_ext [iblk0, idx0_7 t]
  have e8 : ∀ m, iblk0 V c 8 t (ix2 0 m) = V c main_v42 (ix2 0 m) := fun m => by blk_ext [iblk0, idx0_8 t]
  refine (out13_at _ _ _ _ _ _ _ _ _ p i z).trans ?_
  rw [pay30_eq]
  refine (p0pay11_at _ _ _ _ _).trans ?_
  simp only [e7, e8, H.hwg, H.hbg, s0_7 V c D H t]
  rfl

/-- The same at any place of the block. -/
theorem b0_13 (t : Fin cfg0.N) (y : S1x4x1024x6.Idx) :
    out0_13 (iblk0 V c 0 t) (iblk0 V c 1 t) (iblk0 V c 2 t) (iblk0 V c 3 t) (iblk0 V c 4 t) (iblk0 V c 5 t) (iblk0 V c 6 t) (iblk0 V c 7 t) (iblk0 V c 8 t) y
      = D.gate (im0 t) (y 2) (pgate (y 1) (y 3)) := by
  have hy : y = ix4 0 (y 1) (y 2) (y 3) := by blk_ext
  rw [hy]
  exact w0_13 V c D H t (y 1) (y 2) (y 3)

omit H in
/-- Where a program's gates go. -/
theorem e0_13 (t : Fin cfg0.N) (y : S1x4x1024x6.Idx) : (win0_13.blk t).view.emb y = ix4 (im0 t) (y 1) (y 2) (y 3) := by
  blk_ext [idx0_13 t, im0]

/-- The gates, as the first kernel leaves them. -/
theorem arr0_13 : (dat0 V c).arrAt 13 cfg0.N = fun i : S4x4x1024x6.Idx => D.gate (i 0) (i 2) (pgate (i 1) (i 3)) := by
  refine (dat0 V c).arrAt_eq_of_covers 13 _ (by decide +kernel) fun t hf y => ?_
  blk_simp; rw [after0_13]
  rw [b0_13 V c D H t y, e0_13 t y]
  rfl

end

end Cert.Nsa

end
-- ==== Proof.Nsa.AttnA.lean ====
/-
  What the attention block first reads off its keys and values: the rows of each block of sixteen, and the compressed keys and
  values, which are one dense layer over the sixteen rows of a block.
-/
module

public import proofs.«01_k».proof.Proof.Gen.KernelIdeal.Skeleton
public import proofs.«01_k».proof.Proof.Nsa.Tool

@[expose] public section

set_option maxRecDepth 16384

noncomputable section

namespace Cert.Nsa

open Idealize.ShloMosaic
open Cert.KernelIdeal Cert.KernelIdeal.Gen

/-- The row of the block `j` that stands in column `x` of the flattened block. -/
def brow (j : Fin 64) (x : Fin 2048) : Fin 1024 := ⟨16 * j.val + x.val / 128, by omega⟩
/-- The lane that stands in column `x` of the flattened block. -/
def bcol (x : Fin 2048) : Fin 128 := ⟨x.val % 128, by omega⟩
/-- Row `t` of the block `j`. -/
def prow (t : Fin 16) (j : Fin 64) : Fin 1024 := ⟨16 * j.val + t.val, by omega⟩

/-- The 1024 rows as 64 blocks of 16, read at a block, a row in it and a lane. -/
theorem blocks_at (X : FVec Ideal S1024x128 .f32) (h : S1024x128.ShapeCasts S64x16x128) (j : Fin 64) (t : Fin 16) (c : Fin 128) :
    shapeCast S64x16x128 X h (ix3 j t c) = X (ix2 (prow t j) c) := by
  have e : (⟨j.val * 16 + t.val, by omega⟩ : Fin 1024) = prow t j := Fin.ext (by simp only [prow]; omega)
  rw [← e]; pointwise []

/-- Row 0 of every block. -/
theorem pay20_at (X : FVec Ideal S1024x128 .f32) (j : Fin 64) (c : Fin 128) : k1_pay20 X (ix2 j c) = X (ix2 (prow 0 j) c) := by
  have e : (⟨j.val * 16 + 0, by omega⟩ : Fin 1024) = prow 0 j := Fin.ext (by simp only [prow]; omega)
  rw [← e]; pointwise [k1_pay20, k1_pay18]
/-- Row 1 of every block. -/
theorem pay21_at (X : FVec Ideal S1024x128 .f32) (j : Fin 64) (c : Fin 128) : k1_pay21 X (ix2 j c) = X (ix2 (prow 1 j) c) := by
  have e : (⟨j.val * 16 + 1, by omega⟩ : Fin 1024) = prow 1 j := Fin.ext (by simp only [prow]; omega)
  rw [← e]; pointwise [k1_pay21, k1_pay18]
/-- Row 2 of every block. -/
theorem pay22_at (X : FVec Ideal S1024x128 .f32) (j : Fin 64) (c : Fin 128) : k1_pay22 X (ix2 j c) = X (ix2 (prow 2 j) c) := by
  have e : (⟨j.val * 16 + 2, by omega⟩ : Fin 1024) = prow 2 j := Fin.ext (by simp only [prow]; omega)
  rw [← e]; pointwise [k1_pay22, k1_pay18]
/-- Row 3 of every block. -/
theorem pay23_at (X : FVec Ideal S1024x128 .f32) (j : Fin 64) (c : Fin 128) : k1_pay23 X (ix2 j c) = X (ix2 (prow 3 j) c) := by
  have e : (⟨j.val * 16 + 3, by omega⟩ : Fin 1024) = prow 3 j := Fin.ext (by simp only [prow]; omega)
  rw [← e]; pointwise [k1_pay23, k1_pay18]
/-- Row 4 of every block. -/
theorem pay24_at (X : FVec Ideal S1024x128 .f32) (j : Fin 64) (c : Fin 128) : k1_pay24 X (ix2 j c) = X (ix2 (prow 4 j) c) := by
  have e : (⟨j.val * 16 + 4, by omega⟩ : Fin 1024) = prow 4 j := Fin.ext (by simp only [prow]; omega)
  rw [← e]; pointwise [k1_pay24, k1_pay18]
/-- Row 5 of every block. -/
theorem pay25_at (X : FVec Ideal S1024x128 .f32) (j : Fin 64) (c : Fin 128) : k1_pay25 X (ix2 j c) = X (ix2 (prow 5 j) c) := by
  have e : (⟨j.val * 16 + 5, by omega⟩ : Fin 1024) = prow 5 j := Fin.ext (by simp only [prow]; omega)
  rw [← e]; pointwise [k1_pay25, k1_pay18]
/-- Row 6 of every block. -/
theorem pay26_at (X : FVec Ideal S1024x128 .f32) (j : Fin 64) (c : Fin 128) : k1_pay26 X (ix2 j c) = X (ix2 (prow 6 j) c) := by
  have e : (⟨j.val * 16 + 6, by omega⟩ : Fin 1024) = prow 6 j := Fin.ext (by simp only [prow]; omega)
  rw [← e]; pointwise [k1_pay26, k1_pay18]
/-- Row 7 of every block. -/
theorem pay27_at (X : FVec Ideal S1024x128 .f32) (j : Fin 64) (c : Fin 128) : k1_pay27 X (ix2 j c) = X (ix2 (prow 7 j) c) := by
  have e : (⟨j.val * 16 + 7, by omega⟩ : Fin 1024) = prow 7 j := Fin.ext (by simp only [prow]; omega)
  rw [← e]; pointwise [k1_pay27, k1_pay18]
/-- Row 8 of every block. -/
theorem pay28_at (X : FVec Ideal S1024x128 .f32) (j : Fin 64) (c : Fin 128) : k1_pay28 X (ix2 j c) = X (ix2 (prow 8 j) c) := by
  have e : (⟨j.val * 16 + 8, by omega⟩ : Fin 1024) = prow 8 j := Fin.ext (by simp only [prow]; omega)
  rw [← e]; pointwise [k1_pay28, k1_pay18]
/-- Row 9 of every block. -/
theorem pay29_at (X : FVec Ideal S1024x128 .f32) (j : Fin 64) (c : Fin 128) : k1_pay29 X (ix2 j c) = X (ix2 (prow 9 j) c) := by
  have e : (⟨j.val * 16 + 9, by omega⟩ : Fin 1024) = prow 9 j := Fin.ext (by simp only [prow]; omega)
  rw [← e]; pointwise [k1_pay29, k1_pay18]
/-- Row 10 of every block. -/
theorem pay30_at (X : FVec Ideal S1024x128 .f32) (j : Fin 64) (c : Fin 128) : k1_pay30 X (ix2 j c) = X (ix2 (prow 10 j) c) := by
  have e : (⟨j.val * 16 + 10, by omega⟩ : Fin 1024) = prow 10 j := Fin.ext (by simp only [prow]; omega)
  rw [← e]; pointwise [k1_pay30, k1_pay18]
/-- Row 11 of every block. -/
theorem pay31_at (X : FVec Ideal S1024x128 .f32) (j : Fin 64) (c : Fin 128) : k1_pay31 X (ix2 j c) = X (ix2 (prow 11 j) c) := by
  have e : (⟨j.val * 16 + 11, by omega⟩ : Fin 1024) = prow 11 j := Fin.ext (by simp only [prow]; omega)
  rw [← e]; pointwise [k1_pay31, k1_pay18]
/-- Row 12 of every block. -/
theorem pay32_at (X : FVec Ideal S1024x128 .f32) (j : Fin 64) (c : Fin 128) : k1_pay32 X (ix2 j c) = X (ix2 (prow 12 j) c) := by
  have e : (⟨j.val * 16 + 12, by omega⟩ : Fin 1024) = prow 12 j := Fin.ext (by simp only [prow]; omega)
  rw [← e]; pointwise [k1_pay32, k1_pay18]
/-- Row 13 of every block. -/
theorem pay33_at (X : FVec Ideal S1024x128 .f32) (j : Fin 64) (c : Fin 128) : k1_pay33 X (ix2 j c) = X (ix2 (prow 13 j) c) := by
  have e : (⟨j.val * 16 + 13, by omega⟩ : Fin 1024) = prow 13 j := Fin.ext (by simp only [prow]; omega)
  rw [← e]; pointwise [k1_pay33, k1_pay18]
/-- Row 14 of every block. -/
theorem pay34_at (X : FVec Ideal S1024x128 .f32) (j : Fin 64) (c : Fin 128) : k1_pay34 X (ix2 j c) = X (ix2 (prow 14 j) c) := by
  have e : (⟨j.val * 16 + 14, by omega⟩ : Fin 1024) = prow 14 j := Fin.ext (by simp only [prow]; omega)
  rw [← e]; pointwise [k1_pay34, k1_pay18]
/-- Row 15 of every block. -/
theorem pay35_at (X : FVec Ideal S1024x128 .f32) (j : Fin 64) (c : Fin 128) : k1_pay35 X (ix2 j c) = X (ix2 (prow 15 j) c) := by
  have e : (⟨j.val * 16 + 15, by omega⟩ : Fin 1024) = prow 15 j := Fin.ext (by simp only [prow]; omega)
  rw [← e]; pointwise [k1_pay35, k1_pay18]
/-- Row 0 of every block. -/
theorem pay36_at (X : FVec Ideal S1024x128 .f32) (j : Fin 64) (c : Fin 128) : k1_pay36 X (ix2 j c) = X (ix2 (prow 0 j) c) := by
  have e : (⟨j.val * 16 + 0, by omega⟩ : Fin 1024) = prow 0 j := Fin.ext (by simp only [prow]; omega)
  rw [← e]; pointwise [k1_pay36, k1_pay19]
/-- Row 1 of every block. -/
theorem pay37_at (X : FVec Ideal S1024x128 .f32) (j : Fin 64) (c : Fin 128) : k1_pay37 X (ix2 j c) = X (ix2 (prow 1 j) c) := by
  have e : (⟨j.val * 16 + 1, by omega⟩ : Fin 1024) = prow 1 j := Fin.ext (by simp only [prow]; omega)
  rw [← e]; pointwise [k1_pay37, k1_pay19]
/-- Row 2 of every block. -/
theorem pay38_at (X : FVec Ideal S1024x128 .f32) (j : Fin 64) (c : Fin 128) : k1_pay38 X (ix2 j c) = X (ix2 (prow 2 j) c) := by
  have e : (⟨j.val * 16 + 2, by omega⟩ : Fin 1024) = prow 2 j := Fin.ext (by simp only [prow]; omega)
  rw [← e]; pointwise [k1_pay38, k1_pay19]
/-- Row 3 of every block. -/
theorem pay39_at (X : FVec Ideal S1024x128 .f32) (j : Fin 64) (c : Fin 128) : k1_pay39 X (ix2 j c) = X (ix2 (prow 3 j) c) := by
  have e : (⟨j.val * 16 + 3, by omega⟩ : Fin 1024) = prow 3 j := Fin.ext (by simp only [prow]; omega)
  rw [← e]; pointwise [k1_pay39, k1_pay19]

/-- Sixteen pieces side by side, read at a column. -/
theorem conc16 (f : Fin 16 → FVec Ideal S64x128 .f32) (j : Fin 64) (x : Fin 2048) :
    concatenate S64x2048 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩, ⟨S64x128, f 8⟩, ⟨S64x128, f 9⟩, ⟨S64x128, f 10⟩, ⟨S64x128, f 11⟩, ⟨S64x128, f 12⟩, ⟨S64x128, f 13⟩, ⟨S64x128, f 14⟩, ⟨S64x128, f 15⟩] concatenates_S64x128_S64x128_S64x128_S64x128_S64x128_S64x128_S64x128_S64x128_S64x128_S64x128_S64x128_S64x128_S64x128_S64x128_S64x128_S64x128_S64x2048_d1 (ix2 j x)
      = f ⟨x.val / 128, by omega⟩ (ix2 j (bcol x)) := by
  refine concatenate_ofFn_apply (t := S64x2048) (s₁ := S64x128) 1 f concatenates_S64x128_S64x128_S64x128_S64x128_S64x128_S64x128_S64x128_S64x128_S64x128_S64x128_S64x128_S64x128_S64x128_S64x128_S64x128_S64x128_S64x2048_d1 rfl 128 rfl (ix2 j x) ⟨x.val / 128, by omega⟩ rfl _ rfl ?_
  intro b hb
  fin_cases b
  · rfl
  · exact absurd rfl hb

/-- The dense layer over a flattened block, for any flattened rows. -/
def dense (Y : FVec Ideal S64x2048 .f32) (p : Vec Ideal S1x1x2048 .f32) (w : Vec Ideal S2048x128 .f32) : FVec Ideal S64x128 .f32 :=
  matmul dot_S64x2048_S2048x128_S64x128_1_0_0_1_n_n none
    (addf Y (broadcastTo S64x2048 (shapeCast S1x2048 p shapeCasts_S1x1x2048_S1x2048) broadcasts_S1x2048_S64x2048))
    (shapeCast S2048x128 w shapeCasts_S2048x128_S2048x128 : FVec Ideal S2048x128 .f32) (constant S64x128 .f32 0x00000000#32)

/-- It at a block and a lane. -/
theorem dense_at (Y : FVec Ideal S64x2048 .f32) (p : Vec Ideal S1x1x2048 .f32) (w : Vec Ideal S2048x128 .f32) (j : Fin 64) (c : Fin 128) :
    dense Y p w (ix2 j c) = ∑ x : Fin 2048, (Y (ix2 j x) + p (ix3 0 0 x)) * w (ix2 x c) := by
  pointwise [dense]

/-- The sixteen rows of every block, row by row. -/
def parts (X : FVec Ideal S1024x128 .f32) : Fin 16 → FVec Ideal S64x128 .f32 :=
  ![k1_pay20 X, k1_pay21 X, k1_pay22 X, k1_pay23 X, k1_pay24 X, k1_pay25 X, k1_pay26 X, k1_pay27 X, k1_pay28 X, k1_pay29 X, k1_pay30 X, k1_pay31 X, k1_pay32 X, k1_pay33 X, k1_pay34 X, k1_pay35 X]

/-- Each is that row. -/
theorem parts_at (X : FVec Ideal S1024x128 .f32) (t : Fin 16) (j : Fin 64) (l : Fin 128) : parts X t (ix2 j l) = X (ix2 (prow t j) l) := by
  fin_cases t
  · exact pay20_at X j l
  · exact pay21_at X j l
  · exact pay22_at X j l
  · exact pay23_at X j l
  · exact pay24_at X j l
  · exact pay25_at X j l
  · exact pay26_at X j l
  · exact pay27_at X j l
  · exact pay28_at X j l
  · exact pay29_at X j l
  · exact pay30_at X j l
  · exact pay31_at X j l
  · exact pay32_at X j l
  · exact pay33_at X j l
  · exact pay34_at X j l
  · exact pay35_at X j l

/-- The flattened blocks. -/
def flat (X : FVec Ideal S1024x128 .f32) : FVec Ideal S64x2048 .f32 :=
  concatenate S64x2048 1 [⟨S64x128, parts X 0⟩, ⟨S64x128, parts X 1⟩, ⟨S64x128, parts X 2⟩, ⟨S64x128, parts X 3⟩, ⟨S64x128, parts X 4⟩, ⟨S64x128, parts X 5⟩, ⟨S64x128, parts X 6⟩, ⟨S64x128, parts X 7⟩, ⟨S64x128, parts X 8⟩, ⟨S64x128, parts X 9⟩, ⟨S64x128, parts X 10⟩, ⟨S64x128, parts X 11⟩, ⟨S64x128, parts X 12⟩, ⟨S64x128, parts X 13⟩, ⟨S64x128, parts X 14⟩, ⟨S64x128, parts X 15⟩] concatenates_S64x128_S64x128_S64x128_S64x128_S64x128_S64x128_S64x128_S64x128_S64x128_S64x128_S64x128_S64x128_S64x128_S64x128_S64x128_S64x128_S64x2048_d1

/-- A flattened block read at a column. -/
theorem flat_at (X : FVec Ideal S1024x128 .f32) (j : Fin 64) (x : Fin 2048) : flat X (ix2 j x) = X (ix2 (brow j x) (bcol x)) :=
  (conc16 (parts X) j x).trans (parts_at X _ j _)

/-- The compressed keys: every block of sixteen rows, with the position added, through the dense layer. -/
theorem pay40_at (X : FVec Ideal S1024x128 .f32) (p : Vec Ideal S1x1x2048 .f32) (w : Vec Ideal S2048x128 .f32) (b : Vec Ideal S1x128 .f32) (j : Fin 64) (c : Fin 128) :
    k1_pay40 (k1_pay20 X) (k1_pay21 X) (k1_pay22 X) (k1_pay23 X) (k1_pay24 X) (k1_pay25 X) (k1_pay26 X) (k1_pay27 X) (k1_pay28 X) (k1_pay29 X) (k1_pay30 X) (k1_pay31 X) (k1_pay32 X) (k1_pay33 X) (k1_pay34 X) (k1_pay35 X) p w b (ix2 j c)
      = (∑ x : Fin 2048, (X (ix2 (brow j x) (bcol x)) + p (ix3 0 0 x)) * w (ix2 x c)) + b (ix2 0 c) := by
  have h : k1_pay40 (k1_pay20 X) (k1_pay21 X) (k1_pay22 X) (k1_pay23 X) (k1_pay24 X) (k1_pay25 X) (k1_pay26 X) (k1_pay27 X) (k1_pay28 X) (k1_pay29 X) (k1_pay30 X) (k1_pay31 X) (k1_pay32 X) (k1_pay33 X) (k1_pay34 X) (k1_pay35 X) p w b
      = addf (dense (flat X) p w) (broadcastTo S64x128 (shapeCast S1x128 b shapeCasts_S1x128_S1x128) broadcasts_S1x128_S64x128) := rfl
  have hb : broadcastTo S64x128 (shapeCast S1x128 b shapeCasts_S1x128_S1x128) broadcasts_S1x128_S64x128 (ix2 j c) = b (ix2 0 c) := by
    pointwise []
  rw [h]
  show dense _ p w (ix2 j c) + broadcastTo S64x128 (shapeCast S1x128 b shapeCasts_S1x128_S1x128) broadcasts_S1x128_S64x128 (ix2 j c) = _
  rw [hb, dense_at]
  simp only [flat_at]

/-- The compressed values before the bias. -/
theorem pay41_at (X : FVec Ideal S1024x128 .f32) (p : Vec Ideal S1x1x2048 .f32) (w : Vec Ideal S2048x128 .f32) (j : Fin 64) (c : Fin 128) :
    k1_pay41 (k1_pay19 X) (k1_pay36 X) (k1_pay37 X) (k1_pay38 X) (k1_pay39 X) p w (ix2 j c)
      = ∑ x : Fin 2048, (X (ix2 (brow j x) (bcol x)) + p (ix3 0 0 x)) * w (ix2 x c) := by
  have h : k1_pay41 (k1_pay19 X) (k1_pay36 X) (k1_pay37 X) (k1_pay38 X) (k1_pay39 X) p w = dense (flat X) p w := rfl
  rw [h, dense_at]
  simp only [flat_at]

/-- The compressed values. -/
theorem pay42_at (Y : FVec Ideal S64x128 .f32) (b : Vec Ideal S1x128 .f32) (j : Fin 64) (c : Fin 128) :
    k1_pay42 Y b (ix2 j c) = Y (ix2 j c) + b (ix2 0 c) := by
  pointwise [k1_pay42]

end Cert.Nsa

end
-- ==== Proof.Nsa.AttnB.lean ====
/-
  The coarse branch of the attention block and the selection: the weights of the compressed keys (each row up to one common
  positive factor, the exponential of minus its maximum), their mean of the compressed values, and the block a row picks.
-/
module

public import proofs.«01_k».proof.Proof.Nsa.AttnA

@[expose] public section

set_option maxRecDepth 16384

noncomputable section

namespace Cert.Nsa

open Idealize.ShloMosaic
open Cert.KernelIdeal Cert.KernelIdeal.Gen

/-- The compressed rows of head `u`: the memory row first, then one row per block. -/
def comp {α : Type} (mem : Fin 2 → Fin 64 → α) (C : Fin 64 → Fin 128 → α) (u : Fin 2) (j : Fin 65) (d : Fin 64) : α :=
  if h : j.val < 1 then mem u d else C ⟨j.val - 1, by omega⟩ (lane u d)

/-- The mask of the coarse branch, as words. -/
theorem coarse_word (i : Fin 1024) (j : Fin 65) :
    IntOp.cmpi CmpIPredicate.sge (BitVec.ofNat 32 i.val)
      (Scalar.select (IntOp.cmpi CmpIPredicate.eq (BitVec.ofNat 32 j.val) 0#32) (4294967295#32)
        (IntOp.subi (IntOp.muli (BitVec.ofNat 32 j.val) 16#32) 1#32)) = BitVec.ofBool (decide (16 * j.val ≤ i.val + 1)) := by
  have hj : (Scalar.select (IntOp.cmpi CmpIPredicate.eq (BitVec.ofNat 32 j.val) 0#32) (4294967295#32)
        (IntOp.subi (IntOp.muli (BitVec.ofNat 32 j.val) 16#32) 1#32)).toInt = 16 * (j.val : ℤ) - 1 := by
    revert j; decide +kernel
  have hi : (BitVec.ofNat 32 i.val).toInt = (i.val : ℤ) := WordCmp.toInt_ofNat_of_lt (by omega)
  generalize Scalar.select (IntOp.cmpi CmpIPredicate.eq (BitVec.ofNat 32 j.val) 0#32) (4294967295#32)
        (IntOp.subi (IntOp.muli (BitVec.ofNat 32 j.val) 16#32) 1#32) = W at hj ⊢
  unfold IntOp.cmpi
  simp only [BitVec.sle, hj, hi]
  congr 1
  rw [decide_eq_decide]; omega

/-- The scaled score against a compressed row, and the mask. -/
theorem coarse_weights (q : Fin 64 → ℝ) (ck : Fin 65 → Fin 64 → ℝ) (i : Fin 1024) :
    ∃ M : ℝ, ∀ j : Fin 65,
      Ideal.exp ((if 16 * j.val ≤ i.val + 1 then ((score q (ck j) : ℝ) : EReal) else ⊥)
        - Finset.univ.fold max ⊥ (fun x : Fin 65 => if 16 * x.val ≤ i.val + 1 then ((score q (ck x) : ℝ) : EReal) else ⊥))
      = ((cw q ck i j * Real.exp (-M) : ℝ) : EReal) := by
  obtain ⟨M, hM⟩ := fold_max_real (fun x : Fin 65 => if 16 * x.val ≤ i.val + 1 then ((score q (ck x) : ℝ) : EReal) else ⊥)
    (fun x => by by_cases h : 16 * x.val ≤ i.val + 1
                 · exact Or.inr ⟨score q (ck x), if_pos h⟩
                 · exact Or.inl (if_neg h)) 0 (by simp)
  refine ⟨M, fun j => ?_⟩
  rw [hM, exp_shift]; rfl

/-- A selection by a decided word is a choice. -/
theorem select_ofBool {α : Type} (p : Prop) [Decidable p] (a b : α) : Scalar.select (BitVec.ofBool (decide p)) a b = if p then a else b := by
  by_cases h : p <;> simp [Scalar.select, h]

/-- The masked scores of one row, with the constants read. -/
theorem coarse_scores (q : Fin 64 → ℝ) (ck : Fin 65 → Fin 64 → ℝ) (i : Fin 1024) (f : Fin 65 → EReal)
    (hf : ∀ j, f j = ((∑ d, q d * ck j d : ℝ) : EReal)) (j : Fin 65) :
    Scalar.select (IntOp.cmpi CmpIPredicate.sge (BitVec.ofNat 32 i.val)
      (Scalar.select (IntOp.cmpi CmpIPredicate.eq (BitVec.ofNat 32 j.val) 0#32) (4294967295#32)
        (IntOp.subi (IntOp.muli (BitVec.ofNat 32 j.val) 16#32) 1#32)))
      (f j * Ideal.ofBits .f32 1040187392#32) (Named.named (F := Ideal) (φ := .f32) κ "mask" 4048155338#32)
      = if 16 * j.val ≤ i.val + 1 then ((score q (ck j) : ℝ) : EReal) else ⊥ := by
  have hk : (Named.named (F := Ideal) (φ := .f32) κ "mask" 4048155338#32) = ⊥ := IdealRules.named_const.ideal_named_scalar _ _ _ _ rfl
  rw [coarse_word, hk, select_ofBool, hf, word_eighth, ← EReal.coe_mul]; rfl

variable (v1 : FVec Ideal S1024x128 .f32) (v174 : FVec Ideal S64x128 .f32) (m : Vec Ideal S1x1x64 .f32)
variable (Q : Fin 1024 → Fin 128 → ℝ) (C : Fin 64 → Fin 128 → ℝ) (mem : Fin 2 → Fin 64 → ℝ)

/-- The weights of head 0. -/
theorem pay43_at (hQ : ∀ i c, v1 (ix2 i c) = ((Q i c : ℝ) : EReal)) (hC : ∀ j c, v174 (ix2 j c) = ((C j c : ℝ) : EReal))
    (hm : ∀ d, m (ix3 0 0 d) = ((mem 0 d : ℝ) : EReal)) (i : Fin 1024) :
    ∃ M : ℝ, ∀ j, k1_pay43 v1 (iota .tc S1024x1 32 [0] iota_S1024x1_d0_w32) (iota .tc S1024x65 32 [1] iota_S1024x65_d1_w32) v174 m (ix2 i j)
      = ((cw (fun d => Q i (lane 0 d)) (comp mem C 0) i j * Real.exp (-M) : ℝ) : EReal) := by
  obtain ⟨M, hM⟩ := coarse_weights (fun d => Q i (lane 0 d)) (comp mem C 0) i
  refine ⟨M, fun j => ?_⟩
  rw [← hM j]
  have hs := coarse_scores (fun d => Q i (lane 0 d)) (comp mem C 0) i
    (fun j => ∑ x : Fin 64, v1 (ix2 i ⟨x.val, by omega⟩) * if h : j.val < 1 then m (ix3 0 0 x) else v174 (ix2 ⟨j.val - 1, by omega⟩ ⟨x.val, by omega⟩))
    (fun j => by
      rw [← sum_coe]
      refine Finset.sum_congr rfl fun x _ => ?_
      have e : (⟨x.val, by omega⟩ : Fin 128) = lane 0 x := Fin.ext (by simp [lane])
      rw [hQ, EReal.coe_mul, e]
      congr 1
      unfold comp
      by_cases h : j.val < 1
      · rw [dif_pos h, dif_pos h, hm]
      · rw [dif_neg h, dif_neg h, hC])
  pointwise [k1_pay43]
  rw [word_bot]
  simp only [hs]

/-- The weights of head 1. -/
theorem pay49_at (hQ : ∀ i c, v1 (ix2 i c) = ((Q i c : ℝ) : EReal)) (hC : ∀ j c, v174 (ix2 j c) = ((C j c : ℝ) : EReal))
    (hm : ∀ d, m (ix3 0 0 d) = ((mem 1 d : ℝ) : EReal)) (i : Fin 1024) :
    ∃ M : ℝ, ∀ j, k1_pay49 v1 (iota .tc S1024x1 32 [0] iota_S1024x1_d0_w32) (iota .tc S1024x65 32 [1] iota_S1024x65_d1_w32) v174 m (ix2 i j)
      = ((cw (fun d => Q i (lane 1 d)) (comp mem C 1) i j * Real.exp (-M) : ℝ) : EReal) := by
  obtain ⟨M, hM⟩ := coarse_weights (fun d => Q i (lane 1 d)) (comp mem C 1) i
  refine ⟨M, fun j => ?_⟩
  rw [← hM j]
  have hs := coarse_scores (fun d => Q i (lane 1 d)) (comp mem C 1) i
    (fun j => ∑ x : Fin 64, v1 (ix2 i ⟨64 + x.val, by omega⟩) * if h : j.val < 1 then m (ix3 0 0 x) else v174 (ix2 ⟨j.val - 1, by omega⟩ ⟨64 + x.val, by omega⟩))
    (fun j => by
      rw [← sum_coe]
      refine Finset.sum_congr rfl fun x _ => ?_
      have e : (⟨64 + x.val, by omega⟩ : Fin 128) = lane 1 x := Fin.ext (by simp [lane])
      rw [hQ, EReal.coe_mul, e]
      congr 1
      unfold comp
      by_cases h : j.val < 1
      · rw [dif_pos h, dif_pos h, hm]
      · rw [dif_neg h, dif_neg h, hC])
  pointwise [k1_pay49]
  rw [word_bot]
  simp only [hs]

/-- The chosen column, as a word, is the pick plus one: the memory column is set to minus one before. -/
theorem pick_word (f : Fin 65 → EReal) (w : Fin 65 → ℝ) (hw : ∀ j, 0 ≤ w j) (hf : ∀ j, f j = ((w j : ℝ) : EReal)) :
    Finset.univ.fold IntOp.minsi (2147483647#32) (fun x : Fin 65 =>
        if Finset.univ.fold max (Ideal.ofBits .f32 4286578688#32)
            (fun x : Fin 65 => Scalar.select (IntOp.cmpi CmpIPredicate.eq (BitVec.ofNat 32 x.val) 0#32) (Ideal.ofBits .f32 3212836864#32) (f x))
          ≤ Scalar.select (IntOp.cmpi CmpIPredicate.eq (BitVec.ofNat 32 x.val) 0#32) (Ideal.ofBits .f32 3212836864#32) (f x)
        then BitVec.ofNat 32 x.val else 65#32)
      = BitVec.ofNat 32 ((pick fun j => w j.succ).val + 1) := by
  have hx : ∀ x : Fin 65, Scalar.select (IntOp.cmpi CmpIPredicate.eq (BitVec.ofNat 32 x.val) 0#32) (Ideal.ofBits .f32 3212836864#32) (f x)
      = (((if x = 0 then -1 else w x : ℝ)) : EReal) := by
    intro x
    have hc : IntOp.cmpi CmpIPredicate.eq (BitVec.ofNat 32 x.val) 0#32 = BitVec.ofBool (decide (x = 0)) := by
      revert x; decide +kernel
    rw [hc, select_ofBool, hf, word_neg_one, ite_coe]
  simp only [hx, word_bot]
  have h := first_max_word (fun x : Fin 65 => if x = 0 then (-1 : ℝ) else w x) (fun j => by
    simp only [if_true, if_neg (Fin.succ_ne_zero j)]; linarith [hw j.succ]) _ rfl
  have e : (fun j : Fin 64 => (fun x : Fin 65 => if x = 0 then (-1 : ℝ) else w x) j.succ) = fun j => w j.succ := by
    funext j; simp only [if_neg (Fin.succ_ne_zero j)]
  rw [e] at h
  exact h

/-- The one-hot entry: one where the column is the chosen one, else zero. -/
theorem hot_word (j J : Fin 64) :
    FloatOps.sitofp (F := Ideal) .f32 (BitVec.setWidth 32 (IntOp.cmpi CmpIPredicate.eq (BitVec.ofNat 32 j.val)
      (IntOp.subi (BitVec.ofNat 32 (J.val + 1)) 1#32))) = ((if j = J then 1 else 0 : ℝ) : EReal) := by
  have h : BitVec.setWidth 32 (IntOp.cmpi CmpIPredicate.eq (BitVec.ofNat 32 j.val) (IntOp.subi (BitVec.ofNat 32 (J.val + 1)) 1#32))
      = if j = J then 1#32 else 0#32 := by
    revert j J; decide +kernel
  rw [h]
  by_cases e : j = J <;> simp [e, FloatOps.sitofp]

/-- The pick of weights scaled by a positive factor is the pick of the weights. -/
theorem pick_cw (q : Fin 64 → ℝ) (ck : Fin 65 → Fin 64 → ℝ) (i : Fin 1024) (M : ℝ) :
    (pick fun j : Fin 64 => cw q ck i j.succ * Real.exp (-M)) = sel q ck i :=
  pick_smul _ _ (Real.exp (-M)) (Real.exp_pos _) fun _ => rfl

/-- The choice of head 1, one-hot. -/
theorem pay50_at (v264 : FVec Ideal S1024x65 .f32) (q : Fin 1024 → Fin 64 → ℝ) (ck : Fin 65 → Fin 64 → ℝ)
    (h : ∀ i, ∃ M : ℝ, ∀ j, v264 (ix2 i j) = ((cw (q i) ck i j * Real.exp (-M) : ℝ) : EReal)) (i : Fin 1024) (j : Fin 64) :
    k1_pay50 (iota .tc S1024x65 32 [1] iota_S1024x65_d1_w32) (iota .tc S1024x64 32 [1] iota_S1024x64_d1_w32) v264 (ix2 i j)
      = ((if j = sel (q i) ck i then 1 else 0 : ℝ) : EReal) := by
  obtain ⟨M, hM⟩ := h i
  have hp := pick_word (fun j => v264 (ix2 i j)) (fun j => cw (q i) ck i j * Real.exp (-M))
    (fun j => mul_nonneg (cw_nonneg _ _ _ _) (Real.exp_pos _).le) hM
  rw [pick_cw] at hp
  pointwise [k1_pay50]
  rw [hp]
  exact hot_word j _

/-- The choice of head 0, one-hot. -/
theorem pay47_at (q : Fin 1024 → Fin 64 → ℝ) (ck : Fin 65 → Fin 64 → ℝ)
    (h : ∀ i, ∃ M : ℝ, ∀ j, k1_pay43 v1 (iota .tc S1024x1 32 [0] iota_S1024x1_d0_w32) (iota .tc S1024x65 32 [1] iota_S1024x65_d1_w32) v174 m (ix2 i j)
      = ((cw (q i) ck i j * Real.exp (-M) : ℝ) : EReal)) (i : Fin 1024) (j : Fin 64) :
    k1_pay47 (iota .tc S1024x65 32 [1] iota_S1024x65_d1_w32) (iota .tc S1024x64 32 [1] iota_S1024x64_d1_w32)
        (k1_pay45 v1 (iota .tc S1024x1 32 [0] iota_S1024x1_d0_w32) (iota .tc S1024x65 32 [1] iota_S1024x65_d1_w32) v174 m)
        (k1_pay46 v1 (iota .tc S1024x1 32 [0] iota_S1024x1_d0_w32) (iota .tc S1024x65 32 [1] iota_S1024x65_d1_w32) v174 m) (ix2 i j)
      = ((if j = sel (q i) ck i then 1 else 0 : ℝ) : EReal) := by
  obtain ⟨M, hM⟩ := h i
  have hp := pick_word (fun j => k1_pay43 v1 (iota .tc S1024x1 32 [0] iota_S1024x1_d0_w32) (iota .tc S1024x65 32 [1] iota_S1024x65_d1_w32) v174 m (ix2 i j))
    (fun j => cw (q i) ck i j * Real.exp (-M))
    (fun j => mul_nonneg (cw_nonneg _ _ _ _) (Real.exp_pos _).le) hM
  rw [pick_cw] at hp
  pointwise [k1_pay47, k1_pay45, k1_pay46]
  rw [hp]
  exact hot_word j _

/-- A mean under weights that are real numbers with one common factor. -/
theorem mean_coe {n : ℕ} (a : Fin n → EReal) (w : Fin n → ℝ) (v b : Fin n → EReal) (M : ℝ)
    (ha : ∀ j, a j = ((w j * Real.exp (-M) : ℝ) : EReal)) (hb : ∀ j, b j = v j) (hw : 0 < ∑ j, w j) :
    Ideal.div (∑ j, a j * b j) (∑ j, a j) = wmean w v := by
  have h1 : ∑ j, a j * b j = ∑ j, ((w j * Real.exp (-M) : ℝ) : EReal) * v j :=
    Finset.sum_congr rfl fun j _ => by rw [ha, hb]
  have h2 : ∑ j, a j = ((∑ j, w j * Real.exp (-M) : ℝ) : EReal) := by
    rw [← sum_coe]; exact Finset.sum_congr rfl fun j _ => ha j
  have h3 : 0 < ∑ j, w j * Real.exp (-M) := by rw [← Finset.sum_mul]; exact mul_pos hw (Real.exp_pos _)
  rw [h1, h2]
  exact (div_wmean (fun j => w j * Real.exp (-M)) v h3).trans (wmean_smul w (fun j => w j * Real.exp (-M)) v (Real.exp (-M)) (Real.exp_pos _).ne' fun _ => rfl)

variable (v181 : FVec Ideal S64x128 .f32) (b : Vec Ideal S1x128 .f32) (mv : Vec Ideal S1x1x64 .f32)
variable (D : Fin 64 → Fin 128 → EReal) (memv : Fin 2 → Fin 64 → EReal)

/-- The coarse branch of head 0. -/
theorem pay44_at (q : Fin 1024 → Fin 64 → ℝ) (ck : Fin 65 → Fin 64 → ℝ)
    (h : ∀ i, ∃ M : ℝ, ∀ j, k1_pay43 v1 (iota .tc S1024x1 32 [0] iota_S1024x1_d0_w32) (iota .tc S1024x65 32 [1] iota_S1024x65_d1_w32) v174 m (ix2 i j)
      = ((cw (q i) ck i j * Real.exp (-M) : ℝ) : EReal))
    (hD : ∀ j c, v181 (ix2 j c) + b (ix2 0 c) = D j c) (hmv : ∀ d, mv (ix3 0 0 d) = memv 0 d)
    (i : Fin 1024) (d : Fin 64) :
    k1_pay44 v1 (iota .tc S1024x1 32 [0] iota_S1024x1_d0_w32) (iota .tc S1024x65 32 [1] iota_S1024x65_d1_w32) k1_pay5 v174 v181 b m mv (ix2 i d)
      = cOut (q i) ck (comp memv D 0) i d := by
  obtain ⟨M, hM⟩ := h i
  have e : (⟨d.val, by omega⟩ : Fin 128) = lane 0 d := Fin.ext (by simp [lane])
  have hmean := mean_coe (fun j => k1_pay43 v1 (iota .tc S1024x1 32 [0] iota_S1024x1_d0_w32) (iota .tc S1024x65 32 [1] iota_S1024x65_d1_w32) v174 m (ix2 i j))
    (cw (q i) ck i) (fun j => comp memv D 0 j d)
    (fun j => if h : j.val < 1 then mv (ix3 0 0 d) else v181 (ix2 ⟨j.val - 1, by omega⟩ ⟨d.val, by omega⟩) + b (ix2 0 ⟨d.val, by omega⟩)) M hM
    (fun j => by
      unfold comp
      by_cases hj : j.val < 1
      · rw [dif_pos hj, dif_pos hj, hmv]
      · rw [dif_neg hj, dif_neg hj, hD, e]) (cw_sum_pos _ _ _)
  rw [Fin.sum_univ_succ] at hmean
  have hx : ∀ x : Fin 64, x.succ = (⟨1 + x.val, by omega⟩ : Fin 65) := fun x => Fin.ext (by simp; omega)
  pointwise [k1_pay44, k1_pay5, k1_pay42]
  simp only [hx] at hmean
  unfold cOut
  simpa using hmean

/-- The values of head 1, the memory row first. -/
theorem pay48_at (v185 : FVec Ideal S64x128 .f32)
    (hD : ∀ j c, v185 (ix2 j c) = D j c) (hmv : ∀ d, mv (ix3 0 0 d) = memv 1 d)
    (j : Fin 65) (d : Fin 64) : k1_pay48 v185 mv (ix2 j d) = comp memv D 1 j d := by
  have e : (⟨64 + d.val, by omega⟩ : Fin 128) = lane 1 d := Fin.ext (by simp [lane])
  pointwise [k1_pay48]
  unfold comp
  by_cases hj : j.val < 1
  · rw [dif_pos hj, dif_pos hj, hmv]
  · rw [dif_neg hj, dif_neg hj, hD, e]

/-- The coarse branch of both heads, side by side. -/
theorem pay51_at (v217 : FVec Ideal S1024x64 .f32) (v243 : FVec Ideal S65x64 .f32) (v264 : FVec Ideal S1024x65 .f32)
    (q : Fin 2 → Fin 1024 → Fin 64 → ℝ) (ck : Fin 2 → Fin 65 → Fin 64 → ℝ) (cv : Fin 2 → Fin 65 → Fin 64 → EReal)
    (h0 : ∀ i d, v217 (ix2 i d) = cOut (q 0 i) (ck 0) (cv 0) i d)
    (h1 : ∀ i, ∃ M : ℝ, ∀ j, v264 (ix2 i j) = ((cw (q 1 i) (ck 1) i j * Real.exp (-M) : ℝ) : EReal))
    (hv : ∀ j d, v243 (ix2 j d) = cv 1 j d) (i : Fin 1024) (c : Fin 128) :
    k1_pay51 k1_pay5 v217 v243 v264 (constant S1024x64 .f32 0x00000000#32) (ix2 i c)
      = cOut (q (hd c) i) (ck (hd c)) (cv (hd c)) i (sub c) := by
  obtain ⟨M, hM⟩ := h1 i
  by_cases hc : c.val < 64
  · have e0 : hd c = 0 := Fin.ext (by simp [hd]; omega)
    have e1 : (⟨c.val, by omega⟩ : Fin 64) = sub c := Fin.ext (by simp [sub]; omega)
    rw [e0, ← h0, ← e1]
    pointwise [k1_pay51, k1_pay5]
    rw [dif_pos hc]
  · have e0 : hd c = 1 := Fin.ext (by simp [hd]; omega)
    have e1 : (⟨c.val - 64, by omega⟩ : Fin 64) = sub c := Fin.ext (by simp [sub]; omega)
    have hmean := mean_coe (fun j => v264 (ix2 i j)) (cw (q 1 i) (ck 1) i) (fun j => cv 1 j (sub c)) (fun j => v243 (ix2 j (sub c))) M hM
      (fun j => hv j _) (cw_sum_pos _ _ _)
    rw [e0]
    pointwise [k1_pay51, k1_pay5]
    rw [dif_neg hc, e1]
    exact hmean

end Cert.Nsa

end
-- ==== Proof.Nsa.AttnC.lean ====
/-
  The constants of the attention block (head masks, row numbers, parities, gate selections), the rows that the selection
  picks, and the exponential of a scaled score.
-/
module

public import proofs.«01_k».proof.Proof.Nsa.AttnB

@[expose] public section

set_option maxRecDepth 16384

noncomputable section

namespace Cert.Nsa

open Idealize.ShloMosaic
open Cert.KernelIdeal Cert.KernelIdeal.Gen

/-- A vector of real numbers. -/
abbrev IsReal (X : FVec Ideal S1024x128 .f32) (f : Fin 1024 → Fin 128 → ℝ) : Prop := ∀ i c, X (ix2 i c) = ((f i c : ℝ) : EReal)
/-- A block table of real numbers. -/
abbrev IsReal64 (X : FVec Ideal S64x128 .f32) (f : Fin 64 → Fin 128 → ℝ) : Prop := ∀ i c, X (ix2 i c) = ((f i c : ℝ) : EReal)
/-- A vector of the given numbers. -/
abbrev Is (X : FVec Ideal S1024x128 .f32) (f : Fin 1024 → Fin 128 → EReal) : Prop := ∀ i c, X (ix2 i c) = f i c
/-- A block table of the given numbers. -/
abbrev Is64 (X : FVec Ideal S64x128 .f32) (f : Fin 64 → Fin 128 → EReal) : Prop := ∀ i c, X (ix2 i c) = f i c
/-- The table that is one where two lanes share a head. -/
abbrev IsHeads (X : FVec Ideal S128x128 .f32) : Prop := ∀ r c : Fin 128, X (ix2 r c) = ((if r.val / 64 = c.val / 64 then 1 else 0 : ℝ) : EReal)
/-- A one-hot choice of a block in every row. -/
abbrev IsHot (X : FVec Ideal S1024x64 .f32) (J : Fin 1024 → Fin 64) : Prop := ∀ i j, X (ix2 i j) = ((if j = J i then 1 else 0 : ℝ) : EReal)
/-- Zero below the row's parity: the word is set on even rows. -/
abbrev IsEven (X : IVec S1024x128 1) : Prop := ∀ (i : Fin 1024) (c : Fin 128), X (ix2 i c) = BitVec.ofBool (decide (i.val % 2 = 0))

/-- The lanes of head 0. -/
theorem pay14_at : IsReal64 k1_pay14 fun _ c => if hd c = 0 then 1 else 0 := by
  intro j c
  have h : IntOp.cmpi CmpIPredicate.slt (BitVec.ofNat 32 c.val) 64#32 = BitVec.ofBool (decide (hd c = 0)) := by
    revert c; decide +kernel
  pointwise [k1_pay14]
  rw [h, select_ofBool, ← ite_coe]
  simp
/-- The lanes of head 1. -/
theorem pay15_at : IsReal64 k1_pay15 fun _ c => if hd c = 1 then 1 else 0 := by
  intro j c
  have h := pay14_at j c
  have e : k1_pay15 (F := Ideal) (ix2 j c) = (1 : EReal) - k1_pay14 (F := Ideal) (ix2 j c) := by pointwise [k1_pay15]
  rw [e, h]
  rcases Fin.exists_fin_two.1 ⟨hd c, rfl⟩ with hc | hc
  · simp [hc, ← EReal.coe_one, ← EReal.coe_sub]
  · simp [hc, ← EReal.coe_one, ← EReal.coe_sub]
/-- The block numbers. -/
theorem pay13_at : IsReal64 k1_pay13 fun j _ => (j.val : ℝ) := by
  intro j c
  have h : (BitVec.ofNat 32 j.val).toInt = (j.val : ℤ) := WordCmp.toInt_ofNat_of_lt (by omega)
  pointwise [k1_pay13]
  simp [FloatOps.sitofp, h]
/-- The block numbers on the lanes of head 0. -/
theorem pay16_at (j : Fin 64) (c : Fin 128) : k1_pay16 (F := Ideal) (ix2 j c) = ((j.val : ℝ) : EReal) * ((if hd c = 0 then 1 else 0 : ℝ) : EReal) := by
  rw [← pay13_at j c, ← pay14_at j c]; pointwise [k1_pay16]
/-- The block numbers on the lanes of head 1. -/
theorem pay17_at (j : Fin 64) (c : Fin 128) : k1_pay17 (F := Ideal) (ix2 j c) = ((j.val : ℝ) : EReal) * ((if hd c = 1 then 1 else 0 : ℝ) : EReal) := by
  rw [← pay13_at j c, ← pay15_at j c]; pointwise [k1_pay17]
/-- The row numbers. -/
theorem pay6_at : IsReal k1_pay6 fun i _ => (i.val : ℝ) := by
  intro j c
  have h : (BitVec.ofNat 32 j.val).toInt = (j.val : ℤ) := WordCmp.toInt_ofNat_of_lt (by omega)
  pointwise [k1_pay6]
  simp [FloatOps.sitofp, h]
/-- Zero everywhere. -/
theorem pay69_at : IsReal k1_pay69 fun _ _ => 0 := by
  intro i c
  pointwise [k1_pay69]
  simp
/-- The even rows. -/
theorem pay7_at : IsEven k1_pay7 := by
  intro i c
  pointwise [k1_pay7]
  revert i; decide +kernel

/-- The head of a lane, as a word. -/
theorem half_word (c : Fin 128) :
    Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) = BitVec.ofNat 32 (hd c).val := by
  revert c; decide +kernel

/-- The table of shared heads. -/
theorem pay12_at : IsHeads (k1_pay12 (k1_pay10 (iota .tc S128x128 32 [0] iota_S128x128_d0_w32) (iota .tc S128x128 32 [1] iota_S128x128_d1_w32) 64#32 k1_pay8 k1_pay9) (Scalar.ofBits .f32 0x00000000#32) k1_pay11) := by
  intro r c
  have h : ∀ a b : Fin 2, IntOp.cmpi CmpIPredicate.eq (BitVec.ofNat 32 a.val) (BitVec.ofNat 32 b.val) = BitVec.ofBool (decide (a.val = b.val)) := by decide
  pointwise [k1_pay12, k1_pay10, k1_pay8, k1_pay9, k1_pay11]
  rw [half_word, half_word, h, select_ofBool]
  by_cases e : r.val / 64 = c.val / 64 <;> simp [e, hd]

/-- The entry of a gate selection: one where the column of the gates is three times the head plus the branch. -/
theorem gate_word (r : Fin 6) (u : Fin 2) (s : Fin 3) :
    FloatOps.sitofp (F := Ideal) .f32 (BitVec.setWidth 32 (IntOp.cmpi CmpIPredicate.eq (BitVec.ofNat 32 r.val)
      (IntOp.addi (IntOp.muli (3#32) (BitVec.ofNat 32 u.val)) (BitVec.ofNat 32 s.val)))) = if r.val = 3 * u.val + s.val then 1 else 0 := by
  have h : BitVec.setWidth 32 (IntOp.cmpi CmpIPredicate.eq (BitVec.ofNat 32 r.val)
      (IntOp.addi (IntOp.muli (3#32) (BitVec.ofNat 32 u.val)) (BitVec.ofNat 32 s.val))) = if r.val = 3 * u.val + s.val then 1#32 else 0#32 := by
    revert r u s; decide +kernel
  rw [h]
  by_cases e : r.val = 3 * u.val + s.val <;> simp [e, FloatOps.sitofp]

/-- Column `3 u + s` of the gates. -/
def gcol (u : Fin 2) (s : Fin 3) : Fin 6 := ⟨3 * u.val + s.val, by omega⟩

/-- The selected gate. -/
theorem gate_sum (g : Fin 6 → EReal) (u : Fin 2) (s : Fin 3) (w : Fin 6 → EReal) (hw : ∀ r : Fin 6, w r = if r.val = 3 * u.val + s.val then 1 else 0) :
    ∑ r : Fin 6, g r * w r = g (gcol u s) := by
  rw [Finset.sum_eq_single (gcol u s)]
  · rw [hw, if_pos (show (gcol u s).val = 3 * u.val + s.val from rfl), mul_one]
  · intro b _ hb
    rw [hw, if_neg (show ¬ b.val = 3 * u.val + s.val from fun h => hb (Fin.ext h)), mul_zero]
  · intro h; exact absurd (Finset.mem_univ _) h

/-- The output of the block: the three branches under their gates. -/
theorem pay1_at (v286 v404 v509 : FVec Ideal S1024x128 .f32) (v511 : FVec Ideal S1024x6 .f32) (i : Fin 1024) (c : Fin 128) :
    k1_pay1 v286 v404 v509 v511 (iota .tc S6x128 32 [0] iota_S6x128_d0_w32) (iota .tc S6x128 32 [1] iota_S6x128_d1_w32) k1_pay105
        (k1_pay107 (iota .tc S6x128 32 [0] iota_S6x128_d0_w32) (iota .tc S6x128 32 [1] iota_S6x128_d1_w32) 64#32 k1_pay106)
        (k1_pay108 (iota .tc S6x128 32 [1] iota_S6x128_d1_w32)) (k1_pay109 (iota .tc S6x128 32 [1] iota_S6x128_d1_w32)) k1_pay110 (ix4 0 0 i c)
      = v286 (ix2 i c) * v511 (ix2 i (gcol (hd c) 0)) + v404 (ix2 i c) * v511 (ix2 i (gcol (hd c) 1)) + v509 (ix2 i c) * v511 (ix2 i (gcol (hd c) 2)) := by
  have h0 := gate_sum (fun r => v511 (ix2 i r)) (hd c) 0 _ (fun r => gate_word r (hd c) 0)
  have h1 := gate_sum (fun r => v511 (ix2 i r)) (hd c) 1 _ (fun r => gate_word r (hd c) 1)
  have h2 := gate_sum (fun r => v511 (ix2 i r)) (hd c) 2 _ (fun r => gate_word r (hd c) 2)
  pointwise [k1_pay1, k1_pay105, k1_pay106, k1_pay107, k1_pay108, k1_pay109, k1_pay110]
  simp only [half_word]
  rw [← h0, ← h1, ← h2]
  rfl

/-- The row that a one-hot choice of each head picks, among the lanes of that head. -/
theorem pick2 (S : Fin 2 → Fin 64) (y : Fin 64 → EReal) (u : Fin 2) :
    (∑ x : Fin 64, ((if x = S 0 then 1 else 0 : ℝ) : EReal) * (y x * ((if u = 0 then 1 else 0 : ℝ) : EReal)))
      + (∑ x : Fin 64, ((if x = S 1 then 1 else 0 : ℝ) : EReal) * (y x * ((if u = 1 then 1 else 0 : ℝ) : EReal)))
      = y (S u) := by
  simp only [← ite_coe, EReal.coe_one, EReal.coe_zero]
  rcases Fin.exists_fin_two.1 ⟨u, rfl⟩ with hu | hu <;> (have hu' := hu.symm; subst hu'; simp)

variable (v7 : IVec S1024x65 32) (v8 : IVec S1024x64 32) (v235 : FVec Ideal S1024x64 .f32) (v264 : FVec Ideal S1024x65 .f32) (S : Fin 2 → Fin 1024 → Fin 64)

/-- The number of the chosen block. -/
theorem pay52_at (h0 : IsHot v235 (S 0)) (h1 : IsHot (k1_pay50 v7 v8 v264) (S 1)) :
    IsReal (k1_pay52 v7 v8 k1_pay16 k1_pay17 v235 v264) fun i c => ((S (hd c) i).val : ℝ) := by
  intro i c
  rw [← pick2 (fun u => S u i) (fun x => ((x.val : ℝ) : EReal)) (hd c)]
  have e : k1_pay52 v7 v8 k1_pay16 k1_pay17 v235 v264 (ix2 i c)
      = (∑ x, v235 (ix2 i x) * k1_pay16 (F := Ideal) (ix2 x c) : EReal) + ∑ x, k1_pay50 v7 v8 v264 (ix2 i x) * k1_pay17 (F := Ideal) (ix2 x c) := by
    pointwise [k1_pay52]
  rw [e]
  simp only [h0 i, h1 i, pay16_at, pay17_at]

variable (v91 v93 : FVec Ideal S64x128 .f32) (hv0 : IsReal64 v91 fun _ c => if hd c = 0 then 1 else 0) (hv1 : IsReal64 v93 fun _ c => if hd c = 1 then 1 else 0)
include hv0 hv1

/-- The rows that the choice picks out of a block table. -/
theorem pay53_at (Y : FVec Ideal S64x128 .f32) (y : Fin 64 → Fin 128 → ℝ) (h0 : IsHot v235 (S 0)) (h1 : IsHot (k1_pay50 v7 v8 v264) (S 1)) (hY : IsReal64 Y y) :
    IsReal (k1_pay53 v7 v8 v91 v93 Y v235 v264) fun i c => y (S (hd c) i) c := by
  intro i c
  rw [← pick2 (fun u => S u i) (fun x => ((y x c : ℝ) : EReal)) (hd c)]
  have e : k1_pay53 v7 v8 v91 v93 Y v235 v264 (ix2 i c)
      = (∑ x, v235 (ix2 i x) * (Y (ix2 x c) * v91 (ix2 x c)) : EReal) + ∑ x, (k1_pay50 v7 v8 v264) (ix2 i x) * (Y (ix2 x c) * v93 (ix2 x c)) := by
    pointwise [k1_pay53]
  rw [e]
  simp only [h0 i, h1 i, hY _ c, hv0 _ c, hv1 _ c]

/-- The rows that the choice picks out of a block table. -/
theorem pay54_at (Y : FVec Ideal S64x128 .f32) (y : Fin 64 → Fin 128 → EReal) (h0 : IsHot v235 (S 0)) (h1 : IsHot (k1_pay50 v7 v8 v264) (S 1)) (hY : Is64 Y y) :
    Is (k1_pay54 v7 v8 v91 v93 Y v235 v264) fun i c => y (S (hd c) i) c := by
  intro i c
  show _ = y (S (hd c) i) c
  rw [← pick2 (fun u => S u i) (fun x => y x c) (hd c)]
  have e : k1_pay54 v7 v8 v91 v93 Y v235 v264 (ix2 i c)
      = (∑ x, v235 (ix2 i x) * (Y (ix2 x c) * v91 (ix2 x c)) : EReal) + ∑ x, (k1_pay50 v7 v8 v264) (ix2 i x) * (Y (ix2 x c) * v93 (ix2 x c)) := by
    pointwise [k1_pay54]
  rw [e]
  simp only [h0 i, h1 i, hY _ c, hv0 _ c, hv1 _ c]

/-- The rows that the choice picks out of a block table. -/
theorem pay55_at (Y : FVec Ideal S64x128 .f32) (y : Fin 64 → Fin 128 → ℝ) (h0 : IsHot v235 (S 0)) (h1 : IsHot (k1_pay50 v7 v8 v264) (S 1)) (hY : IsReal64 Y y) :
    IsReal (k1_pay55 v7 v8 v91 v93 Y v235 v264) fun i c => y (S (hd c) i) c := by
  intro i c
  rw [← pick2 (fun u => S u i) (fun x => ((y x c : ℝ) : EReal)) (hd c)]
  have e : k1_pay55 v7 v8 v91 v93 Y v235 v264 (ix2 i c)
      = (∑ x, v235 (ix2 i x) * (Y (ix2 x c) * v91 (ix2 x c)) : EReal) + ∑ x, (k1_pay50 v7 v8 v264) (ix2 i x) * (Y (ix2 x c) * v93 (ix2 x c)) := by
    pointwise [k1_pay55]
  rw [e]
  simp only [h0 i, h1 i, hY _ c, hv0 _ c, hv1 _ c]

/-- The rows that the choice picks out of a block table. -/
theorem pay58_at (v285 : FVec Ideal S1024x64 .f32) (Y : FVec Ideal S64x128 .f32) (y : Fin 64 → Fin 128 → EReal) (h0 : IsHot v235 (S 0)) (h1 : IsHot v285 (S 1)) (hY : Is64 Y y) :
    Is (k1_pay58 v285 (k1_pay56 v91 Y v235) (k1_pay57 v93 Y) (constant S1024x128 .f32 0x00000000#32)) fun i c => y (S (hd c) i) c := by
  intro i c
  show _ = y (S (hd c) i) c
  rw [← pick2 (fun u => S u i) (fun x => y x c) (hd c)]
  have e : k1_pay58 v285 (k1_pay56 v91 Y v235) (k1_pay57 v93 Y) (constant S1024x128 .f32 0x00000000#32) (ix2 i c)
      = (∑ x, v235 (ix2 i x) * (Y (ix2 x c) * v91 (ix2 x c)) : EReal) + ∑ x, v285 (ix2 i x) * (Y (ix2 x c) * v93 (ix2 x c)) := by
    pointwise [k1_pay56, k1_pay57, k1_pay58]
  rw [e]
  simp only [h0 i, h1 i, hY _ c, hv0 _ c, hv1 _ c]

/-- The rows that the choice picks out of a block table. -/
theorem pay59_at (v285 : FVec Ideal S1024x64 .f32) (Y : FVec Ideal S64x128 .f32) (y : Fin 64 → Fin 128 → ℝ) (h0 : IsHot v235 (S 0)) (h1 : IsHot v285 (S 1)) (hY : IsReal64 Y y) :
    IsReal (k1_pay59 v91 v93 Y v235 v285) fun i c => y (S (hd c) i) c := by
  intro i c
  rw [← pick2 (fun u => S u i) (fun x => ((y x c : ℝ) : EReal)) (hd c)]
  have e : k1_pay59 v91 v93 Y v235 v285 (ix2 i c)
      = (∑ x, v235 (ix2 i x) * (Y (ix2 x c) * v91 (ix2 x c)) : EReal) + ∑ x, v285 (ix2 i x) * (Y (ix2 x c) * v93 (ix2 x c)) := by
    pointwise [k1_pay59]
  rw [e]
  simp only [h0 i, h1 i, hY _ c, hv0 _ c, hv1 _ c]

/-- The rows that the choice picks out of a block table. -/
theorem pay60_at (v285 : FVec Ideal S1024x64 .f32) (Y : FVec Ideal S64x128 .f32) (y : Fin 64 → Fin 128 → EReal) (h0 : IsHot v235 (S 0)) (h1 : IsHot v285 (S 1)) (hY : Is64 Y y) :
    Is (k1_pay60 v91 v93 Y v235 v285) fun i c => y (S (hd c) i) c := by
  intro i c
  show _ = y (S (hd c) i) c
  rw [← pick2 (fun u => S u i) (fun x => y x c) (hd c)]
  have e : k1_pay60 v91 v93 Y v235 v285 (ix2 i c)
      = (∑ x, v235 (ix2 i x) * (Y (ix2 x c) * v91 (ix2 x c)) : EReal) + ∑ x, v285 (ix2 i x) * (Y (ix2 x c) * v93 (ix2 x c)) := by
    pointwise [k1_pay60]
  rw [e]
  simp only [h0 i, h1 i, hY _ c, hv0 _ c, hv1 _ c]

/-- The rows that the choice picks out of a block table. -/
theorem pay61_at (v285 : FVec Ideal S1024x64 .f32) (Y : FVec Ideal S64x128 .f32) (y : Fin 64 → Fin 128 → ℝ) (h0 : IsHot v235 (S 0)) (h1 : IsHot v285 (S 1)) (hY : IsReal64 Y y) :
    IsReal (k1_pay61 v91 v93 Y v235 v285) fun i c => y (S (hd c) i) c := by
  intro i c
  rw [← pick2 (fun u => S u i) (fun x => ((y x c : ℝ) : EReal)) (hd c)]
  have e : k1_pay61 v91 v93 Y v235 v285 (ix2 i c)
      = (∑ x, v235 (ix2 i x) * (Y (ix2 x c) * v91 (ix2 x c)) : EReal) + ∑ x, v285 (ix2 i x) * (Y (ix2 x c) * v93 (ix2 x c)) := by
    pointwise [k1_pay61]
  rw [e]
  simp only [h0 i, h1 i, hY _ c, hv0 _ c, hv1 _ c]

/-- The rows that the choice picks out of a block table. -/
theorem pay62_at (v285 : FVec Ideal S1024x64 .f32) (Y : FVec Ideal S64x128 .f32) (y : Fin 64 → Fin 128 → EReal) (h0 : IsHot v235 (S 0)) (h1 : IsHot v285 (S 1)) (hY : Is64 Y y) :
    Is (k1_pay62 v91 v93 Y v235 v285) fun i c => y (S (hd c) i) c := by
  intro i c
  show _ = y (S (hd c) i) c
  rw [← pick2 (fun u => S u i) (fun x => y x c) (hd c)]
  have e : k1_pay62 v91 v93 Y v235 v285 (ix2 i c)
      = (∑ x, v235 (ix2 i x) * (Y (ix2 x c) * v91 (ix2 x c)) : EReal) + ∑ x, v285 (ix2 i x) * (Y (ix2 x c) * v93 (ix2 x c)) := by
    pointwise [k1_pay62]
  rw [e]
  simp only [h0 i, h1 i, hY _ c, hv0 _ c, hv1 _ c]

omit hv0 hv1
/-- The exponential of the scaled score of the lanes of one head. -/
theorem es_score (q k : Fin 128 → ℝ) (c : Fin 128) (f g b : Fin 128 → EReal) (hf : ∀ x, f x = ((q x * (1 / 8) : ℝ) : EReal))
    (hg : ∀ x, g x = ((k x : ℝ) : EReal)) (hb : ∀ x : Fin 128, b x = ((if x.val / 64 = c.val / 64 then 1 else 0 : ℝ) : EReal)) :
    Ideal.exp (∑ x, f x * g x * b x) = ((Real.exp (score (fun d => q (lane (hd c) d)) (fun d => k (lane (hd c) d))) : ℝ) : EReal) := by
  have h : ∑ x, f x * g x * b x = ((∑ x : Fin 128, (q x * (1 / 8) * k x) * (if x.val / 64 = (hd c).val then 1 else 0) : ℝ) : EReal) := by
    rw [← sum_coe]
    refine Finset.sum_congr rfl fun x _ => ?_
    rw [hf, hg, hb, ← EReal.coe_mul, ← EReal.coe_mul]; rfl
  rw [h, sum_head (fun x => q x * (1 / 8) * k x), Ideal.exp_coe]
  congr 2
  unfold score
  rw [Finset.sum_mul]
  exact Finset.sum_congr rfl fun d _ => by ring

end Cert.Nsa

end
-- ==== Proof.Nsa.AttnD.lean ====
/-
  The attention kernel's pieces that read key and value rows: the rotated rows, the scores against them, the fine branch
  and the sliding window, each as an array of real numbers.
-/
module

public import proofs.«01_k».proof.Proof.Nsa.AttnC

@[expose] public section

set_option maxRecDepth 16384

noncomputable section

namespace Cert.Nsa

open Idealize.ShloMosaic
open Cert.KernelIdeal Cert.KernelIdeal.Gen

/-- The row `o` above row `i`, cyclically. -/
def rot (o : ℕ) (i : Fin 1024) : Fin 1024 := if h : i.val < o then ⟨(1024 - o + i.val) % 1024, Nat.mod_lt _ (by norm_num)⟩ else ⟨i.val - o, by omega⟩

/-- Away from the first rows the rotation reads the window's position. -/
theorem rot_wpos (o : Fin 8) (i : Fin 1024) (h : o.val ≤ i.val) : rot o.val i = wpos i o := by
  unfold rot wpos; rw [dif_neg (by omega)]

/-- The exponential of the score of row `i` against row `j`, for the head of lane `c`. -/
def es (Q K : Fin 1024 → Fin 128 → ℝ) (i j : Fin 1024) (c : Fin 128) : ℝ :=
  Real.exp (score (fun d => Q i (lane (hd c) d)) (fun d => K j (lane (hd c) d)))

/-- Rows rotated by 1. -/
theorem pay64_at (X : FVec Ideal S1024x128 .f32) (i : Fin 1024) (c : Fin 128) : k1_pay64 X (ix2 i c) = X (ix2 (rot 1 i) c) := by
  pointwise [k1_pay64]
  unfold rot
  by_cases h : i.val < 1
  · rw [dif_pos h, dif_pos h]
    exact congrArg (fun r => X (ix2 r c)) (Fin.ext (by simp only []; omega))
  · rw [dif_neg h, dif_neg h]

/-- Rows rotated by 2. -/
theorem pay79_at (X : FVec Ideal S1024x128 .f32) (i : Fin 1024) (c : Fin 128) : k1_pay79 X (ix2 i c) = X (ix2 (rot 2 i) c) := by
  pointwise [k1_pay79]
  unfold rot
  by_cases h : i.val < 2
  · rw [dif_pos h, dif_pos h]
    exact congrArg (fun r => X (ix2 r c)) (Fin.ext (by simp only []; omega))
  · rw [dif_neg h, dif_neg h]

/-- Rows rotated by 3. -/
theorem pay81_at (X : FVec Ideal S1024x128 .f32) (i : Fin 1024) (c : Fin 128) : k1_pay81 X (ix2 i c) = X (ix2 (rot 3 i) c) := by
  pointwise [k1_pay81]
  unfold rot
  by_cases h : i.val < 3
  · rw [dif_pos h, dif_pos h]
    exact congrArg (fun r => X (ix2 r c)) (Fin.ext (by simp only []; omega))
  · rw [dif_neg h, dif_neg h]

/-- Rows rotated by 4. -/
theorem pay83_at (X : FVec Ideal S1024x128 .f32) (i : Fin 1024) (c : Fin 128) : k1_pay83 X (ix2 i c) = X (ix2 (rot 4 i) c) := by
  pointwise [k1_pay83]
  unfold rot
  by_cases h : i.val < 4
  · rw [dif_pos h, dif_pos h]
    exact congrArg (fun r => X (ix2 r c)) (Fin.ext (by simp only []; omega))
  · rw [dif_neg h, dif_neg h]

/-- Rows rotated by 5. -/
theorem pay85_at (X : FVec Ideal S1024x128 .f32) (i : Fin 1024) (c : Fin 128) : k1_pay85 X (ix2 i c) = X (ix2 (rot 5 i) c) := by
  pointwise [k1_pay85]
  unfold rot
  by_cases h : i.val < 5
  · rw [dif_pos h, dif_pos h]
    exact congrArg (fun r => X (ix2 r c)) (Fin.ext (by simp only []; omega))
  · rw [dif_neg h, dif_neg h]

/-- Rows rotated by 6. -/
theorem pay87_at (X : FVec Ideal S1024x128 .f32) (i : Fin 1024) (c : Fin 128) : k1_pay87 X (ix2 i c) = X (ix2 (rot 6 i) c) := by
  pointwise [k1_pay87]
  unfold rot
  by_cases h : i.val < 6
  · rw [dif_pos h, dif_pos h]
    exact congrArg (fun r => X (ix2 r c)) (Fin.ext (by simp only []; omega))
  · rw [dif_neg h, dif_neg h]

/-- Rows rotated by 7. -/
theorem pay89_at (X : FVec Ideal S1024x128 .f32) (i : Fin 1024) (c : Fin 128) : k1_pay89 X (ix2 i c) = X (ix2 (rot 7 i) c) := by
  pointwise [k1_pay89]
  unfold rot
  by_cases h : i.val < 7
  · rw [dif_pos h, dif_pos h]
    exact congrArg (fun r => X (ix2 r c)) (Fin.ext (by simp only []; omega))
  · rw [dif_neg h, dif_neg h]

/-- Rows rotated by 7. -/
theorem pay92_at (X : FVec Ideal S1024x128 .f32) (i : Fin 1024) (c : Fin 128) : k1_pay92 (k1_pay90 X) (k1_pay91 X) (ix2 i c) = X (ix2 (rot 7 i) c) := by
  pointwise [k1_pay90, k1_pay91, k1_pay92]
  unfold rot
  by_cases h : i.val < 7
  · rw [dif_pos h, dif_pos h]
    exact congrArg (fun r => X (ix2 r c)) (Fin.ext (by simp only []; omega))
  · rw [dif_neg h, dif_neg h]

variable (v1 v3 v5 v11 v289 v331 : FVec Ideal S1024x128 .f32) (v83 : FVec Ideal S128x128 .f32) (v29 : IVec S1024x128 1) (Q K V : Fin 1024 → Fin 128 → ℝ)

/-- The scaled queries. -/
theorem pay63_at (hQ : IsReal v1 Q) : IsReal (k1_pay63 v1) fun i c => Q i c * (1 / 8) := by
  intro i c
  have e : k1_pay63 v1 (ix2 i c) = v1 (ix2 i c) * Ideal.ofBits FTy.f32 1040187392#32 := by pointwise [k1_pay63]
  rw [e, hQ, word_eighth, ← EReal.coe_mul]

/-- The exponential scores against the rows 0 above. -/
theorem pay65_at (hQ : IsReal v1 Q) (hK : IsReal v3 K) (hB : IsHeads v83) : IsReal (k1_pay65 v1 v3 v83) fun i c => es Q K i i c := by
  intro i c
  have e : k1_pay65 v1 v3 v83 (ix2 i c) = Ideal.exp (∑ x, k1_pay63 v1 (ix2 i x) * v3 (ix2 i x) * v83 (ix2 x c)) := by pointwise [k1_pay65]
  rw [e]
  exact es_score (Q i) (K i) c _ _ _ (pay63_at v1 Q hQ i) (fun x => by exact hK _ _) (fun x => hB x c)

/-- The exponential scores against the rows 1 above. -/
theorem pay66_at (hQ : IsReal v1 Q) (hK : IsReal v3 K) (hB : IsHeads v83) : IsReal (k1_pay66 v1 v3 v83) fun i c => es Q K i (rot 1 i) c := by
  intro i c
  have e : k1_pay66 v1 v3 v83 (ix2 i c) = Ideal.exp (∑ x, k1_pay63 v1 (ix2 i x) * k1_pay64 v3 (ix2 i x) * v83 (ix2 x c)) := by
    have e' : k1_pay66 v1 v3 v83 = exp (matmul dot_S1024x128_S128x128_S1024x128_1_0_0_1_n_n none (mulf (k1_pay63 v1) (k1_pay64 v3)) v83 (constant S1024x128 .f32 0x00000000#32)) := rfl
    rw [e']; pointwise
  rw [e]
  exact es_score (Q i) (K (rot 1 i)) c _ _ _ (pay63_at v1 Q hQ i) (fun x => by rw [pay64_at]; exact hK _ _) (fun x => hB x c)

/-- The exponential scores against the rows 2 above. -/
theorem pay80_at (h331 : IsReal v331 fun i c => Q i c * (1 / 8)) (hK : IsReal v3 K) (hB : IsHeads v83) : IsReal (k1_pay80 v3 v83 v331) fun i c => es Q K i (rot 2 i) c := by
  intro i c
  have e : k1_pay80 v3 v83 v331 (ix2 i c) = Ideal.exp (∑ x, v331 (ix2 i x) * k1_pay79 v3 (ix2 i x) * v83 (ix2 x c)) := by
    have e' : k1_pay80 v3 v83 v331 = exp (matmul dot_S1024x128_S128x128_S1024x128_1_0_0_1_n_n none (mulf (v331) (k1_pay79 v3)) v83 (constant S1024x128 .f32 0x00000000#32)) := rfl
    rw [e']; pointwise
  rw [e]
  exact es_score (Q i) (K (rot 2 i)) c _ _ _ (h331 i) (fun x => by rw [pay79_at]; exact hK _ _) (fun x => hB x c)

/-- The exponential scores against the rows 3 above. -/
theorem pay82_at (h331 : IsReal v331 fun i c => Q i c * (1 / 8)) (hK : IsReal v3 K) (hB : IsHeads v83) : IsReal (k1_pay82 v3 v83 v331) fun i c => es Q K i (rot 3 i) c := by
  intro i c
  have e : k1_pay82 v3 v83 v331 (ix2 i c) = Ideal.exp (∑ x, v331 (ix2 i x) * k1_pay81 v3 (ix2 i x) * v83 (ix2 x c)) := by
    have e' : k1_pay82 v3 v83 v331 = exp (matmul dot_S1024x128_S128x128_S1024x128_1_0_0_1_n_n none (mulf (v331) (k1_pay81 v3)) v83 (constant S1024x128 .f32 0x00000000#32)) := rfl
    rw [e']; pointwise
  rw [e]
  exact es_score (Q i) (K (rot 3 i)) c _ _ _ (h331 i) (fun x => by rw [pay81_at]; exact hK _ _) (fun x => hB x c)

/-- The exponential scores against the rows 4 above. -/
theorem pay84_at (h331 : IsReal v331 fun i c => Q i c * (1 / 8)) (hK : IsReal v3 K) (hB : IsHeads v83) : IsReal (k1_pay84 v3 v83 v331) fun i c => es Q K i (rot 4 i) c := by
  intro i c
  have e : k1_pay84 v3 v83 v331 (ix2 i c) = Ideal.exp (∑ x, v331 (ix2 i x) * k1_pay83 v3 (ix2 i x) * v83 (ix2 x c)) := by
    have e' : k1_pay84 v3 v83 v331 = exp (matmul dot_S1024x128_S128x128_S1024x128_1_0_0_1_n_n none (mulf (v331) (k1_pay83 v3)) v83 (constant S1024x128 .f32 0x00000000#32)) := rfl
    rw [e']; pointwise
  rw [e]
  exact es_score (Q i) (K (rot 4 i)) c _ _ _ (h331 i) (fun x => by rw [pay83_at]; exact hK _ _) (fun x => hB x c)

/-- The exponential scores against the rows 5 above. -/
theorem pay86_at (h331 : IsReal v331 fun i c => Q i c * (1 / 8)) (hK : IsReal v3 K) (hB : IsHeads v83) : IsReal (k1_pay86 v3 v83 v331) fun i c => es Q K i (rot 5 i) c := by
  intro i c
  have e : k1_pay86 v3 v83 v331 (ix2 i c) = Ideal.exp (∑ x, v331 (ix2 i x) * k1_pay85 v3 (ix2 i x) * v83 (ix2 x c)) := by
    have e' : k1_pay86 v3 v83 v331 = exp (matmul dot_S1024x128_S128x128_S1024x128_1_0_0_1_n_n none (mulf (v331) (k1_pay85 v3)) v83 (constant S1024x128 .f32 0x00000000#32)) := rfl
    rw [e']; pointwise
  rw [e]
  exact es_score (Q i) (K (rot 5 i)) c _ _ _ (h331 i) (fun x => by rw [pay85_at]; exact hK _ _) (fun x => hB x c)

/-- The exponential scores against the rows 6 above. -/
theorem pay88_at (h331 : IsReal v331 fun i c => Q i c * (1 / 8)) (hK : IsReal v3 K) (hB : IsHeads v83) : IsReal (k1_pay88 v3 v83 v331) fun i c => es Q K i (rot 6 i) c := by
  intro i c
  have e : k1_pay88 v3 v83 v331 (ix2 i c) = Ideal.exp (∑ x, v331 (ix2 i x) * k1_pay87 v3 (ix2 i x) * v83 (ix2 x c)) := by
    have e' : k1_pay88 v3 v83 v331 = exp (matmul dot_S1024x128_S128x128_S1024x128_1_0_0_1_n_n none (mulf (v331) (k1_pay87 v3)) v83 (constant S1024x128 .f32 0x00000000#32)) := rfl
    rw [e']; pointwise
  rw [e]
  exact es_score (Q i) (K (rot 6 i)) c _ _ _ (h331 i) (fun x => by rw [pay87_at]; exact hK _ _) (fun x => hB x c)

end Cert.Nsa

end
-- ==== Proof.Nsa.AttnE.lean ====
/-
  The fine branch and the sliding window of the attention kernel, as weighted means of value rows.
-/
module

public import proofs.«01_k».proof.Proof.Nsa.AttnD

@[expose] public section

set_option maxRecDepth 16384

noncomputable section

namespace Cert.Nsa

open Idealize.ShloMosaic
open Cert.KernelIdeal Cert.KernelIdeal.Gen

/-- The lanes of one head of a row. -/
def qh {α : Type} (Q : Fin 1024 → Fin 128 → α) (u : Fin 2) (i : Fin 1024) (d : Fin 64) : α := Q i (lane u d)

/-- A number times sixteen plus a position is at most the row number. -/
theorem fine_le (J t i : ℕ) : ((((J : ℝ) : EReal) * ((16 : ℝ) : EReal) + ((t : ℝ) : EReal)) ≤ ((i : ℝ) : EReal)) ↔ 16 * J + t ≤ i := by
  rw [← EReal.coe_mul, ← EReal.coe_add, EReal.coe_le_coe_iff]
  constructor
  · intro h
    have h' : ((J * 16 + t : ℕ) : ℝ) ≤ (i : ℝ) := by push_cast; exact h
    have := Nat.cast_le.1 h'; omega
  · intro h
    have h' : J * 16 + t ≤ i := by omega
    have := (Nat.cast_le (α := ℝ)).2 h'
    push_cast at this; exact this

/-- The weight of one of the four positions of the selected block. -/
theorem fw_block (q : Fin 64 → ℝ) (k : Fin 1024 → Fin 64 → ℝ) (J : Fin 64) (i : Fin 1024) (t : Fin 6) (ht : t.val < 4) :
    fw q k J i t = if 16 * J.val + t.val ≤ i.val then Real.exp (score q (k (prow ⟨t.val, by omega⟩ J))) else 0 := by
  have h : fpos J i t = prow ⟨t.val, by omega⟩ J := by
    unfold fpos prow; rw [if_pos ht]; exact Fin.ext (by simp only []; omega)
  unfold fw; rw [h]; rfl

/-- A row's own pair, on an even row. -/
theorem fpos_even (J : Fin 64) (i : Fin 1024) (h : i.val % 2 = 0) : fpos J i 4 = i := by
  refine Fin.ext ?_
  show (if (4 : ℕ) < 4 then _ else _ : Fin 1024).val = _
  rw [if_neg (by norm_num)]; show 2 * (i.val / 2) + (4 - 4) = _; omega
/-- The first row of the pair, on an odd row. -/
theorem fpos_odd (J : Fin 64) (i : Fin 1024) (h : ¬ i.val % 2 = 0) : fpos J i 4 = rot 1 i := by
  refine Fin.ext ?_
  unfold rot; rw [dif_neg (by omega)]
  show (if (4 : ℕ) < 4 then _ else _ : Fin 1024).val = _
  rw [if_neg (by norm_num)]; show 2 * (i.val / 2) + (4 - 4) = i.val - 1; omega
/-- The second row of the pair. -/
theorem fpos_five (J : Fin 64) (i : Fin 1024) : (fpos J i 5).val = 2 * (i.val / 2) + 1 := by
  show (if (5 : ℕ) < 4 then _ else _ : Fin 1024).val = _
  rw [if_neg (by norm_num)]; rfl

/-- The weight of the first row of the pair. -/
theorem fw_four (q : Fin 64 → ℝ) (k : Fin 1024 → Fin 64 → ℝ) (J : Fin 64) (i : Fin 1024) :
    fw q k J i 4 = if i.val % 2 = 0 then Real.exp (score q (k i)) else Real.exp (score q (k (rot 1 i))) := by
  have hv : (fpos J i 4).val ≤ i.val := by
    show (if (4 : ℕ) < 4 then _ else _ : Fin 1024).val ≤ _
    rw [if_neg (by norm_num)]; show 2 * (i.val / 2) + (4 - 4) ≤ _; omega
  unfold fw; rw [if_pos hv]
  by_cases h : i.val % 2 = 0
  · rw [if_pos h, fpos_even J i h]
  · rw [if_neg h, fpos_odd J i h]
/-- The weight of the second row of the pair. -/
theorem fw_five (q : Fin 64 → ℝ) (k : Fin 1024 → Fin 64 → ℝ) (J : Fin 64) (i : Fin 1024) :
    fw q k J i 5 = if i.val % 2 = 0 then 0 else Real.exp (score q (k i)) := by
  have hv := fpos_five J i
  unfold fw
  by_cases h : i.val % 2 = 0
  · rw [if_pos h, if_neg (by omega)]
  · rw [if_neg h, if_pos (by omega), show fpos J i 5 = i from Fin.ext (by omega)]

/-- The fine branch with its six positions written out. -/
theorem fOut_six (q : Fin 64 → ℝ) (k : Fin 1024 → Fin 64 → ℝ) (v : Fin 1024 → Fin 64 → EReal) (J : Fin 64) (i : Fin 1024) (d : Fin 64) :
    Ideal.div (((fw q k J i 4 : ℝ) : EReal) * (if i.val % 2 = 0 then v i d else v (rot 1 i) d) + ((fw q k J i 5 : ℝ) : EReal) * v i d
        + ((fw q k J i 0 : ℝ) : EReal) * v (prow 0 J) d + ((fw q k J i 1 : ℝ) : EReal) * v (prow 1 J) d
        + ((fw q k J i 2 : ℝ) : EReal) * v (prow 2 J) d + ((fw q k J i 3 : ℝ) : EReal) * v (prow 3 J) d)
      ((fw q k J i 0 + fw q k J i 1 + fw q k J i 2 + fw q k J i 3 + fw q k J i 4 + fw q k J i 5 : ℝ) : EReal) = fOut q k v J i d := by
  have p : ∀ t : Fin 4, fpos J i ⟨t.val, by omega⟩ = prow ⟨t.val, by omega⟩ J := by
    intro t
    unfold fpos prow; rw [if_pos t.isLt]; exact Fin.ext (by simp only []; omega)
  have h0 : v (fpos J i 0) d = v (prow 0 J) d := by rw [show fpos J i 0 = prow 0 J from p 0]
  have h1 : v (fpos J i 1) d = v (prow 1 J) d := by rw [show fpos J i 1 = prow 1 J from p 1]
  have h2 : v (fpos J i 2) d = v (prow 2 J) d := by rw [show fpos J i 2 = prow 2 J from p 2]
  have h3 : v (fpos J i 3) d = v (prow 3 J) d := by rw [show fpos J i 3 = prow 3 J from p 3]
  have h4 : v (fpos J i 4) d = if i.val % 2 = 0 then v i d else v (rot 1 i) d := by
    by_cases h : i.val % 2 = 0
    · rw [if_pos h, fpos_even J i h]
    · rw [if_neg h, fpos_odd J i h]
  have h5 : ((fw q k J i 5 : ℝ) : EReal) * v (fpos J i 5) d = ((fw q k J i 5 : ℝ) : EReal) * v i d := by
    have hv := fpos_five J i
    by_cases h : i.val % 2 = 0
    · rw [fw_five, if_pos h, EReal.coe_zero, zero_mul, zero_mul]
    · rw [show fpos J i 5 = i from Fin.ext (by omega)]
  have hs := div_wmean (fw q k J i) (fun t => v (fpos J i t) d) (fw_sum_pos q k J i)
  rw [Fin.sum_univ_six, Fin.sum_univ_six] at hs; beta_reduce at hs
  rw [h0, h1, h2, h3, h4, h5] at hs
  unfold fOut
  rw [← hs]
  congr 1
  ac_rfl

variable (v1 v3 v5 v11 v289 v331 : FVec Ideal S1024x128 .f32) (v83 : FVec Ideal S128x128 .f32) (v29 : IVec S1024x128 1) (Q K : Fin 1024 → Fin 128 → ℝ) (V : Fin 1024 → Fin 128 → EReal) (S : Fin 2 → Fin 1024 → Fin 64)

/-- The exponential score against a row of the selected block. -/
theorem es_sel (hQ : ∀ i x, v331 (ix2 i x) = ((Q i x * (1 / 8) : ℝ) : EReal)) (hB : IsHeads v83) (t : Fin 16) (Y : FVec Ideal S1024x128 .f32)
    (hY : IsReal Y fun i c => K (prow t (S (hd c) i)) c) (i : Fin 1024) (c : Fin 128) :
    Ideal.exp (∑ x, v331 (ix2 i x) * Y (ix2 i x) * v83 (ix2 x c))
      = ((Real.exp (score (qh Q (hd c) i) (qh K (hd c) (prow t (S (hd c) i)))) : ℝ) : EReal) := by
  rw [es_score (Q i) (fun x => K (prow t (S (hd x) i)) x) c _ _ _ (hQ i) (fun x => hY i x) (fun x => hB x c)]
  unfold qh
  simp only [hd_lane]

/-- The weight of position 0 of the selected block. -/
theorem pay70_at (hQ : IsReal v1 Q) (hB : IsHeads v83) (h11 : IsReal v11 fun i _ => (i.val : ℝ)) (h289 : IsReal v289 fun i c => ((S (hd c) i).val : ℝ))
    (Y : FVec Ideal S1024x128 .f32) (hY : IsReal Y fun i c => K (prow 0 (S (hd c) i)) c) :
    IsReal (k1_pay70 (k1_pay67 v11 v289) (k1_pay68 v1 v83 Y) k1_pay69) fun i c => fw (qh Q (hd c) i) (qh K (hd c)) (S (hd c) i) i 0 := by
  intro i c
  have e : k1_pay70 (k1_pay67 v11 v289) (k1_pay68 v1 v83 Y) k1_pay69 (ix2 i c)
      = if v289 (ix2 i c) * Ideal.ofBits FTy.f32 1098907648#32 ≤ v11 (ix2 i c) then Ideal.exp (∑ x, k1_pay63 v1 (ix2 i x) * Y (ix2 i x) * v83 (ix2 x c)) else (0 : EReal) := by
    pointwise [k1_pay70, k1_pay67, k1_pay68, k1_pay69]
  rw [e, es_sel (k1_pay63 v1) v83 Q K S (pay63_at v1 Q hQ) hB 0 Y hY i c, h11, h289]; beta_reduce
  rw [word_sixteen, fw_block _ _ _ _ 0 (by decide)]
  have hl := fine_le (S (hd c) i).val 0 i.val
  rw [Nat.cast_zero, EReal.coe_zero, add_zero] at hl
  by_cases h : 16 * (S (hd c) i).val + (0 : Fin 6).val ≤ i.val
  · rw [if_pos (hl.2 h), if_pos h]; rfl
  · rw [if_neg (fun h' => h (hl.1 h')), if_neg h]; rfl

/-- The weight of position 1 of the selected block. -/
theorem pay71_at (hQ : IsReal v331 fun i c => Q i c * (1 / 8)) (hB : IsHeads v83) (h11 : IsReal v11 fun i _ => (i.val : ℝ)) (h289 : IsReal v289 fun i c => ((S (hd c) i).val : ℝ))
    (Y : FVec Ideal S1024x128 .f32) (hY : IsReal Y fun i c => K (prow 1 (S (hd c) i)) c) :
    IsReal (k1_pay71 v11 v83 v289 Y v331) fun i c => fw (qh Q (hd c) i) (qh K (hd c)) (S (hd c) i) i 1 := by
  intro i c
  have e : k1_pay71 v11 v83 v289 Y v331 (ix2 i c)
      = if v289 (ix2 i c) * Ideal.ofBits FTy.f32 1098907648#32 + 1 ≤ v11 (ix2 i c) then Ideal.exp (∑ x, v331 (ix2 i x) * Y (ix2 i x) * v83 (ix2 x c)) else (0 : EReal) := by
    pointwise [k1_pay71]
  have hl := fine_le (S (hd c) i).val 1 i.val
  rw [e, es_sel v331 v83 Q K S hQ hB 1 Y hY i c, h11, h289]; beta_reduce
  rw [word_sixteen, fw_block _ _ _ _ 1 (by decide)]
  rw [Nat.cast_one, EReal.coe_one] at hl
  by_cases h : 16 * (S (hd c) i).val + (1 : Fin 6).val ≤ i.val
  · rw [if_pos (hl.2 h), if_pos h]; rfl
  · rw [if_neg (fun h' => h (hl.1 h')), if_neg h]; rfl

/-- The weight of position 2 of the selected block. -/
theorem pay72_at (hQ : IsReal v331 fun i c => Q i c * (1 / 8)) (hB : IsHeads v83) (h11 : IsReal v11 fun i _ => (i.val : ℝ)) (h289 : IsReal v289 fun i c => ((S (hd c) i).val : ℝ))
    (Y : FVec Ideal S1024x128 .f32) (hY : IsReal Y fun i c => K (prow 2 (S (hd c) i)) c) :
    IsReal (k1_pay72 v11 v83 v289 Y v331) fun i c => fw (qh Q (hd c) i) (qh K (hd c)) (S (hd c) i) i 2 := by
  intro i c
  have e : k1_pay72 v11 v83 v289 Y v331 (ix2 i c)
      = if v289 (ix2 i c) * Ideal.ofBits FTy.f32 1098907648#32 + Ideal.ofBits FTy.f32 1073741824#32 ≤ v11 (ix2 i c) then Ideal.exp (∑ x, v331 (ix2 i x) * Y (ix2 i x) * v83 (ix2 x c)) else (0 : EReal) := by
    pointwise [k1_pay72]
  have hl := fine_le (S (hd c) i).val 2 i.val
  rw [e, es_sel v331 v83 Q K S hQ hB 2 Y hY i c, h11, h289]; beta_reduce
  rw [word_sixteen, word_two, fw_block _ _ _ _ 2 (by decide)]
  rw [Nat.cast_ofNat] at hl
  by_cases h : 16 * (S (hd c) i).val + (2 : Fin 6).val ≤ i.val
  · rw [if_pos (hl.2 h), if_pos h]; rfl
  · rw [if_neg (fun h' => h (hl.1 h')), if_neg h]; rfl

/-- The weight of position 3 of the selected block. -/
theorem pay73_at (hQ : IsReal v331 fun i c => Q i c * (1 / 8)) (hB : IsHeads v83) (h11 : IsReal v11 fun i _ => (i.val : ℝ)) (h289 : IsReal v289 fun i c => ((S (hd c) i).val : ℝ))
    (Y : FVec Ideal S1024x128 .f32) (hY : IsReal Y fun i c => K (prow 3 (S (hd c) i)) c) :
    IsReal (k1_pay73 v11 v83 v289 Y v331) fun i c => fw (qh Q (hd c) i) (qh K (hd c)) (S (hd c) i) i 3 := by
  intro i c
  have e : k1_pay73 v11 v83 v289 Y v331 (ix2 i c)
      = if v289 (ix2 i c) * Ideal.ofBits FTy.f32 1098907648#32 + Ideal.ofBits FTy.f32 1077936128#32 ≤ v11 (ix2 i c) then Ideal.exp (∑ x, v331 (ix2 i x) * Y (ix2 i x) * v83 (ix2 x c)) else (0 : EReal) := by
    pointwise [k1_pay73]
  have hl := fine_le (S (hd c) i).val 3 i.val
  rw [e, es_sel v331 v83 Q K S hQ hB 3 Y hY i c, h11, h289]; beta_reduce
  rw [word_sixteen, word_three, fw_block _ _ _ _ 3 (by decide)]
  rw [Nat.cast_ofNat] at hl
  by_cases h : 16 * (S (hd c) i).val + (3 : Fin 6).val ≤ i.val
  · rw [if_pos (hl.2 h), if_pos h]; rfl
  · rw [if_neg (fun h' => h (hl.1 h')), if_neg h]; rfl

/-- The weight of the first row of the pair. -/
theorem pay74_at (h29 : IsEven v29) (v340 v343 : FVec Ideal S1024x128 .f32) (h0 : IsReal v340 fun i c => es Q K i i c) (h1 : IsReal v343 fun i c => es Q K i (rot 1 i) c) :
    IsReal (k1_pay74 v29 v340 v343) fun i c => fw (qh Q (hd c) i) (qh K (hd c)) (S (hd c) i) i 4 := by
  intro i c
  have e : k1_pay74 v29 v340 v343 (ix2 i c) = Scalar.select (v29 (ix2 i c)) (v340 (ix2 i c)) (v343 (ix2 i c)) := by pointwise [k1_pay74]
  rw [e, h29, select_ofBool, h0, h1]; beta_reduce
  rw [fw_four, ite_coe]; rfl

/-- The weight of the second row of the pair. -/
theorem pay75_at (h29 : IsEven v29) (v340 : FVec Ideal S1024x128 .f32) (h0 : IsReal v340 fun i c => es Q K i i c) :
    IsReal (k1_pay75 v29 v340) fun i c => fw (qh Q (hd c) i) (qh K (hd c)) (S (hd c) i) i 5 := by
  intro i c
  have e : k1_pay75 v29 v340 (ix2 i c) = Scalar.select (v29 (ix2 i c)) (0 : EReal) (v340 (ix2 i c)) := by pointwise [k1_pay75]
  rw [e, h29, select_ofBool, h0]; beta_reduce
  rw [fw_five, ← EReal.coe_zero, ite_coe]; rfl

/-- The fine branch. -/
theorem fine_at (v299 v309 v319 v329 v304 v314 v324 v337 v340 v343 v351 v352 : FVec Ideal S1024x128 .f32) (v348 : IVec S1024x128 1)
    (h29 : IsEven v29) (hV : Is v5 V) (h337 : Is v337 fun i c => V (rot 1 i) c)
    (w0 : IsReal (k1_pay70 v348 v351 v352) fun i c => fw (qh Q (hd c) i) (qh K (hd c)) (S (hd c) i) i 0)
    (w1 : IsReal (k1_pay71 v11 v83 v289 v304 v331) fun i c => fw (qh Q (hd c) i) (qh K (hd c)) (S (hd c) i) i 1)
    (w2 : IsReal (k1_pay72 v11 v83 v289 v314 v331) fun i c => fw (qh Q (hd c) i) (qh K (hd c)) (S (hd c) i) i 2)
    (w3 : IsReal (k1_pay73 v11 v83 v289 v324 v331) fun i c => fw (qh Q (hd c) i) (qh K (hd c)) (S (hd c) i) i 3)
    (w4 : IsReal (k1_pay74 v29 v340 v343) fun i c => fw (qh Q (hd c) i) (qh K (hd c)) (S (hd c) i) i 4)
    (w5 : IsReal (k1_pay75 v29 v340) fun i c => fw (qh Q (hd c) i) (qh K (hd c)) (S (hd c) i) i 5)
    (y0 : Is v299 fun i c => V (prow 0 (S (hd c) i)) c) (y1 : Is v309 fun i c => V (prow 1 (S (hd c) i)) c)
    (y2 : Is v319 fun i c => V (prow 2 (S (hd c) i)) c) (y3 : Is v329 fun i c => V (prow 3 (S (hd c) i)) c) :
    Is (k1_pay78 v319 v329 (k1_pay72 v11 v83 v289 v314 v331) (k1_pay73 v11 v83 v289 v324 v331)
        (k1_pay76 v11 v29 v83 v289 v304 v314 v324 v331 v340 v343 v348 v351 v352)
        (k1_pay77 v5 v11 v29 v83 v289 v299 v304 v309 v331 v337 v340 v343 v348 v351 v352))
      fun i c => fOut (qh Q (hd c) i) (qh K (hd c)) (qh V (hd c)) (S (hd c) i) i (sub c) := by
  intro i c
  have e76 : k1_pay76 v11 v29 v83 v289 v304 v314 v324 v331 v340 v343 v348 v351 v352 (ix2 i c)
      = k1_pay70 v348 v351 v352 (ix2 i c) + k1_pay71 v11 v83 v289 v304 v331 (ix2 i c) + k1_pay72 v11 v83 v289 v314 v331 (ix2 i c)
        + k1_pay73 v11 v83 v289 v324 v331 (ix2 i c) + k1_pay74 v29 v340 v343 (ix2 i c) + k1_pay75 v29 v340 (ix2 i c) := by
    pointwise [k1_pay76]
  have e77 : k1_pay77 v5 v11 v29 v83 v289 v299 v304 v309 v331 v337 v340 v343 v348 v351 v352 (ix2 i c)
      = k1_pay74 v29 v340 v343 (ix2 i c) * Scalar.select (v29 (ix2 i c)) (v5 (ix2 i c)) (v337 (ix2 i c)) + k1_pay75 v29 v340 (ix2 i c) * v5 (ix2 i c)
        + k1_pay70 v348 v351 v352 (ix2 i c) * v299 (ix2 i c) + k1_pay71 v11 v83 v289 v304 v331 (ix2 i c) * v309 (ix2 i c) := by
    pointwise [k1_pay77]
  have e78 : ∀ a b s n : FVec Ideal S1024x128 .f32, k1_pay78 v319 v329 a b s n (ix2 i c)
      = Ideal.div (n (ix2 i c) + a (ix2 i c) * v319 (ix2 i c) + b (ix2 i c) * v329 (ix2 i c)) (s (ix2 i c)) := by
    intro a b s n; pointwise [k1_pay78]
  rw [e78, e76, e77, w0 i c, w1 i c, w2 i c, w3 i c, w4 i c, w5 i c, y0 i c, y1 i c, y2 i c, y3 i c, h29, select_ofBool, hV, h337]
  simp only [← EReal.coe_add]
  rw [← fOut_six]
  unfold qh
  simp only [lane_hd_sub]

/-- The row numbers as words. -/
abbrev IsRow (X : IVec S1024x128 32) : Prop := ∀ (i : Fin 1024) (c : Fin 128), X (ix2 i c) = BitVec.ofNat 32 i.val

/-- A row number is at least a window offset. -/
theorem row_ge (i : Fin 1024) (o : Fin 8) : IntOp.cmpi CmpIPredicate.sge (BitVec.ofNat 32 i.val) (BitVec.ofNat 32 o.val) = BitVec.ofBool (decide (o.val ≤ i.val)) := by
  revert i o; decide +kernel

/-- The weight of a window position from the exponential score against the rotated row. -/
theorem ww_rot (i : Fin 1024) (c : Fin 128) (o : Fin 8) :
    (if o.val ≤ i.val then es Q K i (rot o.val i) c else 0) = ww (qh Q (hd c) i) (qh K (hd c)) i o := by
  unfold ww
  by_cases h : o.val ≤ i.val
  · rw [if_pos h, if_pos h, rot_wpos o i h]; rfl
  · rw [if_neg h, if_neg h]

/-- Under the weight the rotated row is the window position. -/
theorem ww_mul (q : Fin 64 → ℝ) (k : Fin 1024 → Fin 64 → ℝ) (y : Fin 1024 → EReal) (i : Fin 1024) (o : Fin 8) :
    ((ww q k i o : ℝ) : EReal) * y (rot o.val i) = ((ww q k i o : ℝ) : EReal) * y (wpos i o) := by
  by_cases h : o.val ≤ i.val
  · rw [rot_wpos o i h]
  · unfold ww; rw [if_neg h, EReal.coe_zero, zero_mul, zero_mul]

/-- The weight of window position 1. -/
theorem pay93_at (v10 : IVec S1024x128 32) (h10 : IsRow v10) (X : FVec Ideal S1024x128 .f32) (hX : IsReal X fun i c => es Q K i (rot 1 i) c) :
    IsReal (k1_pay93 v10 X) fun i c => ww (qh Q (hd c) i) (qh K (hd c)) i 1 := by
  intro i c
  have e : k1_pay93 v10 X (ix2 i c) = Scalar.select (IntOp.cmpi CmpIPredicate.sge (v10 (ix2 i c)) 1#32) (X (ix2 i c)) (0 : EReal) := by pointwise [k1_pay93]
  rw [e, h10, show (1#32 : BitVec 32) = BitVec.ofNat 32 (1 : Fin 8).val from rfl, row_ge, select_ofBool, hX, ← EReal.coe_zero, ite_coe]
  exact congrArg _ (ww_rot Q K i c 1)

/-- The weight of window position 2. -/
theorem pay94_at (v10 : IVec S1024x128 32) (h10 : IsRow v10) (X : FVec Ideal S1024x128 .f32) (hX : IsReal X fun i c => es Q K i (rot 2 i) c) :
    IsReal (k1_pay94 v10 X) fun i c => ww (qh Q (hd c) i) (qh K (hd c)) i 2 := by
  intro i c
  have e : k1_pay94 v10 X (ix2 i c) = Scalar.select (IntOp.cmpi CmpIPredicate.sge (v10 (ix2 i c)) 2#32) (X (ix2 i c)) (0 : EReal) := by pointwise [k1_pay94]
  rw [e, h10, show (2#32 : BitVec 32) = BitVec.ofNat 32 (2 : Fin 8).val from rfl, row_ge, select_ofBool, hX, ← EReal.coe_zero, ite_coe]
  exact congrArg _ (ww_rot Q K i c 2)

/-- The weight of window position 3. -/
theorem pay95_at (v10 : IVec S1024x128 32) (h10 : IsRow v10) (X : FVec Ideal S1024x128 .f32) (hX : IsReal X fun i c => es Q K i (rot 3 i) c) :
    IsReal (k1_pay95 v10 X) fun i c => ww (qh Q (hd c) i) (qh K (hd c)) i 3 := by
  intro i c
  have e : k1_pay95 v10 X (ix2 i c) = Scalar.select (IntOp.cmpi CmpIPredicate.sge (v10 (ix2 i c)) 3#32) (X (ix2 i c)) (0 : EReal) := by pointwise [k1_pay95]
  rw [e, h10, show (3#32 : BitVec 32) = BitVec.ofNat 32 (3 : Fin 8).val from rfl, row_ge, select_ofBool, hX, ← EReal.coe_zero, ite_coe]
  exact congrArg _ (ww_rot Q K i c 3)

/-- The weight of window position 4. -/
theorem pay96_at (v10 : IVec S1024x128 32) (h10 : IsRow v10) (X : FVec Ideal S1024x128 .f32) (hX : IsReal X fun i c => es Q K i (rot 4 i) c) :
    IsReal (k1_pay96 v10 X) fun i c => ww (qh Q (hd c) i) (qh K (hd c)) i 4 := by
  intro i c
  have e : k1_pay96 v10 X (ix2 i c) = Scalar.select (IntOp.cmpi CmpIPredicate.sge (v10 (ix2 i c)) 4#32) (X (ix2 i c)) (0 : EReal) := by pointwise [k1_pay96]
  rw [e, h10, show (4#32 : BitVec 32) = BitVec.ofNat 32 (4 : Fin 8).val from rfl, row_ge, select_ofBool, hX, ← EReal.coe_zero, ite_coe]
  exact congrArg _ (ww_rot Q K i c 4)

/-- The weight of window position 5. -/
theorem pay97_at (v10 : IVec S1024x128 32) (h10 : IsRow v10) (X : FVec Ideal S1024x128 .f32) (hX : IsReal X fun i c => es Q K i (rot 5 i) c) :
    IsReal (k1_pay97 v10 X) fun i c => ww (qh Q (hd c) i) (qh K (hd c)) i 5 := by
  intro i c
  have e : k1_pay97 v10 X (ix2 i c) = Scalar.select (IntOp.cmpi CmpIPredicate.sge (v10 (ix2 i c)) 5#32) (X (ix2 i c)) (0 : EReal) := by pointwise [k1_pay97]
  rw [e, h10, show (5#32 : BitVec 32) = BitVec.ofNat 32 (5 : Fin 8).val from rfl, row_ge, select_ofBool, hX, ← EReal.coe_zero, ite_coe]
  exact congrArg _ (ww_rot Q K i c 5)

/-- The weight of window position 6. -/
theorem pay98_at (v10 : IVec S1024x128 32) (h10 : IsRow v10) (X : FVec Ideal S1024x128 .f32) (hX : IsReal X fun i c => es Q K i (rot 6 i) c) :
    IsReal (k1_pay98 v10 X) fun i c => ww (qh Q (hd c) i) (qh K (hd c)) i 6 := by
  intro i c
  have e : k1_pay98 v10 X (ix2 i c) = Scalar.select (IntOp.cmpi CmpIPredicate.sge (v10 (ix2 i c)) 6#32) (X (ix2 i c)) (0 : EReal) := by pointwise [k1_pay98]
  rw [e, h10, show (6#32 : BitVec 32) = BitVec.ofNat 32 (6 : Fin 8).val from rfl, row_ge, select_ofBool, hX, ← EReal.coe_zero, ite_coe]
  exact congrArg _ (ww_rot Q K i c 6)

/-- The weight of window position 7. -/
theorem pay99_at (v10 : IVec S1024x128 32) (h10 : IsRow v10) (hQ : IsReal v331 fun i c => Q i c * (1 / 8)) (hK : IsReal v3 K) (hB : IsHeads v83) :
    IsReal (k1_pay99 v10 v83 v331 (k1_pay89 v3)) fun i c => ww (qh Q (hd c) i) (qh K (hd c)) i 7 := by
  intro i c
  have e : k1_pay99 v10 v83 v331 (k1_pay89 v3) (ix2 i c) = Scalar.select (IntOp.cmpi CmpIPredicate.sge (v10 (ix2 i c)) 7#32) (Ideal.exp (∑ x, v331 (ix2 i x) * k1_pay89 v3 (ix2 i x) * v83 (ix2 x c))) (0 : EReal) := by pointwise [k1_pay99]
  rw [e, es_score (Q i) (K (rot 7 i)) c _ _ _ (hQ i) (fun x => by rw [pay89_at]; exact hK _ _) (fun x => hB x c)]
  rw [h10, show (7#32 : BitVec 32) = BitVec.ofNat 32 (7 : Fin 8).val from rfl, row_ge, select_ofBool, ← EReal.coe_zero, ite_coe]
  exact congrArg _ (ww_rot Q K i c 7)

/-- The sliding window. -/
theorem window_at (v10 : IVec S1024x128 32) (v340 v343 v413 v422 v431 v440 v449 v452 v337 v410 v419 v428 v437 v446 v455 : FVec Ideal S1024x128 .f32)
    (hV : Is v5 V) (w0 : IsReal v340 fun i c => es Q K i i c)
    (w1 : IsReal (k1_pay93 v10 v343) fun i c => ww (qh Q (hd c) i) (qh K (hd c)) i 1)
    (w2 : IsReal (k1_pay94 v10 v413) fun i c => ww (qh Q (hd c) i) (qh K (hd c)) i 2)
    (w3 : IsReal (k1_pay95 v10 v422) fun i c => ww (qh Q (hd c) i) (qh K (hd c)) i 3)
    (w4 : IsReal (k1_pay96 v10 v431) fun i c => ww (qh Q (hd c) i) (qh K (hd c)) i 4)
    (w5 : IsReal (k1_pay97 v10 v440) fun i c => ww (qh Q (hd c) i) (qh K (hd c)) i 5)
    (w6 : IsReal (k1_pay98 v10 v449) fun i c => ww (qh Q (hd c) i) (qh K (hd c)) i 6)
    (w7 : IsReal (k1_pay99 v10 v83 v331 v452) fun i c => ww (qh Q (hd c) i) (qh K (hd c)) i 7)
    (y1 : Is v337 fun i c => V (rot 1 i) c) (y2 : Is v410 fun i c => V (rot 2 i) c) (y3 : Is v419 fun i c => V (rot 3 i) c)
    (y4 : Is v428 fun i c => V (rot 4 i) c) (y5 : Is v437 fun i c => V (rot 5 i) c) (y6 : Is v446 fun i c => V (rot 6 i) c)
    (y7 : Is v455 fun i c => V (rot 7 i) c) :
    Is (k1_pay103 v428 v437 v446 v455 (k1_pay96 v10 v431) (k1_pay97 v10 v440) (k1_pay98 v10 v449) (k1_pay99 v10 v83 v331 v452)
        (k1_pay100 v10 v83 v331 v340 v343 v413 v422 v431 v440 v449 v452) (k1_pay101 v5 v10 v337 v340 v343 v410 v413) (k1_pay102 v10 v419 v422))
      fun i c => wOut (qh Q (hd c) i) (qh K (hd c)) (qh V (hd c)) i (sub c) := by
  intro i c
  have e100 : k1_pay100 v10 v83 v331 v340 v343 v413 v422 v431 v440 v449 v452 (ix2 i c)
      = v340 (ix2 i c) + k1_pay93 v10 v343 (ix2 i c) + k1_pay94 v10 v413 (ix2 i c) + k1_pay95 v10 v422 (ix2 i c) + k1_pay96 v10 v431 (ix2 i c)
        + k1_pay97 v10 v440 (ix2 i c) + k1_pay98 v10 v449 (ix2 i c) + k1_pay99 v10 v83 v331 v452 (ix2 i c) := by
    pointwise [k1_pay100]
  have e101 : k1_pay101 v5 v10 v337 v340 v343 v410 v413 (ix2 i c)
      = v340 (ix2 i c) * v5 (ix2 i c) + k1_pay93 v10 v343 (ix2 i c) * v337 (ix2 i c) + k1_pay94 v10 v413 (ix2 i c) * v410 (ix2 i c) := by
    pointwise [k1_pay101]
  have e102 : k1_pay102 v10 v419 v422 (ix2 i c) = k1_pay95 v10 v422 (ix2 i c) * v419 (ix2 i c) := by pointwise [k1_pay102]
  have e103 : ∀ a b s n t l m : FVec Ideal S1024x128 .f32, k1_pay103 v428 v437 v446 v455 a b s n t l m (ix2 i c)
      = Ideal.div (l (ix2 i c) + m (ix2 i c) + a (ix2 i c) * v428 (ix2 i c) + b (ix2 i c) * v437 (ix2 i c) + s (ix2 i c) * v446 (ix2 i c)
          + n (ix2 i c) * v455 (ix2 i c)) (t (ix2 i c)) := by
    intro a b s n t l m; pointwise [k1_pay103]
  have w0' : v340 (ix2 i c) = ((ww (qh Q (hd c) i) (qh K (hd c)) i 0 : ℝ) : EReal) := by
    rw [w0]; unfold ww; rw [if_pos (by simp)]; rfl
  rw [e103, e100, e101, e102, w0', w1 i c, w2 i c, w3 i c, w4 i c, w5 i c, w6 i c, w7 i c, y1 i c, y2 i c, y3 i c, y4 i c, y5 i c, y6 i c, y7 i c, hV]
  simp only [← EReal.coe_add]
  have hv : ∀ r, V r c = qh V (hd c) r (sub c) := by intro r; unfold qh; rw [lane_hd_sub]
  have m1 := fun o => ww_mul (qh Q (hd c) i) (qh K (hd c)) (fun r => qh V (hd c) r (sub c)) i o
  have hs := div_wmean (ww (qh Q (hd c) i) (qh K (hd c)) i) (fun o => qh V (hd c) (wpos i o) (sub c)) (ww_sum_pos _ _ _)
  simp only [← m1] at hs
  rw [Fin.sum_univ_eight, Fin.sum_univ_eight] at hs
  unfold wOut
  rw [← hs]
  simp only [hv]
  rfl

end Cert.Nsa

end
-- ==== Proof.Nsa.AttnF.lean ====
/-
  What one program of the attention kernel stores: at row `i` and lane `c` the output of that lane's head.
-/
module

public import proofs.«01_k».proof.Proof.Nsa.AttnE
public import proofs.«01_k».proof.Proof.Gen.KernelIdeal.Frame

@[expose] public section

set_option maxRecDepth 16384

noncomputable section

namespace Cert.Nsa

open Idealize.ShloMosaic
open Cert.KernelIdeal Cert.KernelIdeal.Gen

/-- The first query block row by row. -/
theorem pay2_at (x : Vec Ideal S1x1x1024x128 .f32) (i : Fin 1024) (c : Fin 128) : k1_pay2 (View.ld x r1_0) (ix2 i c) = x (ix4 0 0 i c) := by
  rw [View.ld_unit_zero (by decide +kernel)]; pointwise [k1_pay2]
/-- The key block row by row. -/
theorem pay3_at (x : Vec Ideal S1x1x1024x128 .f32) (i : Fin 1024) (c : Fin 128) : k1_pay3 (View.ld x r1_0) (ix2 i c) = x (ix4 0 0 i c) := by
  rw [View.ld_unit_zero (by decide +kernel)]; pointwise [k1_pay3]
/-- The value block row by row. -/
theorem pay4_at (x : Vec Ideal S1x1x1024x128 .f32) (i : Fin 1024) (c : Fin 128) : k1_pay4 (View.ld x r1_0) (ix2 i c) = x (ix4 0 0 i c) := by
  rw [View.ld_unit_zero (by decide +kernel)]; pointwise [k1_pay4]
/-- The gate block row by row. -/
theorem pay104_at (x : Vec Ideal S1x1x1024x6 .f32) (i : Fin 1024) (c : Fin 6) : k1_pay104 (View.ld x r1_6) (ix2 i c) = x (ix4 0 0 i c) := by
  rw [View.ld_unit_zero (by decide +kernel)]; pointwise [k1_pay104]

/-- The first memory row. -/
theorem mem0_at (x : Vec Ideal S2x1x64 .f32) (d : Fin 64) : View.ld x r1_4 (ix3 0 0 d) = x (ix3 0 0 d) := by
  rw [View.ld_unit]; pointwise
/-- The second memory row. -/
theorem mem1_at (x : Vec Ideal S2x1x64 .f32) (d : Fin 64) : View.ld x r1_5 (ix3 0 0 d) = x (ix3 1 0 d) := by
  rw [View.ld_unit]; pointwise

section
variable (x0 x1 x2 : Vec Ideal S1x1x1024x128 .f32) (x3 x4 : Vec Ideal S1x1x2048 .f32) (x5 : Vec Ideal S2048x128 .f32) (x6 : Vec Ideal S1x128 .f32)
  (x7 : Vec Ideal S2048x128 .f32) (x8 : Vec Ideal S1x128 .f32) (x9 x10 : Vec Ideal S2x1x64 .f32) (x11 : Vec Ideal S1x1x1024x6 .f32)
  (Q K : Fin 1024 → Fin 128 → ℝ) (V : Fin 1024 → Fin 128 → EReal) (C : Fin 64 → Fin 128 → ℝ) (D : Fin 64 → Fin 128 → EReal)
  (mem : Fin 2 → Fin 64 → ℝ) (memv : Fin 2 → Fin 64 → EReal)

/-- The stored block: one head of the attention in every lane. -/
theorem block_at (hQ : ∀ i c, x0 (ix4 0 0 i c) = ((Q i c : ℝ) : EReal)) (hK : ∀ i c, x1 (ix4 0 0 i c) = ((K i c : ℝ) : EReal))
    (hV : ∀ i c, x2 (ix4 0 0 i c) = V i c)
    (hC : ∀ j c, (∑ x : Fin 2048, (x1 (ix4 0 0 (brow j x) (bcol x)) + x3 (ix3 0 0 x)) * x5 (ix2 x c)) + x6 (ix2 0 c) = ((C j c : ℝ) : EReal))
    (hD : ∀ j c, (∑ x : Fin 2048, (x2 (ix4 0 0 (brow j x) (bcol x)) + x4 (ix3 0 0 x)) * x7 (ix2 x c)) + x8 (ix2 0 c) = D j c)
    (hm : ∀ u d, x9 (ix3 u 0 d) = ((mem u d : ℝ) : EReal)) (hmv : ∀ u d, x10 (ix3 u 0 d) = memv u d) (i : Fin 1024) (c : Fin 128) :
    out1_12 x0 x1 x2 x3 x4 x5 x6 x7 x8 x9 x10 x11 (ix4 0 0 i c)
      = head (qh Q (hd c)) (qh K (hd c)) (qh V (hd c)) (comp mem C (hd c)) (comp memv D (hd c))
          (x11 (ix4 0 0 i (gcol (hd c) 0))) (x11 (ix4 0 0 i (gcol (hd c) 1))) (x11 (ix4 0 0 i (gcol (hd c) 2))) i (sub c) := by
  unfold_out out1_12
  rw [View.canon_unit_zero (by decide +kernel)]
  have ld3 : View.ld x3 r1_1 = x3 := View.ld_unit_zero (by decide +kernel) _ x3
  have ld4 : View.ld x4 r1_1 = x4 := View.ld_unit_zero (by decide +kernel) _ x4
  have ld5 : View.ld x5 r1_2 = x5 := View.ld_unit_zero (by decide +kernel) _ x5
  have ld7 : View.ld x7 r1_2 = x7 := View.ld_unit_zero (by decide +kernel) _ x7
  have ld6 : View.ld x6 r1_3 = x6 := View.ld_unit_zero (by decide +kernel) _ x6
  have ld8 : View.ld x8 r1_3 = x8 := View.ld_unit_zero (by decide +kernel) _ x8
  rw [ld3, ld4, ld5, ld7, ld6, ld8, pay1_at, pay104_at, pay104_at, pay104_at]
  have q1 : IsReal (k1_pay2 (View.ld x0 r1_0)) Q := fun i c => by rw [pay2_at]; exact hQ i c
  have q3 : IsReal (k1_pay3 (View.ld x1 r1_0)) K := fun i c => by rw [pay3_at]; exact hK i c
  have q5 : Is (k1_pay4 (View.ld x2 r1_0)) V := fun i c => by rw [pay4_at]; exact hV i c
  have hC' := hC
  have hD' := hD
  clear hC hD
  have hC : ∀ j c, k1_pay40 (k1_pay20 (k1_pay3 (View.ld x1 r1_0))) (k1_pay21 (k1_pay3 (View.ld x1 r1_0))) (k1_pay22 (k1_pay3 (View.ld x1 r1_0))) (k1_pay23 (k1_pay3 (View.ld x1 r1_0))) (k1_pay24 (k1_pay3 (View.ld x1 r1_0))) (k1_pay25 (k1_pay3 (View.ld x1 r1_0))) (k1_pay26 (k1_pay3 (View.ld x1 r1_0))) (k1_pay27 (k1_pay3 (View.ld x1 r1_0))) (k1_pay28 (k1_pay3 (View.ld x1 r1_0))) (k1_pay29 (k1_pay3 (View.ld x1 r1_0))) (k1_pay30 (k1_pay3 (View.ld x1 r1_0))) (k1_pay31 (k1_pay3 (View.ld x1 r1_0))) (k1_pay32 (k1_pay3 (View.ld x1 r1_0))) (k1_pay33 (k1_pay3 (View.ld x1 r1_0))) (k1_pay34 (k1_pay3 (View.ld x1 r1_0))) (k1_pay35 (k1_pay3 (View.ld x1 r1_0))) x3 x5 x6 (ix2 j c) = ((C j c : ℝ) : EReal) := by
    intro j c; rw [pay40_at, ← hC' j c]; simp only [pay3_at]
  have hD : ∀ j c, k1_pay41 (k1_pay19 (k1_pay4 (View.ld x2 r1_0))) (k1_pay36 (k1_pay4 (View.ld x2 r1_0))) (k1_pay37 (k1_pay4 (View.ld x2 r1_0))) (k1_pay38 (k1_pay4 (View.ld x2 r1_0))) (k1_pay39 (k1_pay4 (View.ld x2 r1_0))) x4 x7 (ix2 j c) + x8 (ix2 0 c) = D j c := by
    intro j c; rw [pay41_at, ← hD' j c]; simp only [pay4_at]
  generalize k1_pay2 (View.ld x0 r1_0) = v1 at *
  generalize k1_pay3 (View.ld x1 r1_0) = v3 at *
  generalize k1_pay4 (View.ld x2 r1_0) = v5 at *
  have m0 : ∀ d, View.ld x9 r1_4 (ix3 0 0 d) = ((mem 0 d : ℝ) : EReal) := fun d => by rw [mem0_at]; exact hm 0 d
  have m1 : ∀ d, View.ld x9 r1_5 (ix3 0 0 d) = ((mem 1 d : ℝ) : EReal) := fun d => by rw [mem1_at]; exact hm 1 d
  have n0 : ∀ d, View.ld x10 r1_4 (ix3 0 0 d) = memv 0 d := fun d => by rw [mem0_at]; exact hmv 0 d
  have n1 : ∀ d, View.ld x10 r1_5 (ix3 0 0 d) = memv 1 d := fun d => by rw [mem1_at]; exact hmv 1 d
  generalize View.ld x9 r1_4 = ma at *
  generalize View.ld x9 r1_5 = mb at *
  generalize View.ld x10 r1_4 = na at *
  generalize View.ld x10 r1_5 = nb at *
  have kB := pay12_at
  have k11 := pay6_at
  have k29 := pay7_at
  have k91 := pay14_at
  have k93 := pay15_at
  have k352 := pay69_at
  have k10 : IsRow (iota .tc S1024x128 32 [0] iota_S1024x128_d0_w32) := fun i c => by pointwise
  have r20 : IsReal64 (k1_pay20 v3) fun j c => K (prow 0 j) c := fun j c => by rw [pay20_at]; exact q3 _ _
  have r21 : IsReal64 (k1_pay21 v3) fun j c => K (prow 1 j) c := fun j c => by rw [pay21_at]; exact q3 _ _
  have r22 : IsReal64 (k1_pay22 v3) fun j c => K (prow 2 j) c := fun j c => by rw [pay22_at]; exact q3 _ _
  have r23 : IsReal64 (k1_pay23 v3) fun j c => K (prow 3 j) c := fun j c => by rw [pay23_at]; exact q3 _ _
  have r36 : Is64 (k1_pay36 v5) fun j c => V (prow 0 j) c := fun j c => by rw [pay36_at]; exact q5 _ _
  have r37 : Is64 (k1_pay37 v5) fun j c => V (prow 1 j) c := fun j c => by rw [pay37_at]; exact q5 _ _
  have r38 : Is64 (k1_pay38 v5) fun j c => V (prow 2 j) c := fun j c => by rw [pay38_at]; exact q5 _ _
  have r39 : Is64 (k1_pay39 v5) fun j c => V (prow 3 j) c := fun j c => by rw [pay39_at]; exact q5 _ _
  have D42 : ∀ j c, k1_pay42 (k1_pay41 (k1_pay19 v5) (k1_pay36 v5) (k1_pay37 v5) (k1_pay38 v5) (k1_pay39 v5) x4 x7) x8 (ix2 j c) = D j c := by
    intro j c; rw [pay42_at]; exact hD j c
  generalize k1_pay40 (k1_pay20 v3) (k1_pay21 v3) (k1_pay22 v3) (k1_pay23 v3) (k1_pay24 v3) (k1_pay25 v3) (k1_pay26 v3) (k1_pay27 v3) (k1_pay28 v3) (k1_pay29 v3) (k1_pay30 v3) (k1_pay31 v3) (k1_pay32 v3) (k1_pay33 v3) (k1_pay34 v3) (k1_pay35 v3) x3 x5 x6 = v174 at *
  generalize k1_pay42 (k1_pay41 (k1_pay19 v5) (k1_pay36 v5) (k1_pay37 v5) (k1_pay38 v5) (k1_pay39 v5) x4 x7) x8 = v185 at *
  generalize k1_pay41 (k1_pay19 v5) (k1_pay36 v5) (k1_pay37 v5) (k1_pay38 v5) (k1_pay39 v5) x4 x7 = v181 at *
  have w43 := pay43_at v1 v174 ma Q C mem q1 hC m0
  have w49 := pay49_at v1 v174 mb Q C mem q1 hC m1
  let S : Fin 2 → Fin 1024 → Fin 64 := fun u i => sel (qh Q u i) (comp mem C u) i
  have s0 := pay47_at v1 v174 ma (qh Q 0) (comp mem C 0) w43
  have s1 := pay50_at _ (qh Q 1) (comp mem C 1) w49
  have c0 := pay44_at v1 v174 ma v181 x8 na D memv (qh Q 0) (comp mem C 0) w43 hD n0
  have c1 := pay48_at nb D memv v185 D42 n1
  have hcoarse := pay51_at _ _ _ (qh Q) (comp mem C) (comp memv D) c0 w49 c1 i c
  generalize k1_pay44 (F := Ideal) v1 _ _ _ v174 v181 x8 ma na = v217 at *
  generalize k1_pay48 v185 nb = v243 at *
  generalize k1_pay49 v1 _ _ v174 mb = v264 at *
  generalize k1_pay47 (F := Ideal) _ _ _ _ = v235 at *
  have h0 : IsHot v235 (S 0) := s0
  have h1 : IsHot (k1_pay50 (iota .tc S1024x65 32 [1] iota_S1024x65_d1_w32) (iota .tc S1024x64 32 [1] iota_S1024x64_d1_w32) v264) (S 1) := s1
  have j289 := pay52_at _ _ v235 v264 S h0 h1
  have b0 := pay53_at _ _ v235 v264 S _ _ k91 k93 _ _ h0 h1 r20
  have b1 := pay55_at _ _ v235 v264 S _ _ k91 k93 _ _ h0 h1 r21
  have b2 := pay59_at v235 S _ _ k91 k93 _ _ _ h0 h1 r22
  have b3 := pay61_at v235 S _ _ k91 k93 _ _ _ h0 h1 r23
  have y0 := pay54_at _ _ v235 v264 S _ _ k91 k93 _ _ h0 h1 r36
  have y1 := pay58_at v235 S _ _ k91 k93 _ _ _ h0 h1 r37
  have y2 := pay60_at v235 S _ _ k91 k93 _ _ _ h0 h1 r38
  have y3 := pay62_at v235 S _ _ k91 k93 _ _ _ h0 h1 r39
  have q331 := pay63_at v1 Q q1
  have e0 := pay65_at v1 v3 _ Q K q1 q3 kB
  have e1 := pay66_at v1 v3 _ Q K q1 q3 kB
  have e2 := pay80_at v3 _ _ Q K q331 q3 kB
  have e3 := pay82_at v3 _ _ Q K q331 q3 kB
  have e4 := pay84_at v3 _ _ Q K q331 q3 kB
  have e5 := pay86_at v3 _ _ Q K q331 q3 kB
  have e6 := pay88_at v3 _ _ Q K q331 q3 kB
  have p0 := pay70_at v1 _ _ _ Q K S q1 kB k11 j289 _ b0
  have p1 := pay71_at _ _ _ _ Q K S q331 kB k11 j289 _ b1
  have p2 := pay72_at _ _ _ _ Q K S q331 kB k11 j289 _ b2
  have p3 := pay73_at _ _ _ _ Q K S q331 kB k11 j289 _ b3
  have p4 := pay74_at _ Q K S k29 _ _ e0 e1
  have p5 := pay75_at _ Q K S k29 _ e0
  have t1 : Is (k1_pay64 v5) fun i c => V (rot 1 i) c := fun i c => by rw [pay64_at]; exact q5 _ _
  have t2 : Is (k1_pay79 v5) fun i c => V (rot 2 i) c := fun i c => by rw [pay79_at]; exact q5 _ _
  have t3 : Is (k1_pay81 v5) fun i c => V (rot 3 i) c := fun i c => by rw [pay81_at]; exact q5 _ _
  have t4 : Is (k1_pay83 v5) fun i c => V (rot 4 i) c := fun i c => by rw [pay83_at]; exact q5 _ _
  have t5 : Is (k1_pay85 v5) fun i c => V (rot 5 i) c := fun i c => by rw [pay85_at]; exact q5 _ _
  have t6 : Is (k1_pay87 v5) fun i c => V (rot 6 i) c := fun i c => by rw [pay87_at]; exact q5 _ _
  have t7 : Is (k1_pay92 (k1_pay90 v5) (k1_pay91 v5)) fun i c => V (rot 7 i) c := fun i c => by rw [pay92_at]; exact q5 _ _
  have hfine := fine_at v5 _ _ _ _ _ Q K V S _ _ _ _ _ _ _ _ _ _ _ _ _ k29 q5 t1 p0 p1 p2 p3 p4 p5 y0 y1 y2 y3 i c
  have hwin := window_at v5 _ _ Q K V _ _ _ _ _ _ _ _ _ _ _ _ _ _ _ _ q5 e0 (pay93_at Q K _ k10 _ e1) (pay94_at Q K _ k10 _ e2) (pay95_at Q K _ k10 _ e3)
    (pay96_at Q K _ k10 _ e4) (pay97_at Q K _ k10 _ e5) (pay98_at Q K _ k10 _ e6) (pay99_at v3 _ _ Q K _ k10 q331 q3 kB) t1 t2 t3 t4 t5 t6 t7 i c
  exact congrArg₂ (· + ·) (congrArg₂ (· + ·) (congrArg (· * _) hcoarse) (congrArg (· * _) hfine)) (congrArg (· * _) hwin)

end

end Cert.Nsa

end
-- ==== Proof.Nsa.Reg1.lean ====
/-
  What the attention kernel leaves in its array: the attention rows, head by head.
-/
module

public import proofs.«01_k».proof.Proof.Nsa.AttnF
public import proofs.«01_k».proof.Proof.Nsa.In0
public import proofs.«01_k».proof.Proof.Nsa.Scat
import Idealize.ShloMosaic.Lib.Pipeline.ValueKit

@[expose] public section

set_option maxRecDepth 16384
set_option maxHeartbeats 1000000

noncomputable section

namespace Cert.Nsa

open Idealize.ShloMosaic Idealize.ShloMosaic.TcCoe
open Cert.KernelIdeal Cert.KernelIdeal.Gen

/-- The arrays the attention kernel reads hold the data. -/
structure In1 (V : Entry) (c : Dev nD) (D : Data) : Prop where
  /-- The queries. -/
  hq : ∀ b p n x, V c main_v43_1 (ix4 b p n x) = ((D.q b n (pcol p x) : ℝ) : EReal)
  /-- The keys. -/
  hk : ∀ b p n x, V c main_v43_2 (ix4 b p n x) = ((D.k b n (pcol p x) : ℝ) : EReal)
  /-- The values. -/
  hv : ∀ b p n x, V c main_v43_3 (ix4 b p n x) = D.v b n (pcol p x)
  /-- The key positions. -/
  hkp : ∀ (p : Fin 4) (x : Fin 2048), V c main_v6 (ix3 p 0 x)
    = ((D.kp ⟨p.val * 2 + x.val / 64 % 2, by omega⟩ ⟨x.val / 128, by omega⟩ ⟨x.val % 64, by omega⟩ : ℝ) : EReal)
  /-- The value positions. -/
  hvp : ∀ (p : Fin 4) (x : Fin 2048), V c main_v9 (ix3 p 0 x)
    = D.vp ⟨p.val * 2 + x.val / 64 % 2, by omega⟩ ⟨x.val / 128, by omega⟩ ⟨x.val % 64, by omega⟩
  /-- The compression of the keys. -/
  hwk : ∀ (x : Fin 2048) (e : Fin 128), V c main_v20 (ix2 x e)
    = if x.val / 64 % 2 = e.val / 64 then ((D.wkc ⟨x.val / 128 * 64 + x.val % 64, by omega⟩ (sub e) : ℝ) : EReal) else (0 : EReal)
  /-- The compression of the values. -/
  hwv : ∀ (x : Fin 2048) (e : Fin 128), V c main_v31 (ix2 x e)
    = if x.val / 64 % 2 = e.val / 64 then D.wvc ⟨x.val / 128 * 64 + x.val % 64, by omega⟩ (sub e) else (0 : EReal)
  /-- The bias of the compressed keys. -/
  hbk : ∀ e : Fin 128, V c main_v35 (ix2 0 e) = ((D.bkc (sub e) : ℝ) : EReal)
  /-- The bias of the compressed values. -/
  hbv : ∀ e : Fin 128, V c main_v39 (ix2 0 e) = D.bvc (sub e)
  /-- The memory keys. -/
  hmk : ∀ h d, V c main_arg15 (ix3 h 0 d) = ((D.mck h d : ℝ) : EReal)
  /-- The memory values. -/
  hmv : ∀ h d, V c main_arg16 (ix3 h 0 d) = D.mcv h d
  /-- The gates. -/
  hg : ∀ b p n x, V c main_v43_4 (ix4 b p n x) = D.gate b n (pgate p x)

/-- The image of a program. -/
def im1 (t : Fin cfg1.N) : Fin 4 := ⟨t.val / 4, by have : t.val < 16 := t.isLt; omega⟩
/-- The pair of heads of a program. -/
def pr1 (t : Fin cfg1.N) : Fin 4 := ⟨t.val % 4, by omega⟩
/-- Head `u` of pair `p`. -/
def phead (p : Fin 4) (u : Fin 2) : Fin 8 := ⟨2 * p.val + u.val, by omega⟩

theorem idx1_0 : ∀ t : Fin cfg1.N, win1_0.index t = ![t.val / 4, t.val % 4, 0, 0] := by decide +kernel
theorem idx1_1 : ∀ t : Fin cfg1.N, win1_1.index t = ![t.val / 4, t.val % 4, 0, 0] := by decide +kernel
theorem idx1_2 : ∀ t : Fin cfg1.N, win1_2.index t = ![t.val / 4, t.val % 4, 0, 0] := by decide +kernel
theorem idx1_3 : ∀ t : Fin cfg1.N, win1_3.index t = ![t.val % 4, 0, 0] := by decide +kernel
theorem idx1_4 : ∀ t : Fin cfg1.N, win1_4.index t = ![t.val % 4, 0, 0] := by decide +kernel
theorem idx1_5 : ∀ t : Fin cfg1.N, win1_5.index t = ![0, 0] := by decide +kernel
theorem idx1_6 : ∀ t : Fin cfg1.N, win1_6.index t = ![0, 0] := by decide +kernel
theorem idx1_7 : ∀ t : Fin cfg1.N, win1_7.index t = ![0, 0] := by decide +kernel
theorem idx1_8 : ∀ t : Fin cfg1.N, win1_8.index t = ![0, 0] := by decide +kernel
theorem idx1_9 : ∀ t : Fin cfg1.N, win1_9.index t = ![t.val % 4, 0, 0] := by decide +kernel
theorem idx1_10 : ∀ t : Fin cfg1.N, win1_10.index t = ![t.val % 4, 0, 0] := by decide +kernel
theorem idx1_11 : ∀ t : Fin cfg1.N, win1_11.index t = ![t.val / 4, t.val % 4, 0, 0] := by decide +kernel
theorem idx1_12 : ∀ t : Fin cfg1.N, win1_12.index t = ![t.val / 4, t.val % 4, 0, 0] := by decide +kernel

/-- A compressed row: the block-diagonal sum over a pair's 2048 numbers is one head's sum over its 1024. -/
theorem pair_sum (K : Fin 1024 → Fin 512 → EReal) (P : Fin 8 → Fin 16 → Fin 64 → EReal) (W : Fin 1024 → Fin 64 → EReal) (B : Fin 64 → EReal)
    (p : Fin 4) (j : Fin 64) (e : Fin 128) :
    (∑ x : Fin 2048, (K (brow j x) (pcol p (bcol x)) + P ⟨p.val * 2 + x.val / 64 % 2, by omega⟩ ⟨x.val / 128, by omega⟩ ⟨x.val % 64, by omega⟩)
        * (if x.val / 64 % 2 = e.val / 64 then W ⟨x.val / 128 * 64 + x.val % 64, by omega⟩ (sub e) else (0 : EReal)))
      + B (sub e)
    = (∑ y : Fin 1024, (K (crow j y) (hcol (phead p (hd e)) (clane y)) + P (phead p (hd e)) (cpos y) (clane y)) * W y (sub e)) + B (sub e) := by
  refine congrArg (· + B (sub e)) ((sum_diag
    (fun x => K (brow j x) (pcol p (bcol x)) + P ⟨p.val * 2 + x.val / 64 % 2, by omega⟩ ⟨x.val / 128, by omega⟩ ⟨x.val % 64, by omega⟩)
    (fun y => W y (sub e)) (hd e)).trans ?_)
  refine Finset.sum_congr rfl fun y _ => ?_
  have hu : (hd e).val < 2 := (hd e).isLt
  congr 2
  · refine congrArg₂ K (Fin.ext ?_) (Fin.ext ?_)
    · show 16 * j.val + (y.val / 64 * 128 + 64 * (hd e).val + y.val % 64) / 128 = 16 * j.val + y.val / 64; omega
    · show 128 * p.val + (y.val / 64 * 128 + 64 * (hd e).val + y.val % 64) % 128 = 64 * (2 * p.val + (hd e).val) + y.val % 64; omega
  · have e1 : (⟨p.val * 2 + (y.val / 64 * 128 + 64 * (hd e).val + y.val % 64) / 64 % 2, by omega⟩ : Fin 8) = phead p (hd e) :=
      Fin.ext (by show p.val * 2 + (y.val / 64 * 128 + 64 * (hd e).val + y.val % 64) / 64 % 2 = 2 * p.val + (hd e).val; omega)
    have e2 : (⟨(y.val / 64 * 128 + 64 * (hd e).val + y.val % 64) / 128, by omega⟩ : Fin 16) = cpos y :=
      Fin.ext (by show (y.val / 64 * 128 + 64 * (hd e).val + y.val % 64) / 128 = y.val / 64; omega)
    have e3 : (⟨(y.val / 64 * 128 + 64 * (hd e).val + y.val % 64) % 64, by omega⟩ : Fin 64) = clane y :=
      Fin.ext (by show (y.val / 64 * 128 + 64 * (hd e).val + y.val % 64) % 64 = y.val % 64; omega)
    show P ⟨p.val * 2 + (y.val / 64 * 128 + 64 * (hd e).val + y.val % 64) / 64 % 2, _⟩ ⟨(y.val / 64 * 128 + 64 * (hd e).val + y.val % 64) / 128, _⟩
      ⟨(y.val / 64 * 128 + 64 * (hd e).val + y.val % 64) % 64, _⟩ = _
    rw [e1, e2, e3]

section
variable (V : Entry) (c : Dev nD) (D : Data) (H : In1 V c D)
include H

/-- The attention rows of a program. -/
theorem w1_12 (t : Fin cfg1.N) (i : Fin 1024) (z : Fin 128) :
    out1_12 (iblk1 V c 0 t) (iblk1 V c 1 t) (iblk1 V c 2 t) (iblk1 V c 3 t) (iblk1 V c 4 t) (iblk1 V c 5 t) (iblk1 V c 6 t) (iblk1 V c 7 t) (iblk1 V c 8 t)
      (iblk1 V c 9 t) (iblk1 V c 10 t) (iblk1 V c 11 t) (ix4 0 0 i z)
      = D.ath (im1 t) (phead (pr1 t) (hd z)) i (sub z) := by
  have e0 : ∀ i x, iblk1 V c 0 t (ix4 0 0 i x) = V c main_v43_1 (ix4 (im1 t) (pr1 t) i x) := fun i x => by blk_ext [iblk1, idx1_0 t, im1, pr1]
  have e1 : ∀ i x, iblk1 V c 1 t (ix4 0 0 i x) = V c main_v43_2 (ix4 (im1 t) (pr1 t) i x) := fun i x => by blk_ext [iblk1, idx1_1 t, im1, pr1]
  have e2 : ∀ i x, iblk1 V c 2 t (ix4 0 0 i x) = V c main_v43_3 (ix4 (im1 t) (pr1 t) i x) := fun i x => by blk_ext [iblk1, idx1_2 t, im1, pr1]
  have e3 : ∀ x, iblk1 V c 3 t (ix3 0 0 x) = V c main_v6 (ix3 (pr1 t) 0 x) := fun x => by blk_ext [iblk1, idx1_3 t, pr1]
  have e4 : ∀ x, iblk1 V c 4 t (ix3 0 0 x) = V c main_v9 (ix3 (pr1 t) 0 x) := fun x => by blk_ext [iblk1, idx1_4 t, pr1]
  have e5 : ∀ x e, iblk1 V c 5 t (ix2 x e) = V c main_v20 (ix2 x e) := fun x e => by blk_ext [iblk1, idx1_5 t]
  have e6 : ∀ e, iblk1 V c 6 t (ix2 0 e) = V c main_v35 (ix2 0 e) := fun e => by blk_ext [iblk1, idx1_6 t]
  have e7 : ∀ x e, iblk1 V c 7 t (ix2 x e) = V c main_v31 (ix2 x e) := fun x e => by blk_ext [iblk1, idx1_7 t]
  have e8 : ∀ e, iblk1 V c 8 t (ix2 0 e) = V c main_v39 (ix2 0 e) := fun e => by blk_ext [iblk1, idx1_8 t]
  have e9 : ∀ u d, iblk1 V c 9 t (ix3 u 0 d) = V c main_arg15 (ix3 (phead (pr1 t) u) 0 d) := fun u d => by blk_ext [iblk1, idx1_9 t, pr1, phead]
  have e10 : ∀ u d, iblk1 V c 10 t (ix3 u 0 d) = V c main_arg16 (ix3 (phead (pr1 t) u) 0 d) := fun u d => by blk_ext [iblk1, idx1_10 t, pr1, phead]
  have e11 : ∀ i x, iblk1 V c 11 t (ix4 0 0 i x) = V c main_v43_4 (ix4 (im1 t) (pr1 t) i x) := fun i x => by blk_ext [iblk1, idx1_11 t, im1, pr1]
  refine (block_at _ _ _ _ _ _ _ _ _ _ _ _ (fun i x => D.q (im1 t) i (pcol (pr1 t) x)) (fun i x => D.k (im1 t) i (pcol (pr1 t) x))
    (fun i x => D.v (im1 t) i (pcol (pr1 t) x)) (fun j e => D.ckb (im1 t) (phead (pr1 t) (hd e)) j (sub e))
    (fun j e => D.cvb (im1 t) (phead (pr1 t) (hd e)) j (sub e)) (fun u d => D.mck (phead (pr1 t) u) d) (fun u d => D.mcv (phead (pr1 t) u) d)
    (fun i x => (e0 i x).trans (H.hq _ _ _ _)) (fun i x => (e1 i x).trans (H.hk _ _ _ _)) (fun i x => (e2 i x).trans (H.hv _ _ _ _))
    (fun j e => ?_) (fun j e => ?_) (fun u d => (e9 u d).trans (H.hmk _ _)) (fun u d => (e10 u d).trans (H.hmv _ _)) i z).trans ?_
  · simp only [e1, e3, e5, e6, H.hk, H.hkp, H.hwk, H.hbk]
    refine (pair_sum (fun n e => ((D.k (im1 t) n e : ℝ) : EReal)) (fun h p d => ((D.kp h p d : ℝ) : EReal)) (fun y e => ((D.wkc y e : ℝ) : EReal))
      (fun e => ((D.bkc e : ℝ) : EReal)) (pr1 t) j e).trans ?_
    simp only [← EReal.coe_add]
    exact dot_add_coe _ _ _
  · simp only [e2, e4, e7, e8, H.hv, H.hvp, H.hwv, H.hbv]
    exact pair_sum (D.v (im1 t)) D.vp D.wvc D.bvc (pr1 t) j e
  · rw [e11, e11, e11, H.hg, H.hg, H.hg]
    have hp : (pr1 t).val < 4 := (pr1 t).isLt
    have f1 : ∀ s : Fin 3, pgate (pr1 t) (gcol (hd z) s) = gidx (phead (pr1 t) (hd z)) s := fun s =>
      Fin.ext (by show 6 * (pr1 t).val + (3 * (hd z).val + s.val) = 3 * (2 * (pr1 t).val + (hd z).val) + s.val; omega)
    have f2 : ∀ (u : Fin 2) (d : Fin 64), pcol (pr1 t) (lane u d) = hcol (phead (pr1 t) u) d := fun u d =>
      Fin.ext (by show 128 * (pr1 t).val + (64 * u.val + d.val) = 64 * (2 * (pr1 t).val + u.val) + d.val; omega)
    rw [f1, f1, f1]
    unfold Data.ath
    have g0 : ∀ {α : Type} (Z : Fin 1024 → Fin 512 → α), qh (fun i x => Z i (pcol (pr1 t) x)) (hd z) = fun n d => Z n (hcol (phead (pr1 t) (hd z)) d) :=
      fun Z => funext fun n => funext fun d => by show Z n (pcol (pr1 t) (lane _ d)) = _; rw [f2]
    have g1 : comp (fun u d => D.mck (phead (pr1 t) u) d) (fun j e => D.ckb (im1 t) (phead (pr1 t) (hd e)) j (sub e)) (hd z)
        = D.ck (im1 t) (phead (pr1 t) (hd z)) := funext fun j => funext fun d => by
      unfold comp Data.ck; simp only [hd_lane, sub_lane]
    have g2 : comp (fun u d => D.mcv (phead (pr1 t) u) d) (fun j e => D.cvb (im1 t) (phead (pr1 t) (hd e)) j (sub e)) (hd z)
        = D.cv (im1 t) (phead (pr1 t) (hd z)) := funext fun j => funext fun d => by
      unfold comp Data.cv; simp only [hd_lane, sub_lane]
    rw [g0, g0, g0, g1, g2]
    rfl

/-- The same at any place of the block. -/
theorem b1_12 (t : Fin cfg1.N) (y : S1x1x1024x128.Idx) :
    out1_12 (iblk1 V c 0 t) (iblk1 V c 1 t) (iblk1 V c 2 t) (iblk1 V c 3 t) (iblk1 V c 4 t) (iblk1 V c 5 t) (iblk1 V c 6 t) (iblk1 V c 7 t) (iblk1 V c 8 t)
      (iblk1 V c 9 t) (iblk1 V c 10 t) (iblk1 V c 11 t) y
      = D.ath (im1 t) (phead (pr1 t) (hd (y 3))) (y 2) (sub (y 3)) := by
  have hy : y = ix4 0 0 (y 2) (y 3) := by blk_ext
  rw [hy]
  exact w1_12 V c D H t (y 2) (y 3)

omit H in
/-- Where a program's rows go. -/
theorem e1_12 (t : Fin cfg1.N) (y : S1x1x1024x128.Idx) : (win1_12.blk t).view.emb y = ix4 (im1 t) (pr1 t) (y 2) (y 3) := by
  blk_ext [idx1_12 t, im1, pr1]

/-- The attention rows, as the kernel leaves them. -/
theorem arr1_12 : (dat1 V c).arrAt 12 cfg1.N = fun i : S4x4x1024x128.Idx => D.ath (i 0) (phead (i 1) (hd (i 3))) (i 2) (sub (i 3)) := by
  refine (dat1 V c).arrAt_eq_of_covers 12 _ (by decide +kernel) fun t hf y => ?_
  blk_simp; rw [after1_12]
  rw [b1_12 V c D H t y, e1_12 t y]
  rfl

end

end Cert.Nsa

end
-- ==== Proof.Nsa.Outp.lean ====
/-
  What one program of the output kernel stores: the attention rows of the four pairs of heads projected, then projected
  again, with the bias and the input rows added.
-/
module

public import proofs.«01_k».proof.Proof.Nsa.Proj

@[expose] public section

set_option maxRecDepth 16384

noncomputable section

namespace Cert.Nsa

open Idealize.ShloMosaic
open Cert.KernelIdeal Cert.KernelIdeal.Gen

/-- The 512 columns are the 128 lanes of the four pairs of heads. -/
def pcols : Fin 4 × Fin 128 ≃ Fin 512 where
  toFun p := pcol p.1 p.2
  invFun e := (⟨e.val / 128, by omega⟩, ⟨e.val % 128, by omega⟩)
  left_inv p := by
    refine Prod.ext (Fin.ext ?_) (Fin.ext ?_)
    · show (128 * p.1.val + p.2.val) / 128 = p.1.val; omega
    · show (128 * p.1.val + p.2.val) % 128 = p.2.val; omega
  right_inv e := Fin.ext (by show 128 * (e.val / 128) + e.val % 128 = e.val; omega)

/-- A sum over the 512 columns, pair by pair. -/
theorem sum_pairs (f : Fin 512 → EReal) : ∑ e, f e
    = (∑ c, f (pcol 0 c)) + (∑ c, f (pcol 1 c)) + (∑ c, f (pcol 2 c)) + ∑ c, f (pcol 3 c) := by
  rw [← Equiv.sum_comp pcols, Fintype.sum_prod_type, Fin.sum_univ_four]; rfl

section
variable (x0 : Vec Ideal S1x4x1024x128 .f32) (x1 : Vec Ideal S512x384 .f32) (x2 : Vec Ideal S384x384 .f32) (x3 : Vec Ideal S1x384 .f32)
  (x4 : Vec Ideal S1x1024x384 .f32)

/-- The stored result rows. -/
theorem out5_at (i : Fin 1024) (c : Fin 384) : out2_5 x0 x1 x2 x3 x4 (ix3 0 i c)
    = ((∑ o : Fin 384, (∑ e : Fin 512, x0 (ix4 0 ⟨e.val / 128, by omega⟩ i ⟨e.val % 128, by omega⟩) * x1 (ix2 e o)) * x2 (ix2 o c)) + x3 (ix2 0 c))
      + x4 (ix3 0 i c) := by
  have l2 : View.ld x2 r2_8 = x2 := View.ld_unit_zero (by decide +kernel) _ x2
  have l3 : View.ld x3 r2_9 = x3 := View.ld_unit_zero (by decide +kernel) _ x3
  have l4 : View.ld x4 r2_10 = x4 := View.ld_unit_zero (by decide +kernel) _ x4
  have a0 : ∀ k, View.ld x0 r2_0 (ix4 0 0 i k) = x0 (ix4 0 0 i k) := fun k => by rw [View.ld_unit]; pointwise
  have a1 : ∀ k, View.ld x0 r2_2 (ix4 0 0 i k) = x0 (ix4 0 1 i k) := fun k => by rw [View.ld_unit]; pointwise
  have a2 : ∀ k, View.ld x0 r2_4 (ix4 0 0 i k) = x0 (ix4 0 2 i k) := fun k => by rw [View.ld_unit]; pointwise
  have a3 : ∀ k, View.ld x0 r2_6 (ix4 0 0 i k) = x0 (ix4 0 3 i k) := fun k => by rw [View.ld_unit]; pointwise
  have b0 : ∀ k o, View.ld x1 r2_1 (ix2 k o) = x1 (ix2 (pcol 0 k) o) := fun k o => by rw [View.ld_unit]; pointwise [pcol]
  have b1 : ∀ k o, View.ld x1 r2_3 (ix2 k o) = x1 (ix2 (pcol 1 k) o) := fun k o => by rw [View.ld_unit]; pointwise [pcol]
  have b2 : ∀ k o, View.ld x1 r2_5 (ix2 k o) = x1 (ix2 (pcol 2 k) o) := fun k o => by rw [View.ld_unit]; pointwise [pcol]
  have b3 : ∀ k o, View.ld x1 r2_7 (ix2 k o) = x1 (ix2 (pcol 3 k) o) := fun k o => by rw [View.ld_unit]; pointwise [pcol]
  unfold out2_5
  rw [View.canon_unit_zero (by decide +kernel), l2, l3, l4]
  generalize View.ld x0 r2_0 = X0 at *
  generalize View.ld x0 r2_2 = X1 at *
  generalize View.ld x0 r2_4 = X2 at *
  generalize View.ld x0 r2_6 = X3 at *
  generalize View.ld x1 r2_1 = Y0 at *
  generalize View.ld x1 r2_3 = Y1 at *
  generalize View.ld x1 r2_5 = Y2 at *
  generalize View.ld x1 r2_7 = Y3 at *
  have e : k2_pay1 (k2_pay2 X0 Y0 X1 Y1 X2 Y2 X3 Y3 x2 x3) x4 (ix3 0 i c)
      = ((∑ o : Fin 384, ((∑ k : Fin 128, X0 (ix4 0 0 i k) * Y0 (ix2 k o)) + (∑ k : Fin 128, X1 (ix4 0 0 i k) * Y1 (ix2 k o))
        + (∑ k : Fin 128, X2 (ix4 0 0 i k) * Y2 (ix2 k o)) + (∑ k : Fin 128, X3 (ix4 0 0 i k) * Y3 (ix2 k o))) * x2 (ix2 o c)) + x3 (ix2 0 c))
        + x4 (ix3 0 i c) := by
    pointwise [k2_pay1, k2_pay2]
  rw [e]
  refine congrArg (fun z => z + x3 (ix2 0 c) + x4 (ix3 0 i c)) (Finset.sum_congr rfl fun o _ => congrArg (· * x2 (ix2 o c)) ?_)
  rw [sum_pairs]
  simp only [a0, a1, a2, a3, b0, b1, b2, b3]
  have hd : ∀ (p : Fin 4) (k : Fin 128), x0 (ix4 0 ⟨(pcol p k).val / 128, by omega⟩ i ⟨(pcol p k).val % 128, by omega⟩) = x0 (ix4 0 p i k) := by
    intro p k
    have h1 : (⟨(pcol p k).val / 128, by omega⟩ : Fin 4) = p := Fin.ext (by show (128 * p.val + k.val) / 128 = p.val; omega)
    have h2 : (⟨(pcol p k).val % 128, by omega⟩ : Fin 128) = k := Fin.ext (by show (128 * p.val + k.val) % 128 = k.val; omega)
    rw [h1, h2]
  simp only [hd]

end

end Cert.Nsa

end
-- ==== Proof.Nsa.Reg2.lean ====
/-
  What the last kernel leaves in its array: the result, by image, position and channel.
-/
module

public import proofs.«01_k».proof.Proof.Nsa.Outp
public import proofs.«01_k».proof.Proof.Nsa.In0
import Idealize.ShloMosaic.Lib.Pipeline.ValueKit

@[expose] public section

set_option maxRecDepth 16384
set_option maxHeartbeats 1000000

noncomputable section

namespace Cert.Nsa

open Idealize.ShloMosaic Idealize.ShloMosaic.TcCoe
open Cert.KernelIdeal Cert.KernelIdeal.Gen

/-- The arrays the last kernel reads hold the data. -/
structure In2 (V : Entry) (c : Dev nD) (D : Data) : Prop where
  /-- The attention rows. -/
  ha : ∀ b p n x, V c main_v44 (ix4 b p n x) = D.att b n (pcol p x)
  /-- Their projection. -/
  hwo : ∀ e o, V c main_arg19 (ix2 e o) = D.wo e o
  /-- The output projection. -/
  hpo : ∀ o k, V c main_v3 (ix2 o k) = D.po k o
  /-- Its bias. -/
  hb : ∀ k, V c main_v45 (ix2 0 k) = D.pob k
  /-- The projected input. -/
  hx : ∀ b n k, V c main_v43_0 (ix3 b n k) = D.xin b n k

/-- The image of a program. -/
def im2 (t : Fin cfg2.N) : Fin 4 := ⟨t.val, t.isLt⟩

theorem idx2_0 : ∀ t : Fin cfg2.N, win2_0.index t = ![t.val, 0, 0, 0] := by decide +kernel
theorem idx2_1 : ∀ t : Fin cfg2.N, win2_1.index t = ![0, 0] := by decide +kernel
theorem idx2_2 : ∀ t : Fin cfg2.N, win2_2.index t = ![0, 0] := by decide +kernel
theorem idx2_3 : ∀ t : Fin cfg2.N, win2_3.index t = ![0, 0] := by decide +kernel
theorem idx2_4 : ∀ t : Fin cfg2.N, win2_4.index t = ![t.val, 0, 0] := by decide +kernel
theorem idx2_5 : ∀ t : Fin cfg2.N, win2_5.index t = ![t.val, 0, 0] := by decide +kernel

section
variable (V : Entry) (c : Dev nD) (D : Data) (H : In2 V c D)
include H

/-- The result rows of a program. -/
theorem w2_5 (t : Fin cfg2.N) (i : Fin 1024) (k : Fin 384) :
    out2_5 (iblk2 V c 0 t) (iblk2 V c 1 t) (iblk2 V c 2 t) (iblk2 V c 3 t) (iblk2 V c 4 t) (ix3 0 i k) = D.res (im2 t) i k := by
  have e0 : ∀ p i x, iblk2 V c 0 t (ix4 0 p i x) = V c main_v44 (ix4 (im2 t) p i x) := fun p i x => by blk_ext [iblk2, idx2_0 t, im2]
  have e1 : ∀ e o, iblk2 V c 1 t (ix2 e o) = V c main_arg19 (ix2 e o) := fun e o => by blk_ext [iblk2, idx2_1 t]
  have e2 : ∀ o k, iblk2 V c 2 t (ix2 o k) = V c main_v3 (ix2 o k) := fun o k => by blk_ext [iblk2, idx2_2 t]
  have e3 : ∀ k, iblk2 V c 3 t (ix2 0 k) = V c main_v45 (ix2 0 k) := fun k => by blk_ext [iblk2, idx2_3 t]
  have e4 : ∀ i k, iblk2 V c 4 t (ix3 0 i k) = V c main_v43_0 (ix3 (im2 t) i k) := fun i k => by blk_ext [iblk2, idx2_4 t, im2]
  refine (out5_at _ _ _ _ _ i k).trans ?_
  simp only [e0, e1, e2, e3, e4, H.ha, H.hwo, H.hpo, H.hb, H.hx]
  have hp : ∀ e : Fin 512, pcol ⟨e.val / 128, by omega⟩ ⟨e.val % 128, by omega⟩ = e := fun e =>
    Fin.ext (by show 128 * (e.val / 128) + e.val % 128 = e.val; omega)
  simp only [hp]
  rfl

/-- The same at any place of the block. -/
theorem b2_5 (t : Fin cfg2.N) (y : S1x1024x384.Idx) :
    out2_5 (iblk2 V c 0 t) (iblk2 V c 1 t) (iblk2 V c 2 t) (iblk2 V c 3 t) (iblk2 V c 4 t) y = D.res (im2 t) (y 1) (y 2) := by
  have hy : y = ix3 0 (y 1) (y 2) := by blk_ext
  rw [hy]
  exact w2_5 V c D H t (y 1) (y 2)

omit H in
/-- Where a program's rows go. -/
theorem e2_5 (t : Fin cfg2.N) (y : S1x1024x384.Idx) : (win2_5.blk t).view.emb y = ix3 (im2 t) (y 1) (y 2) := by
  blk_ext [idx2_5 t, im2]

/-- The result, as the last kernel leaves it. -/
theorem arr2_5 : (dat2 V c).arrAt 5 cfg2.N = fun i : S4x1024x384.Idx => D.res (i 0) (i 1) (i 2) := by
  refine (dat2 V c).arrAt_eq_of_covers 5 _ (by decide +kernel) fun t hf y => ?_
  blk_simp; rw [after2_5]
  rw [b2_5 V c D H t y, e2_5 t y]
  rfl

end

end Cert.Nsa

end
-- ==== Proof.Nsa.KVal.lean ====
/-
  The kernel's result as a function of the data, through the three kernels and the host operations around them.
-/
module

public import proofs.«01_k».proof.Proof.Nsa.Holds
public import proofs.«01_k».proof.Proof.Nsa.Scat
public import proofs.«01_k».proof.Proof.Nsa.Reg0
public import proofs.«01_k».proof.Proof.Nsa.Reg1
public import proofs.«01_k».proof.Proof.Nsa.Reg2

@[expose] public section

set_option maxRecDepth 16384

noncomputable section

namespace Cert.Nsa

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD) (D : Data)
  (H : Holds D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))

include H

/-- What the first kernel finds. -/
theorem in0_of : In0 (V1 m ρ) c D where
  hx b n k := (h_v1 (W0 m ρ c) b n k).trans (H.h0 b k n)
  hw k o := (h_v2 (W0 m ρ c) k o).trans (H.h1 o k)
  hb o := (h_v40 (W0 m ρ c) o).trans (H.h2 o)
  hg o := (h_v41 (W0 m ρ c) o).trans (H.h5 o)
  hq o e := (congrFun (W1_args m ρ c main_arg6 (by decide)) _).trans (H.h6 o e)
  hk o e := (congrFun (W1_args m ρ c main_arg7 (by decide)) _).trans (H.h7 o e)
  hv o e := (congrFun (W1_args m ρ c main_arg8 (by decide)) _).trans (H.h8 o e)
  hwg o e := (congrFun (W1_args m ρ c main_arg17 (by decide)) _).trans (H.h17 o e)
  hbg o := (h_v42 (W0 m ρ c) o).trans (H.h18 o)

/-- What the attention kernel finds. -/
theorem in1_of : In1 (V2 m ρ) c D where
  hq b p n x := congrFun ((W2_arr m ρ c 10).trans (arr0_10 (V1 m ρ) c D (in0_of m ρ c D H))) (ix4 b p n x)
  hk b p n x := congrFun ((W2_arr m ρ c 11).trans (arr0_11 (V1 m ρ) c D (in0_of m ρ c D H))) (ix4 b p n x)
  hv b p n x := congrFun ((W2_arr m ρ c 12).trans (arr0_12 (V1 m ρ) c D (in0_of m ρ c D H))) (ix4 b p n x)
  hkp p x := (congrFun (W2_of m ρ c main_v6 (by decide)) (ix3 p 0 x)).trans ((h_v6 (W0 m ρ c) p x).trans (H.h9 _ _ _))
  hvp p x := (congrFun (W2_of m ρ c main_v9 (by decide)) (ix3 p 0 x)).trans ((h_v9 (W0 m ρ c) p x).trans (H.h10 _ _ _))
  hwk x e := (congrFun (W2_of m ρ c main_v20 (by decide)) (ix2 x e)).trans ((h_v20 (W0 m ρ c) x e).trans (if_congr Iff.rfl (H.h11 _ _) rfl))
  hwv x e := (congrFun (W2_of m ρ c main_v31 (by decide)) (ix2 x e)).trans ((h_v31 (W0 m ρ c) x e).trans (if_congr Iff.rfl (H.h13 _ _) rfl))
  hbk e := (congrFun (W2_of m ρ c main_v35 (by decide)) (ix2 0 e)).trans ((h_v35 (W0 m ρ c) e).trans (H.h12 _))
  hbv e := (congrFun (W2_of m ρ c main_v39 (by decide)) (ix2 0 e)).trans ((h_v39 (W0 m ρ c) e).trans (H.h14 _))
  hmk h d := (congrFun (W2_args m ρ c main_arg15 (by decide)) _).trans (H.h15 h d)
  hmv h d := (congrFun (W2_args m ρ c main_arg16 (by decide)) _).trans (H.h16 h d)
  hg b p n x := congrFun ((W2_arr m ρ c 13).trans (arr0_13 (V1 m ρ) c D (in0_of m ρ c D H))) (ix4 b p n x)

/-- The attention rows after the attention kernel. -/
theorem v44_at (b p : Fin 4) (n : Fin 1024) (x : Fin 128) : W3 m ρ c (Proc.devRef .tc main_v44) (ix4 b p n x) = D.att b n (pcol p x) := by
  refine (congrFun ((W3_arr m ρ c 12).trans (arr1_12 (V2 m ρ) c D (in1_of m ρ c D H))) (ix4 b p n x)).trans ?_
  have e1 : phead p (hd x) = ⟨(pcol p x).val / 64, by omega⟩ := Fin.ext (by show 2 * p.val + x.val / 64 = (128 * p.val + x.val) / 64; omega)
  have e2 : sub x = ⟨(pcol p x).val % 64, by omega⟩ := Fin.ext (by show x.val % 64 = (128 * p.val + x.val) % 64; omega)
  show D.ath b (phead p (hd x)) n (sub x) = _
  rw [e1, e2]; rfl

/-- What the last kernel finds. -/
theorem in2_of : In2 (V4 m ρ) c D where
  ha b p n x := (congrFun (W4_of m ρ c main_v44 (by decide)) (ix4 b p n x)).trans (v44_at m ρ c D H b p n x)
  hwo e o := (congrFun (W4_args m ρ c main_arg19 (by decide)) _).trans (H.h19 e o)
  hpo o k := (congrFun ((W4_of m ρ c main_v3 (by decide)).trans ((W3_of m ρ c main_v3 (by decide)).trans (W2_of m ρ c main_v3 (by decide)))) (ix2 o k)).trans
    ((h_v3 (W0 m ρ c) o k).trans (H.h3 k o))
  hb k := (h_v45 (W3 m ρ c) k).trans ((congrFun (W3_args m ρ c main_arg4 (by decide)) _).trans (H.h4 k))
  hx b n k := (congrFun ((W4_of m ρ c main_v43_0 (by decide)).trans (W3_of m ρ c main_v43_0 (by decide))) (ix3 b n k)).trans
    (congrFun ((W2_arr m ρ c 9).trans (arr0_9 (V1 m ρ) c D (in0_of m ρ c D H))) (ix3 b n k))

/-- The result array at the end of the run. -/
theorem v48_at (b : Fin 4) (k : Fin 384) (h w : Fin 32) :
    W6 m ρ c (Proc.devRef .tc main_v48) (ix4 b k h w) = D.res b ⟨h.val * 32 + w.val, by omega⟩ k :=
  (h_v48 (W5 m ρ c) b k h w).trans
    (congrFun ((W5_arr m ρ c 5).trans (arr2_5 (V4 m ρ) c D (in2_of m ρ c D H))) (ix3 b ⟨h.val * 32 + w.val, by omega⟩ k))

end Cert.Nsa

end
-- ==== Proof.Nsa.RefA.lean ====
/-
  The reference up to its heads: the projected input, the normalized rows, the queries, keys and values of each head.
-/
module

public import proofs.«01_k».proof.Proof.Nsa.Holds
public import Idealize.ShloMosaic.Lib.Pipeline.ValueKit
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

section
variable (D : Data)
  (x0 : Vec Ideal S4x384x32x32 .f32) (x1 : Vec Ideal S384x384 .f32) (x2 : Vec Ideal S384 .f32)
  (x3 : Vec Ideal S384x384 .f32) (x4 x5 : Vec Ideal S384 .f32) (x6 x7 x8 : Vec Ideal S384x512 .f32)
  (x9 x10 : Vec Ideal S8x16x64 .f32) (x11 : Vec Ideal S1024x64 .f32) (x12 : Vec Ideal S64 .f32)
  (x13 : Vec Ideal S1024x64 .f32) (x14 : Vec Ideal S64 .f32) (x15 x16 : Vec Ideal S8x1x64 .f32)
  (x17 : Vec Ideal S384x24 .f32) (x18 : Vec Ideal S24 .f32) (x19 : Vec Ideal S512x384 .f32)

/-- The projected input, entry by entry. -/
theorem rv4_raw (b : Fin 4) (o : Fin 384) (h w : Fin 32) :
    (val_main_v4 (F := Ideal) x0 x1 x2) (ix4 b o h w) = (∑ k : Fin 384, x1 (ix2 o k) * x0 (ix4 b k h w)) + x2 (ix1 o) := by
  pointwise [val_main_v0, val_main_v1, val_main_v2, val_main_v3, val_main_v4]
/-- The projected input by position. -/
theorem rv6_raw (b : Fin 4) (n : Fin 1024) (o : Fin 384) :
    (val_main_v6 (F := Ideal) x0 x1 x2) (ix3 b n o) = (val_main_v4 (F := Ideal) x0 x1 x2) (ix4 b o (⟨n.val / 32, by omega⟩ : Fin 32) (⟨n.val % 32, by omega⟩ : Fin 32)) := by
  unfold val_main_v6 val_main_v5
  generalize (val_main_v4 (F := Ideal) x0 x1 x2) = y
  pointwise
/-- The normalized rows from the projected input. -/
theorem rv19_raw (b : Fin 4) (n : Fin 1024) (o : Fin 384) :
    (val_main_v19 (F := Ideal) x0 x1 x2 x5) (ix3 b n o) = (val_main_v6 (F := Ideal) x0 x1 x2) (ix3 b n o)
      * Ideal.rsqrt (Ideal.div (∑ l : Fin 384, (val_main_v6 (F := Ideal) x0 x1 x2) (ix3 b n l) * (val_main_v6 (F := Ideal) x0 x1 x2) (ix3 b n l)) (Ideal.ofBits .f32 0x43C00000#32)
        + Ideal.ofBits .f32 0x358637BD#32) * x5 (ix1 o) := by
  unfold val_main_v19 val_main_v16 val_main_v15 val_main_v14 val_main_v13 val_main_v11 val_main_v9 val_main_v8 val_main_v7
  generalize (val_main_v6 (F := Ideal) x0 x1 x2) = y
  pointwise [val_main_v7, val_main_cst, val_main_v8, val_main_v9, val_main_cst_0, val_main_v10, val_main_v11, val_main_cst_1, val_main_v12, val_main_v13, val_main_v14, val_main_v15, val_main_v16, val_main_v17, val_main_v18, val_main_v19]
/-- The queries by head. -/
theorem rv22_raw (b : Fin 4) (h : Fin 8) (n : Fin 1024) (d : Fin 64) :
    (val_main_v22 (F := Ideal) x0 x1 x2 x5 x6) (ix4 b h n d) = ∑ o : Fin 384, (val_main_v19 (F := Ideal) x0 x1 x2 x5) (ix3 b n o) * x6 (ix2 o (hcol h d)) := by
  unfold val_main_v22 val_main_v21 val_main_v20
  generalize (val_main_v19 (F := Ideal) x0 x1 x2 x5) = y
  pointwise [hcol]
  simp only [Nat.mul_comm 64]
/-- The keys by head. -/
theorem rv25_raw (b : Fin 4) (h : Fin 8) (n : Fin 1024) (d : Fin 64) :
    (val_main_v25 (F := Ideal) x0 x1 x2 x5 x7) (ix4 b h n d) = ∑ o : Fin 384, (val_main_v19 (F := Ideal) x0 x1 x2 x5) (ix3 b n o) * x7 (ix2 o (hcol h d)) := by
  unfold val_main_v25 val_main_v24 val_main_v23
  generalize (val_main_v19 (F := Ideal) x0 x1 x2 x5) = y
  pointwise [hcol]
  simp only [Nat.mul_comm 64]
/-- The values by head. -/
theorem rv28_raw (b : Fin 4) (h : Fin 8) (n : Fin 1024) (d : Fin 64) :
    (val_main_v28 (F := Ideal) x0 x1 x2 x5 x8) (ix4 b h n d) = ∑ o : Fin 384, (val_main_v19 (F := Ideal) x0 x1 x2 x5) (ix3 b n o) * x8 (ix2 o (hcol h d)) := by
  unfold val_main_v28 val_main_v27 val_main_v26
  generalize (val_main_v19 (F := Ideal) x0 x1 x2 x5) = y
  pointwise [hcol]
  simp only [Nat.mul_comm 64]

variable (H : Holds D x0 x1 x2 x3 x4 x5 x6 x7 x8 x9 x10 x11 x12 x13 x14 x15 x16 x17 x18 x19)
include H

/-- The projected input of the data. -/
theorem rv4_at (b : Fin 4) (o : Fin 384) (n : Fin 1024) :
    (val_main_v4 (F := Ideal) x0 x1 x2) (ix4 b o (⟨n.val / 32, by omega⟩ : Fin 32) (⟨n.val % 32, by omega⟩ : Fin 32)) = D.xin b n o := by
  rw [rv4_raw]
  simp only [H.h0, H.h1, H.h2]
  simp only [mul_comm (D.w o _)]
  rfl
/-- The normalized rows of the data. -/
theorem rv19_at (b : Fin 4) (n : Fin 1024) (o : Fin 384) : (val_main_v19 (F := Ideal) x0 x1 x2 x5) (ix3 b n o) = ((D.xn b n o : ℝ) : EReal) := by
  have h6 : ∀ l, (val_main_v6 (F := Ideal) x0 x1 x2) (ix3 b n l) = D.xin b n l := fun l => by
    rw [rv6_raw]; exact rv4_at D x0 x1 x2 x3 x4 x5 x6 x7 x8 x9 x10 x11 x12 x13 x14 x15 x16 x17 x18 x19 H b l n
  rw [rv19_raw, word_384, word_eps.1, H.h5]
  simp only [h6]
  exact rnorm_coe (D.xin b n) D.g o
/-- The queries of the data. -/
theorem rv22_at (b : Fin 4) (h : Fin 8) (n : Fin 1024) (d : Fin 64) : (val_main_v22 (F := Ideal) x0 x1 x2 x5 x6) (ix4 b h n d) = ((D.qh b h n d : ℝ) : EReal) := by
  rw [rv22_raw]
  simp only [rv19_at D x0 x1 x2 x3 x4 x5 x6 x7 x8 x9 x10 x11 x12 x13 x14 x15 x16 x17 x18 x19 H, H.h6]
  exact dot_coe _ _
/-- The keys of the data. -/
theorem rv25_at (b : Fin 4) (h : Fin 8) (n : Fin 1024) (d : Fin 64) : (val_main_v25 (F := Ideal) x0 x1 x2 x5 x7) (ix4 b h n d) = ((D.kh b h n d : ℝ) : EReal) := by
  rw [rv25_raw]
  simp only [rv19_at D x0 x1 x2 x3 x4 x5 x6 x7 x8 x9 x10 x11 x12 x13 x14 x15 x16 x17 x18 x19 H, H.h7]
  exact dot_coe _ _
/-- The values of the data. -/
theorem rv28_at (b : Fin 4) (h : Fin 8) (n : Fin 1024) (d : Fin 64) : (val_main_v28 (F := Ideal) x0 x1 x2 x5 x8) (ix4 b h n d) = D.vh b h n d := by
  rw [rv28_raw]
  simp only [rv19_at D x0 x1 x2 x3 x4 x5 x6 x7 x8 x9 x10 x11 x12 x13 x14 x15 x16 x17 x18 x19 H, H.h8]
  rfl
end

end Cert.Nsa

end
-- ==== Proof.Nsa.Soft.lean ====
/-
  Two facts about one row: a softmax of masked scores is a row of normalized exponentials, and the two largest entries of a
  row in which every number stands eight times are the first two copies of its first largest number.
-/
module

public import proofs.«01_k».proof.Proof.Nsa.Data
public import Idealize.ShloMosaic.Lib.SortPrefix
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

/-- The exponential of a masked score, zero where masked. -/
def mexp {n : ℕ} (p : Fin n → Prop) [DecidablePred p] (s : Fin n → ℝ) (x : Fin n) : ℝ := if p x then Real.exp (s x) else 0

/-- The softmax of a row of masked scores, the maximum subtracted first, is the row of exponentials divided by their sum. -/
theorem softmax_masked {n : ℕ} (p : Fin n → Prop) [DecidablePred p] (s : Fin n → ℝ) (x0 : Fin n) (h0 : p x0) (E : Fin n → EReal) (M : EReal)
    (hE : ∀ x, E x = if p x then ((s x : ℝ) : EReal) else ⊥) (hM : M = Finset.univ.fold max ⊥ E) (x : Fin n) :
    Ideal.div (Ideal.exp (E x - M)) (∑ l, Ideal.exp (E l - M)) = ((mexp p s x / ∑ l, mexp p s l : ℝ) : EReal) := by
  obtain ⟨m, hm⟩ := fold_max_real E (fun y => by
    rw [hE]; split
    · exact Or.inr ⟨_, rfl⟩
    · exact Or.inl rfl) x0 (by rw [hE, if_pos h0]; exact EReal.coe_ne_bot _)
  rw [hM, hm]
  have e : ∀ l, Ideal.exp (E l - ((m : ℝ) : EReal)) = ((mexp p s l * Real.exp (-m) : ℝ) : EReal) := fun l => by
    rw [hE, exp_shift]; rfl
  simp only [e]
  rw [sum_coe, ← Finset.sum_mul]
  have hpos : 0 < ∑ l, mexp p s l := by
    refine Finset.sum_pos' (fun l _ => ?_) ⟨x0, Finset.mem_univ _, ?_⟩
    · unfold mexp; split <;> positivity
    · unfold mexp; rw [if_pos h0]; positivity
  rw [div_coe _ _ (mul_pos hpos (Real.exp_pos _)), mul_div_mul_right _ _ (Real.exp_pos _).ne']

/-- A stable sort of ascending positions compares a later one with an earlier one only. -/
theorem stableSort_refine {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

/-- So the place a position lands at may be taken under the comparison refined by position. -/
theorem sortedFrom_refine {n : ℕ} (B B' : Fin n → Fin n → Bool) (h : ∀ a b, a < b → B b a = B' b a) (k : Fin n) :
    sortedFrom B k = sortedFrom B' k := by
  have e : sortPositions n B = sortPositions n B' := stableSort_refine B B' h _ (List.pairwise_lt_finRange n)
  unfold sortedFrom
  simp only [List.get_eq_getElem, e, Fin.val_cast]

/-- The two largest of 512 entries, entry `p` being number `p / 8` of 64: copies 0 and 1 of the first largest number. -/
theorem top_two (w : Fin 64 → ℝ) (B : Fin 512 → Fin 512 → Bool)
    (hB : ∀ a b : Fin 512, B a b = decide (w ⟨b.val / 8, by omega⟩ < w ⟨a.val / 8, by omega⟩)) (i : Fin 2) (k : Fin 512) (hk : k.val = i.val) :
    (sortedFrom B k).val = 8 * (pick w).val + i.val := by
  classical
  let key : Fin 512 → ℝ := fun a => w ⟨a.val / 8, by omega⟩
  have hT := StrictTotalBefore.of_key_then_position (fun a b : ℝ => decide (b < a)) key (fun a => by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  set J := pick w with hJ
  let σ : Fin 2 → Fin 512 := fun i => ⟨8 * J.val + i.val, by omega⟩
  have hσ : ∀ i, key (σ i) = w J := fun i => by
    show w _ = w J
    congr 1
    apply Fin.ext
    show (8 * J.val + i.val) / 8 = J.val
    omega
  have hmax : ∀ p, key p ≤ w J := fun p => le_pick w _
  have h := hT.sortedFrom_eq_of_prefix (k := 2) (by norm_num) σ
    (fun a b hab => by
      have := congrArg Fin.val hab
      apply Fin.ext
      change 8 * J.val + a.val = 8 * J.val + b.val at this
      omega)
    (fun a b hab => by
      have hn : ¬ σ b < σ a := by
        rw [Fin.lt_def]; show ¬ 8 * J.val + b.val < 8 * J.val + a.val
        rw [Fin.lt_def] at hab; omega
      simp [hσ, hn])
    (fun a p hp => by
      have h1 : ¬ w J < key p := not_lt.2 (hmax p)
      simp only [hσ, h1, decide_false, Bool.false_or]
      by_cases he : key p = w J
      · have hn : ¬ p < σ a := by
          intro hlt
          rw [Fin.lt_def] at hlt
          change p.val < 8 * J.val + a.val at hlt
          have hp0 : p.val ≠ 8 * J.val := fun e => hp 0 (Fin.ext (by show 8 * J.val + 0 = p.val; omega))
          have hq : (⟨p.val / 8, by omega⟩ : Fin 64) < J := by rw [Fin.lt_def]; show p.val / 8 < J.val; omega
          exact absurd he (lt_pick w _ hq).ne
        simp [hn]
      · simp [he]) i
  have hki : k = i.castLE (by norm_num) := Fin.ext hk
  rw [sortedFrom_refine B (fun k k' => decide (key k' < key k) || (decide (key k = key k') && decide (k < k')))
    (fun a b hab => by
      have hn : ¬ b < a := not_lt.2 hab.le
      rw [hB]; simp [hn, key]) k, hki]
  exact congrArg Fin.val h

end Cert.Nsa

end
-- ==== Proof.Nsa.RefB.lean ====
/-
  The compressed keys and values of the reference, and the masked scores of its coarse branch.
-/
module

public import proofs.«01_k».proof.Proof.Nsa.RefA
public import proofs.«01_k».proof.Proof.Nsa.Soft
public import Idealize.ShloMosaic.Lib.Tactic.CleanTypes
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

/-- The word that the reference compares with the row: sixteen times the column, less one. -/
theorem blockword (j : Fin 65) :
    ((if hj : j.val < 1 then 4294967295#32 else (BitVec.ofNat 32 (j.val - 1) + 1#32) * 16#32 - 1#32) : BitVec 32).toInt = 16 * (j.val : ℤ) - 1 := by
  revert j; decide +kernel

/-- A maximum along the last axis of 65. -/
theorem hmax65 (y : FVec Ideal S4x8x1024x65 .f32) (b : Fin 4) (h : Fin 8) (i : Fin 1024) :
    Host.reduce FloatOps.maximumf y (constant (F := Ideal) S_ .f32 0xFF800000#32) Cert.ReferenceIdeal.Gen.reducesTo_S4x8x1024x65_S4x8x1024_d3 Cert.ReferenceIdeal.Gen.h_S_ (ix3 b h i)
      = Finset.univ.fold max (Ideal.ofBits .f32 0xFF800000#32) (fun l : Fin 65 => y (ix4 b h i l)) := by
  pointwise

section
variable (D : Data)
  (x0 : Vec Ideal S4x384x32x32 .f32) (x1 : Vec Ideal S384x384 .f32) (x2 : Vec Ideal S384 .f32)
  (x3 : Vec Ideal S384x384 .f32) (x4 x5 : Vec Ideal S384 .f32) (x6 x7 x8 : Vec Ideal S384x512 .f32)
  (x9 x10 : Vec Ideal S8x16x64 .f32) (x11 : Vec Ideal S1024x64 .f32) (x12 : Vec Ideal S64 .f32)
  (x13 : Vec Ideal S1024x64 .f32) (x14 : Vec Ideal S64 .f32) (x15 x16 : Vec Ideal S8x1x64 .f32)
  (x17 : Vec Ideal S384x24 .f32) (x18 : Vec Ideal S24 .f32) (x19 : Vec Ideal S512x384 .f32)

/-- The compressed keys from the keys. -/
theorem rv42_raw (b : Fin 4) (h : Fin 8) (j : Fin 64) (e : Fin 64) :
    (val_main_v42 (F := Ideal) x0 x1 x2 x5 x7 x9 x11 x12) (ix4 b h j e) = (∑ x : Fin 1024, ((val_main_v25 (F := Ideal) x0 x1 x2 x5 x7) (ix4 b h (crow j x) (clane x)) + x9 (ix3 h (cpos x) (clane x))) * x11 (ix2 x e)) + x12 (ix1 e) := by
  unfold val_main_v42 val_main_v39 val_main_v38 val_main_v33 val_main_v30
  generalize (val_main_v25 (F := Ideal) x0 x1 x2 x5 x7) = y
  pointwise [val_main_v31, val_main_v32, val_main_v40, val_main_v41, crow, clane, cpos]
  simp only [Nat.mul_comm 16]
/-- The compressed values from the values. -/
theorem rv47_raw (b : Fin 4) (h : Fin 8) (j : Fin 64) (e : Fin 64) :
    (val_main_v47 (F := Ideal) x0 x1 x2 x5 x8 x10 x13 x14) (ix4 b h j e) = (∑ x : Fin 1024, ((val_main_v28 (F := Ideal) x0 x1 x2 x5 x8) (ix4 b h (crow j x) (clane x)) + x10 (ix3 h (cpos x) (clane x))) * x13 (ix2 x e)) + x14 (ix1 e) := by
  unfold val_main_v47 val_main_v44 val_main_v43 val_main_v37 val_main_v34
  generalize (val_main_v28 (F := Ideal) x0 x1 x2 x5 x8) = y
  pointwise [val_main_v35, val_main_v36, val_main_v45, val_main_v46, crow, clane, cpos]
  simp only [Nat.mul_comm 16]
/-- The compressed keys behind the memory key. -/
theorem rv50_raw (b : Fin 4) (h : Fin 8) (j : Fin 65) (e : Fin 64) :
    (val_main_v50 (F := Ideal) x0 x1 x2 x5 x7 x9 x11 x12 x15) (ix4 b h j e) = if hj : j.val < 1 then x15 (ix3 h 0 e) else (val_main_v42 (F := Ideal) x0 x1 x2 x5 x7 x9 x11 x12) (ix4 b h (⟨j.val - 1, by omega⟩ : Fin 64) e) := by
  unfold val_main_v50
  generalize (val_main_v42 (F := Ideal) x0 x1 x2 x5 x7 x9 x11 x12) = y
  pointwise [val_main_v48, val_main_v49]
/-- The compressed values behind the memory value. -/
theorem rv53_raw (b : Fin 4) (h : Fin 8) (j : Fin 65) (e : Fin 64) :
    (val_main_v53 (F := Ideal) x0 x1 x2 x5 x8 x10 x13 x14 x16) (ix4 b h j e) = if hj : j.val < 1 then x16 (ix3 h 0 e) else (val_main_v47 (F := Ideal) x0 x1 x2 x5 x8 x10 x13 x14) (ix4 b h (⟨j.val - 1, by omega⟩ : Fin 64) e) := by
  unfold val_main_v53
  generalize (val_main_v47 (F := Ideal) x0 x1 x2 x5 x8 x10 x13 x14) = y
  pointwise [val_main_v51, val_main_v52]
/-- The mask of the coarse branch. -/
theorem rv71_at (i : Fin 1024) (j : Fin 65) : (val_main_v71 (F := Ideal)) (ix2 i j) = 1#1 ↔ 16 * j.val ≤ i.val + 1 := by
  have e : (val_main_v71 (F := Ideal)) (ix2 i j) = IntOp.cmpi .sge (BitVec.ofNat 32 i.val)
      (if hj : j.val < 1 then 4294967295#32 else (BitVec.ofNat 32 (j.val - 1) + 1#32) * 16#32 - 1#32) := by
    pointwise [val_main_v29, val_main_c, val_main_v57, val_main_v58, val_main_c_3, val_main_v59, val_main_v60, val_main_c_4, val_main_v61, val_main_v62, val_main_c_5, val_main_v63, val_main_v64, val_main_v66, val_main_v67, val_main_v68, val_main_v69, val_main_v70, val_main_v71]
    rfl
  rw [e, IntOp.cmpi_sge]
  have hw := blockword j
  have hi : (BitVec.ofNat 32 i.val).toInt = (i.val : ℤ) := WordCmp.toInt_ofNat_of_lt (by norm_num; omega)
  rw [hi, hw]
  omega
/-- The masked scores. -/
theorem rv73_raw (b : Fin 4) (h : Fin 8) (i : Fin 1024) (j : Fin 65) :
    (val_main_v73 (F := Ideal) x0 x1 x2 x5 x6 x7 x9 x11 x12 x15) (ix4 b h i j) = Scalar.select ((val_main_v71 (F := Ideal)) (ix2 i j))
      ((∑ d : Fin 64, (val_main_v22 (F := Ideal) x0 x1 x2 x5 x6) (ix4 b h i d) * (val_main_v50 (F := Ideal) x0 x1 x2 x5 x7 x9 x11 x12 x15) (ix4 b h j d)) * Ideal.ofBits .f32 0x3E000000#32) (Ideal.ofBits .f32 0xFF800000#32) := by
  unfold val_main_v73 val_main_v56 val_main_v54 val_main_call0_v1 val_main_v72
  generalize (val_main_v22 (F := Ideal) x0 x1 x2 x5 x6) = y
  generalize (val_main_v50 (F := Ideal) x0 x1 x2 x5 x7 x9 x11 x12 x15) = z
  generalize (val_main_v71 (F := Ideal)) = p
  pointwise [val_main_v55, val_main_call0_v2, val_main_cst_2]
  rfl
/-- The coarse weights. -/
theorem rv84_raw (b : Fin 4) (h : Fin 8) (i : Fin 1024) (j : Fin 65) :
    (val_main_v84 (F := Ideal) x0 x1 x2 x5 x6 x7 x9 x11 x12 x15) (ix4 b h i j) = Ideal.div (Ideal.exp ((val_main_v73 (F := Ideal) x0 x1 x2 x5 x6 x7 x9 x11 x12 x15) (ix4 b h i j) - (val_main_v76 (F := Ideal) x0 x1 x2 x5 x6 x7 x9 x11 x12 x15) (ix3 b h i)))
      (∑ l : Fin 65, Ideal.exp ((val_main_v73 (F := Ideal) x0 x1 x2 x5 x6 x7 x9 x11 x12 x15) (ix4 b h i l) - (val_main_v76 (F := Ideal) x0 x1 x2 x5 x6 x7 x9 x11 x12 x15) (ix3 b h i))) := by
  unfold val_main_v84 val_main_v83 val_main_v82 val_main_v81 val_main_v80 val_main_v79 val_main_v78 val_main_v77
  generalize (val_main_v73 (F := Ideal) x0 x1 x2 x5 x6 x7 x9 x11 x12 x15) = y
  generalize (val_main_v76 (F := Ideal) x0 x1 x2 x5 x6 x7 x9 x11 x12 x15) = z
  pointwise [val_main_cst_9]
/-- The maximum of the masked scores. -/
theorem rv76_raw (b : Fin 4) (h : Fin 8) (i : Fin 1024) :
    (val_main_v76 (F := Ideal) x0 x1 x2 x5 x6 x7 x9 x11 x12 x15) (ix3 b h i) = Finset.univ.fold max ⊥ (fun l : Fin 65 => (val_main_v73 (F := Ideal) x0 x1 x2 x5 x6 x7 x9 x11 x12 x15) (ix4 b h i l)) := by
  have e' : (val_main_v74 (F := Ideal) x0 x1 x2 x5 x6 x7 x9 x11 x12 x15) (ix3 b h i) = Finset.univ.fold max (Ideal.ofBits .f32 0xFF800000#32) (fun l : Fin 65 => (val_main_v73 (F := Ideal) x0 x1 x2 x5 x6 x7 x9 x11 x12 x15) (ix4 b h i l)) := by
    unfold val_main_v74 val_main_cst_7
    generalize (val_main_v73 (F := Ideal) x0 x1 x2 x5 x6 x7 x9 x11 x12 x15) = y
    exact hmax65 y b h i
  have e : (val_main_v76 (F := Ideal) x0 x1 x2 x5 x6 x7 x9 x11 x12 x15) (ix3 b h i) = max (Ideal.ofBits .f32 0xFF800000#32) ((val_main_v74 (F := Ideal) x0 x1 x2 x5 x6 x7 x9 x11 x12 x15) (ix3 b h i)) := by
    unfold val_main_v76
    generalize (val_main_v74 (F := Ideal) x0 x1 x2 x5 x6 x7 x9 x11 x12 x15) = y
    pointwise [val_main_v75, val_main_cst_8]
  rw [e, e', word_bot]
  exact max_eq_right bot_le
/-- The coarse branch. -/
theorem rv85_raw (b : Fin 4) (h : Fin 8) (i : Fin 1024) (d : Fin 64) :
    (val_main_v85 (F := Ideal) x0 x1 x2 x5 x6 x7 x8 x9 x10 x11 x12 x13 x14 x15 x16) (ix4 b h i d) = ∑ j : Fin 65, (val_main_v84 (F := Ideal) x0 x1 x2 x5 x6 x7 x9 x11 x12 x15) (ix4 b h i j) * (val_main_v53 (F := Ideal) x0 x1 x2 x5 x8 x10 x13 x14 x16) (ix4 b h j d) := by
  unfold val_main_v85
  generalize (val_main_v84 (F := Ideal) x0 x1 x2 x5 x6 x7 x9 x11 x12 x15) = y
  generalize (val_main_v53 (F := Ideal) x0 x1 x2 x5 x8 x10 x13 x14 x16) = z
  pointwise

variable (H : Holds D x0 x1 x2 x3 x4 x5 x6 x7 x8 x9 x10 x11 x12 x13 x14 x15 x16 x17 x18 x19)
include H

/-- The compressed keys of the data, the memory key first. -/
theorem rv50_at (b : Fin 4) (h : Fin 8) (j : Fin 65) (e : Fin 64) : (val_main_v50 (F := Ideal) x0 x1 x2 x5 x7 x9 x11 x12 x15) (ix4 b h j e) = ((D.ck b h j e : ℝ) : EReal) := by
  rw [rv50_raw]
  unfold Data.ck
  by_cases hj : j.val < 1
  · rw [dif_pos hj, dif_pos hj, H.h15]
  · rw [dif_neg hj, dif_neg hj, rv42_raw]
    simp only [rv25_at D x0 x1 x2 x3 x4 x5 x6 x7 x8 x9 x10 x11 x12 x13 x14 x15 x16 x17 x18 x19 H, H.h9, H.h11, H.h12, ← EReal.coe_add]
    exact dot_add_coe _ _ _
/-- The compressed values of the data, the memory value first. -/
theorem rv53_at (b : Fin 4) (h : Fin 8) (j : Fin 65) (e : Fin 64) : (val_main_v53 (F := Ideal) x0 x1 x2 x5 x8 x10 x13 x14 x16) (ix4 b h j e) = D.cv b h j e := by
  rw [rv53_raw]
  unfold Data.cv
  by_cases hj : j.val < 1
  · rw [dif_pos hj, dif_pos hj, H.h16]
  · rw [dif_neg hj, dif_neg hj, rv47_raw]
    simp only [rv28_at D x0 x1 x2 x3 x4 x5 x6 x7 x8 x9 x10 x11 x12 x13 x14 x15 x16 x17 x18 x19 H, H.h10, H.h13, H.h14]
    rfl
/-- The masked scores of the data. -/
theorem rv73_at (b : Fin 4) (h : Fin 8) (i : Fin 1024) (j : Fin 65) :
    (val_main_v73 (F := Ideal) x0 x1 x2 x5 x6 x7 x9 x11 x12 x15) (ix4 b h i j) = if 16 * j.val ≤ i.val + 1 then ((score (D.qh b h i) (D.ck b h j) : ℝ) : EReal) else ⊥ := by
  rw [rv73_raw]
  simp only [rv22_at D x0 x1 x2 x3 x4 x5 x6 x7 x8 x9 x10 x11 x12 x13 x14 x15 x16 x17 x18 x19 H, rv50_at D x0 x1 x2 x3 x4 x5 x6 x7 x8 x9 x10 x11 x12 x13 x14 x15 x16 x17 x18 x19 H]
  rw [word_eighth, word_bot, dot_coe, ← EReal.coe_mul]
  unfold Scalar.select
  exact if_congr (rv71_at i j) rfl rfl
/-- The coarse weights of the data. -/
theorem rv84_at (b : Fin 4) (h : Fin 8) (i : Fin 1024) (j : Fin 65) :
    (val_main_v84 (F := Ideal) x0 x1 x2 x5 x6 x7 x9 x11 x12 x15) (ix4 b h i j) = ((cw (D.qh b h i) (D.ck b h) i j / ∑ l, cw (D.qh b h i) (D.ck b h) i l : ℝ) : EReal) := by
  rw [rv84_raw]
  exact softmax_masked (fun j : Fin 65 => 16 * j.val ≤ i.val + 1) (fun j => score (D.qh b h i) (D.ck b h j)) 0 (by simp)
    (fun j => (val_main_v73 (F := Ideal) x0 x1 x2 x5 x6 x7 x9 x11 x12 x15) (ix4 b h i j)) ((val_main_v76 (F := Ideal) x0 x1 x2 x5 x6 x7 x9 x11 x12 x15) (ix3 b h i)) (fun j => rv73_at D x0 x1 x2 x3 x4 x5 x6 x7 x8 x9 x10 x11 x12 x13 x14 x15 x16 x17 x18 x19 H b h i j) (rv76_raw x0 x1 x2 x5 x6 x7 x9 x11 x12 x15 b h i) j
/-- The coarse branch of the data. -/
theorem rv85_at (b : Fin 4) (h : Fin 8) (i : Fin 1024) (d : Fin 64) :
    (val_main_v85 (F := Ideal) x0 x1 x2 x5 x6 x7 x8 x9 x10 x11 x12 x13 x14 x15 x16) (ix4 b h i d) = cOut (D.qh b h i) (D.ck b h) (D.cv b h) i d := by
  rw [rv85_raw]
  simp only [rv84_at D x0 x1 x2 x3 x4 x5 x6 x7 x8 x9 x10 x11 x12 x13 x14 x15 x16 x17 x18 x19 H, rv53_at D x0 x1 x2 x3 x4 x5 x6 x7 x8 x9 x10 x11 x12 x13 x14 x15 x16 x17 x18 x19 H]
  rfl
end

end Cert.Nsa

end
-- ==== Proof.Nsa.Ops.lean ====
/-
  Three operations of the reference read at an index: the positions of the two largest entries of a row of 512, and the two
  gathers, of pairs of rows at three indices and of single rows at one.
-/
module

public import proofs.«01_k».proof.Proof.Nsa.Soft
public import Idealize.ShloMosaic.Lib.Pipeline.ValueKit
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

/-- The positions of the two largest of a row in which number `J` stands at the places `8 J … 8 J + 7`. -/
theorem topk_at (y : FVec Ideal S4x8x1024x512 .f32) (fits : S4x8x1024x512.Slices (fun _ => 0) S4x8x1024x2) (b : Fin 4) (h : Fin 8) (i : Fin 1024)
    (w : Fin 64 → ℝ) (hy : ∀ p : Fin 512, y (ix4 b h i p) = ((w ⟨p.val / 8, by omega⟩ : ℝ) : EReal)) (s : Fin 2) :
    (Host.topK S4x8x1024x2 3 (FloatOps.cmpfTotal (F := Ideal) .gt) y fits).2 (ix4 b h i s) = BitVec.ofNat 32 (8 * (pick w).val + s.val) := by
  have hs : s.val < 512 := by omega
  let B : Fin 512 → Fin 512 → Bool := fun k k' => FloatOps.cmpfTotal (F := Ideal) (φ := .f32) .gt (y (ix4 b h i k)) (y (ix4 b h i k')) == 1#1
  have hal : ∀ (j : S4x8x1024x512.Idx), j = ix4 b h i ⟨s.val, hs⟩ → ∀ k : Fin 512, j.along (3 : Fin 4) k = ix4 b h i k := fun j hj k => by
    subst hj
    funext a
    fin_cases a <;> rfl
  have e : (Host.topK S4x8x1024x2 3 (FloatOps.cmpfTotal (F := Ideal) .gt) y fits).2 (ix4 b h i s)
      = BitVec.ofNat 32 (sortedFrom B ⟨s.val, hs⟩).val := by
    unfold Host.topK Host.sort2
    simp only [show 3 < S4x8x1024x512.rank from by decide, dif_pos]
    unfold extractStridedSlice
    have main : ∀ J : S4x8x1024x512.Idx, J = ix4 b h i ⟨s.val, hs⟩ →
        iotaInDim S4x8x1024x512 32 (3 : Fin 4) (J.along (3 : Fin 4) (sortedFrom (fun k k' : Fin 512 =>
          FloatOps.cmpfTotal (F := Ideal) (φ := .f32) .gt (y (J.along (3 : Fin 4) k)) (y (J.along (3 : Fin 4) k')) == 1#1) (J 3)))
        = BitVec.ofNat 32 (sortedFrom B ⟨s.val, hs⟩).val := fun J hJ => by
      have hB : (fun k k' : Fin 512 =>
          FloatOps.cmpfTotal (F := Ideal) (φ := .f32) .gt (y (J.along (3 : Fin 4) k)) (y (J.along (3 : Fin 4) k')) == 1#1) = B := by
        funext k k'
        rw [hal J hJ, hal J hJ]
      have h3 : J 3 = ⟨s.val, hs⟩ := by rw [hJ]; rfl
      rw [hB, h3]
      exact (congrArg (iotaInDim S4x8x1024x512 32 (3 : Fin 4)) (hal J hJ (sortedFrom B ⟨s.val, hs⟩))).trans rfl
    refine main _ ?_
    funext a
    apply Fin.ext
    fin_cases a <;> exact Nat.zero_add _
  rw [e, top_two w B (fun a c => ?_) s ⟨s.val, hs⟩ rfl]
  show (FloatOps.cmpfTotal (F := Ideal) (φ := .f32) .gt (y (ix4 b h i a)) (y (ix4 b h i c)) == 1#1) = _
  rw [hy, hy]
  show (Ideal.cmp .ogt _ _ == 1#1) = _
  unfold Ideal.cmp
  show (BitVec.ofBool (decide _) == 1#1) = _
  simp only [EReal.coe_lt_coe_iff]
  generalize decide (w ⟨c.val / 8, _⟩ < w ⟨a.val / 8, _⟩) = q
  cases q <;> rfl

/-- The gather of pairs of rows: at three indices that name a head and a pair. -/
theorem gather3_at (x : FVec Ideal S4x8x512x2x64 .f32) (idx : IVec S4x8x1024x3x3 32) (b : Fin 4) (h : Fin 8) (i : Fin 1024) (s : Fin 3) (u : Fin 2)
    (d : Fin 64) (P : Fin 512) (h0 : (idx (ix5 b h i s 0)).toInt.toNat = b.val) (h1 : (idx (ix5 b h i s 1)).toInt.toNat = h.val)
    (h2 : (idx (ix5 b h i s 2)).toInt.toNat = P.val) :
    Host.gather gather_S4x8x512x2x64_S4x8x1024x3x3_S4x8x1024x3x2x64_45_012_n_n_012_4_111264 x idx (ix6 b h i s u d) = x (ix5 b h P u d) := by
  unfold Host.gather
  congr 1
  funext a
  apply Fin.ext
  have hb := b.isLt
  have hh := h.isLt
  have hP := P.isLt
  have key : ∀ c : Fin 3, GatherDims.siIdx gather_S4x8x512x2x64_S4x8x1024x3x3_S4x8x1024x3x2x64_45_012_n_n_012_4_111264 (ix6 b h i s u d) c
      = ix5 b h i s c := fun c => by
    funext a
    fin_cases a <;> rfl
  fin_cases a
  · show min (idx (GatherDims.siIdx gather_S4x8x512x2x64_S4x8x1024x3x3_S4x8x1024x3x2x64_45_012_n_n_012_4_111264 (ix6 b h i s u d) (0 : Fin 3))).toInt.toNat (4 - 1) + 0 + 0 = b.val
    rw [key, h0]; omega
  · show min (idx (GatherDims.siIdx gather_S4x8x512x2x64_S4x8x1024x3x3_S4x8x1024x3x2x64_45_012_n_n_012_4_111264 (ix6 b h i s u d) (1 : Fin 3))).toInt.toNat (8 - 1) + 0 + 0 = h.val
    rw [key, h1]; omega
  · show min (idx (GatherDims.siIdx gather_S4x8x512x2x64_S4x8x1024x3x3_S4x8x1024x3x2x64_45_012_n_n_012_4_111264 (ix6 b h i s u d) (2 : Fin 3))).toInt.toNat (512 - 1) + 0 + 0 = P.val
    rw [key, h2]; omega
  · show 0 + 0 + u.val = u.val
    omega
  · show 0 + 0 + d.val = d.val
    omega

/-- The gather of single rows at one index. -/
theorem gather1_at (x : FVec Ideal S4x8x1024x64 .f32) (idx : IVec S1024x8x1 32) (b : Fin 4) (h : Fin 8) (i : Fin 1024) (o : Fin 8)
    (d : Fin 64) (P : Fin 1024) (h0 : (idx (ix3 i o 0)).toInt.toNat = P.val) :
    Host.gather gather_S4x8x1024x64_S1024x8x1_S4x8x1024x8x64_014_2_n_n_2_2_48164 x idx (ix5 b h i o d) = x (ix4 b h P d) := by
  unfold Host.gather
  congr 1
  funext a
  apply Fin.ext
  have hP := P.isLt
  have key : ∀ c : Fin 1, GatherDims.siIdx gather_S4x8x1024x64_S1024x8x1_S4x8x1024x8x64_014_2_n_n_2_2_48164 (ix5 b h i o d) c
      = ix3 i o c := fun c => by
    funext a
    fin_cases a <;> rfl
  fin_cases a
  · show 0 + 0 + b.val = b.val
    omega
  · show 0 + 0 + h.val = h.val
    omega
  · show min (idx (GatherDims.siIdx gather_S4x8x1024x64_S1024x8x1_S4x8x1024x8x64_014_2_n_n_2_2_48164 (ix5 b h i o d) (0 : Fin 1))).toInt.toNat (1024 - 1) + 0 + 0 = P.val
    rw [key, h0]; omega
  · show 0 + 0 + d.val = d.val
    omega

end Cert.Nsa

end
-- ==== Proof.Nsa.RefC.lean ====
/-
  The fine branch of the reference: the three pairs of rows that each row reads, and the keys, the values and the mask there.
-/
module

public import proofs.«01_k».proof.Proof.Nsa.RefB
public import proofs.«01_k».proof.Proof.Nsa.Ops
public import Idealize.ShloMosaic.Lib.Routing.OpsPair
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

/-- The three pairs of rows that row `i` reads: the first two of the selected block, and its own. -/
def fpair (J : Fin 64) (i : Fin 1024) (s : Fin 3) : Fin 512 :=
  if s.val < 2 then ⟨8 * J.val + s.val % 2, by omega⟩ else ⟨i.val / 2, by omega⟩

/-- Position `t` of the fine branch is in pair `t / 2`. -/
theorem fpos_pair (J : Fin 64) (i : Fin 1024) (t : Fin 6) :
    (fpos J i t).val = 2 * (fpair J i ⟨t.val / 2, by omega⟩).val + t.val % 2 := by
  unfold fpos fpair
  have ht := t.isLt
  by_cases h : t.val < 4
  · rw [if_pos h, if_pos (show t.val / 2 < 2 by omega)]
    show 16 * J.val + t.val % 4 = 2 * (8 * J.val + t.val / 2 % 2) + t.val % 2
    omega
  · rw [if_neg h, if_neg (show ¬ t.val / 2 < 2 by omega)]
    show 2 * (i.val / 2) + (t.val - 4) = 2 * (i.val / 2) + t.val % 2
    omega

/-- The row's own pair, as a word. -/
theorem rv89_at (i : Fin 1024) : (val_main_v89 (F := Ideal)) (ix1 i) = BitVec.ofNat 32 (i.val / 2) := by
  revert i; decide +kernel

section
variable (D : Data)
  (x0 : Vec Ideal S4x384x32x32 .f32) (x1 : Vec Ideal S384x384 .f32) (x2 : Vec Ideal S384 .f32)
  (x3 : Vec Ideal S384x384 .f32) (x4 x5 : Vec Ideal S384 .f32) (x6 x7 x8 : Vec Ideal S384x512 .f32)
  (x9 x10 : Vec Ideal S8x16x64 .f32) (x11 : Vec Ideal S1024x64 .f32) (x12 : Vec Ideal S64 .f32)
  (x13 : Vec Ideal S1024x64 .f32) (x14 : Vec Ideal S64 .f32) (x15 x16 : Vec Ideal S8x1x64 .f32)
  (x17 : Vec Ideal S384x24 .f32) (x18 : Vec Ideal S24 .f32) (x19 : Vec Ideal S512x384 .f32)

/-- The coarse weights, each eight times. -/
theorem rv88_raw (b : Fin 4) (h : Fin 8) (i : Fin 1024) (p : Fin 512) :
    (val_main_v88 (F := Ideal) x0 x1 x2 x5 x6 x7 x9 x11 x12 x15) (ix4 b h i p) = (val_main_v84 (F := Ideal) x0 x1 x2 x5 x6 x7 x9 x11 x12 x15) (ix4 b h i (⟨p.val / 8 + 1, by omega⟩ : Fin 65)) := by
  unfold val_main_v88 val_main_v87 val_main_v86
  generalize (val_main_v84 (F := Ideal) x0 x1 x2 x5 x6 x7 x9 x11 x12 x15) = y
  pointwise
  simp only [Nat.add_comm 1]
/-- The selected pairs and the row's own. -/
theorem rv92_raw (b : Fin 4) (h : Fin 8) (i : Fin 1024) (s : Fin 3) :
    (val_main_v92 (F := Ideal) x0 x1 x2 x5 x6 x7 x9 x11 x12 x15) (ix4 b h i s) = if hs : s.val < 2 then (val_main_indices (F := Ideal) x0 x1 x2 x5 x6 x7 x9 x11 x12 x15) (ix4 b h i (⟨s.val, hs⟩ : Fin 2)) else (val_main_v89 (F := Ideal)) (ix1 i) := by
  unfold val_main_v92 val_main_v91 val_main_v90
  generalize (val_main_indices (F := Ideal) x0 x1 x2 x5 x6 x7 x9 x11 x12 x15) = y
  generalize (val_main_v89 (F := Ideal)) = z
  pointwise
/-- The three parts of the index of the gathered keys. -/
theorem rv119_raw (b : Fin 4) (h : Fin 8) (i : Fin 1024) (s : Fin 3) :
    (val_main_v119 (F := Ideal) x0 x1 x2 x5 x6 x7 x9 x11 x12 x15) (ix5 b h i s 0) = (val_main_v103 (F := Ideal)) (ix4 b 0 0 0) ∧ (val_main_v119 (F := Ideal) x0 x1 x2 x5 x6 x7 x9 x11 x12 x15) (ix5 b h i s 1) = (val_main_v108 (F := Ideal)) (ix4 0 h 0 0) ∧ (val_main_v119 (F := Ideal) x0 x1 x2 x5 x6 x7 x9 x11 x12 x15) (ix5 b h i s 2) = (val_main_v113 (F := Ideal) x0 x1 x2 x5 x6 x7 x9 x11 x12 x15) (ix4 b h i s) := by
  unfold val_main_v119 val_main_v118
  generalize (val_main_v113 (F := Ideal) x0 x1 x2 x5 x6 x7 x9 x11 x12 x15) = y
  refine ⟨?_, ?_, ?_⟩
  · pointwise [val_main_v114, val_main_v115, val_main_v116, val_main_v117]
  · pointwise [val_main_v114, val_main_v115, val_main_v116, val_main_v117]
  · pointwise [val_main_v114, val_main_v115, val_main_v116, val_main_v117]
/-- The three parts of the index of the gathered values. -/
theorem rv142_raw (b : Fin 4) (h : Fin 8) (i : Fin 1024) (s : Fin 3) :
    (val_main_v142 (F := Ideal) x0 x1 x2 x5 x6 x7 x9 x11 x12 x15) (ix5 b h i s 0) = (val_main_v126 (F := Ideal)) (ix4 b 0 0 0) ∧ (val_main_v142 (F := Ideal) x0 x1 x2 x5 x6 x7 x9 x11 x12 x15) (ix5 b h i s 1) = (val_main_v131 (F := Ideal)) (ix4 0 h 0 0) ∧ (val_main_v142 (F := Ideal) x0 x1 x2 x5 x6 x7 x9 x11 x12 x15) (ix5 b h i s 2) = (val_main_v136 (F := Ideal) x0 x1 x2 x5 x6 x7 x9 x11 x12 x15) (ix4 b h i s) := by
  unfold val_main_v142 val_main_v141
  generalize (val_main_v136 (F := Ideal) x0 x1 x2 x5 x6 x7 x9 x11 x12 x15) = y
  refine ⟨?_, ?_, ?_⟩
  · pointwise [val_main_v137, val_main_v138, val_main_v139, val_main_v140]
  · pointwise [val_main_v137, val_main_v138, val_main_v139, val_main_v140]
  · pointwise [val_main_v137, val_main_v138, val_main_v139, val_main_v140]
/-- The image part of an index. -/
theorem rv103_at (b : Fin 4) : ((val_main_v103 (F := Ideal)) (ix4 b 0 0 0)).toInt.toNat = b.val ∧ ((val_main_v126 (F := Ideal)) (ix4 b 0 0 0)).toInt.toNat = b.val := by
  revert b; decide +kernel
/-- The head part of an index. -/
theorem rv108_at (h : Fin 8) : ((val_main_v108 (F := Ideal)) (ix4 0 h 0 0)).toInt.toNat = h.val ∧ ((val_main_v131 (F := Ideal)) (ix4 0 h 0 0)).toInt.toNat = h.val := by
  revert h; decide +kernel
/-- The wrapped pairs of the keys. -/
theorem rv113_raw (b : Fin 4) (h : Fin 8) (i : Fin 1024) (s : Fin 3) :
    (val_main_v113 (F := Ideal) x0 x1 x2 x5 x6 x7 x9 x11 x12 x15) (ix4 b h i s) = Scalar.select (IntOp.cmpi .slt ((val_main_v92 (F := Ideal) x0 x1 x2 x5 x6 x7 x9 x11 x12 x15) (ix4 b h i s)) 0#32) ((val_main_v92 (F := Ideal) x0 x1 x2 x5 x6 x7 x9 x11 x12 x15) (ix4 b h i s) + 512#32) ((val_main_v92 (F := Ideal) x0 x1 x2 x5 x6 x7 x9 x11 x12 x15) (ix4 b h i s)) := by
  unfold val_main_v113 val_main_v112 val_main_v110
  generalize (val_main_v92 (F := Ideal) x0 x1 x2 x5 x6 x7 x9 x11 x12 x15) = y
  pointwise [val_main_v109, val_main_v111, val_main_c_15, val_main_c_16]
  rfl
/-- The wrapped pairs of the values. -/
theorem rv136_raw (b : Fin 4) (h : Fin 8) (i : Fin 1024) (s : Fin 3) :
    (val_main_v136 (F := Ideal) x0 x1 x2 x5 x6 x7 x9 x11 x12 x15) (ix4 b h i s) = Scalar.select (IntOp.cmpi .slt ((val_main_v92 (F := Ideal) x0 x1 x2 x5 x6 x7 x9 x11 x12 x15) (ix4 b h i s)) 0#32) ((val_main_v92 (F := Ideal) x0 x1 x2 x5 x6 x7 x9 x11 x12 x15) (ix4 b h i s) + 512#32) ((val_main_v92 (F := Ideal) x0 x1 x2 x5 x6 x7 x9 x11 x12 x15) (ix4 b h i s)) := by
  unfold val_main_v136 val_main_v135 val_main_v133
  generalize (val_main_v92 (F := Ideal) x0 x1 x2 x5 x6 x7 x9 x11 x12 x15) = y
  pointwise [val_main_v132, val_main_v134, val_main_c_21, val_main_c_22]
  rfl
/-- The keys pair by pair. -/
theorem rv93_raw (b : Fin 4) (h : Fin 8) (P : Fin 512) (u : Fin 2) (d : Fin 64) :
    (val_main_v93 (F := Ideal) x0 x1 x2 x5 x7) (ix5 b h P u d) = (val_main_v25 (F := Ideal) x0 x1 x2 x5 x7) (ix4 b h (⟨2 * P.val + u.val, by omega⟩ : Fin 1024) d) := by
  unfold val_main_v93
  generalize (val_main_v25 (F := Ideal) x0 x1 x2 x5 x7) = y
  pointwise
  simp only [Nat.mul_comm 2]
/-- The values pair by pair. -/
theorem rv94_raw (b : Fin 4) (h : Fin 8) (P : Fin 512) (u : Fin 2) (d : Fin 64) :
    (val_main_v94 (F := Ideal) x0 x1 x2 x5 x8) (ix5 b h P u d) = (val_main_v28 (F := Ideal) x0 x1 x2 x5 x8) (ix4 b h (⟨2 * P.val + u.val, by omega⟩ : Fin 1024) d) := by
  unfold val_main_v94
  generalize (val_main_v28 (F := Ideal) x0 x1 x2 x5 x8) = y
  pointwise
  simp only [Nat.mul_comm 2]
/-- The gathered keys position by position. -/
theorem rv121_raw (b : Fin 4) (h : Fin 8) (i : Fin 1024) (t : Fin 6) (d : Fin 64) :
    (val_main_v121 (F := Ideal) x0 x1 x2 x5 x6 x7 x9 x11 x12 x15) (ix5 b h i t d) = (val_main_v120 (F := Ideal) x0 x1 x2 x5 x6 x7 x9 x11 x12 x15) (ix6 b h i (⟨t.val / 2, by omega⟩ : Fin 3) (⟨t.val % 2, by omega⟩ : Fin 2) d) := by
  unfold val_main_v121
  generalize (val_main_v120 (F := Ideal) x0 x1 x2 x5 x6 x7 x9 x11 x12 x15) = y
  pointwise
/-- The gathered values position by position. -/
theorem rv144_raw (b : Fin 4) (h : Fin 8) (i : Fin 1024) (t : Fin 6) (d : Fin 64) :
    (val_main_v144 (F := Ideal) x0 x1 x2 x5 x6 x7 x8 x9 x11 x12 x15) (ix5 b h i t d) = (val_main_v143 (F := Ideal) x0 x1 x2 x5 x6 x7 x8 x9 x11 x12 x15) (ix6 b h i (⟨t.val / 2, by omega⟩ : Fin 3) (⟨t.val % 2, by omega⟩ : Fin 2) d) := by
  unfold val_main_v144
  generalize (val_main_v143 (F := Ideal) x0 x1 x2 x5 x6 x7 x8 x9 x11 x12 x15) = y
  pointwise
/-- The position words of the fine branch. -/
theorem rv153_raw (b : Fin 4) (h : Fin 8) (i : Fin 1024) (t : Fin 6) :
    (val_main_v153 (F := Ideal) x0 x1 x2 x5 x6 x7 x9 x11 x12 x15) (ix4 b h i t) = (val_main_v92 (F := Ideal) x0 x1 x2 x5 x6 x7 x9 x11 x12 x15) (ix4 b h i (⟨t.val / 2, by omega⟩ : Fin 3)) * 2#32 + BitVec.ofNat 32 (t.val % 2) := by
  unfold val_main_v153 val_main_v152 val_main_v150 val_main_v147 val_main_v145
  generalize (val_main_v92 (F := Ideal) x0 x1 x2 x5 x6 x7 x9 x11 x12 x15) = y
  pointwise [val_main_c_23, val_main_v146, val_main_v148, val_main_v149, val_main_v151]
  rfl
/-- The mask of the fine branch, from the positions. -/
theorem rv156_raw (b : Fin 4) (h : Fin 8) (i : Fin 1024) (t : Fin 6) :
    (val_main_v156 (F := Ideal) x0 x1 x2 x5 x6 x7 x9 x11 x12 x15) (ix4 b h i t) = IntOp.cmpi .sle ((val_main_v153 (F := Ideal) x0 x1 x2 x5 x6 x7 x9 x11 x12 x15) (ix4 b h i t)) (BitVec.ofNat 32 i.val) := by
  unfold val_main_v156
  generalize (val_main_v153 (F := Ideal) x0 x1 x2 x5 x6 x7 x9 x11 x12 x15) = y
  pointwise [val_main_v29, val_main_v154, val_main_v155]

variable (H : Holds D x0 x1 x2 x3 x4 x5 x6 x7 x8 x9 x10 x11 x12 x13 x14 x15 x16 x17 x18 x19)
include H

/-- The selected pairs of the data. -/
theorem rindices_at (b : Fin 4) (h : Fin 8) (i : Fin 1024) (s : Fin 2) :
    (val_main_indices (F := Ideal) x0 x1 x2 x5 x6 x7 x9 x11 x12 x15) (ix4 b h i s) = BitVec.ofNat 32 (8 * (sel (D.qh b h i) (D.ck b h) i).val + s.val) := by
  have hp := cw_sum_pos (D.qh b h i) (D.ck b h) i
  have hsel : pick (fun j : Fin 64 => cw (D.qh b h i) (D.ck b h) i j.succ / ∑ l, cw (D.qh b h i) (D.ck b h) i l) = sel (D.qh b h i) (D.ck b h) i :=
    pick_smul _ _ (∑ l, cw (D.qh b h i) (D.ck b h) i l)⁻¹ (inv_pos.2 hp) fun j => div_eq_mul_inv _ _
  rw [← hsel]
  unfold val_main_indices
  refine topk_at (val_main_v88 (F := Ideal) x0 x1 x2 x5 x6 x7 x9 x11 x12 x15) _ b h i _ (fun p => ?_) s
  rw [rv88_raw]
  exact rv84_at D x0 x1 x2 x3 x4 x5 x6 x7 x8 x9 x10 x11 x12 x13 x14 x15 x16 x17 x18 x19 H b h i _
/-- The pairs of the data. -/
theorem rv92_at (b : Fin 4) (h : Fin 8) (i : Fin 1024) (s : Fin 3) :
    (val_main_v92 (F := Ideal) x0 x1 x2 x5 x6 x7 x9 x11 x12 x15) (ix4 b h i s) = BitVec.ofNat 32 (fpair (sel (D.qh b h i) (D.ck b h) i) i s).val := by
  rw [rv92_raw]
  unfold fpair
  by_cases hs : s.val < 2
  · rw [dif_pos hs, if_pos hs, rindices_at D x0 x1 x2 x3 x4 x5 x6 x7 x8 x9 x10 x11 x12 x13 x14 x15 x16 x17 x18 x19 H]
    show _ = BitVec.ofNat 32 (8 * _ + s.val % 2)
    rw [Nat.mod_eq_of_lt hs]
  · rw [dif_neg hs, if_neg hs, rv89_at]
/-- No pair is negative, so the wrapping of negative indices leaves it alone. -/
theorem rv113_at (b : Fin 4) (h : Fin 8) (i : Fin 1024) (s : Fin 3) :
    ((val_main_v113 (F := Ideal) x0 x1 x2 x5 x6 x7 x9 x11 x12 x15) (ix4 b h i s)).toInt.toNat = (fpair (sel (D.qh b h i) (D.ck b h) i) i s).val
      ∧ ((val_main_v136 (F := Ideal) x0 x1 x2 x5 x6 x7 x9 x11 x12 x15) (ix4 b h i s)).toInt.toNat = (fpair (sel (D.qh b h i) (D.ck b h) i) i s).val := by
  rw [rv113_raw, rv136_raw, rv92_at D x0 x1 x2 x3 x4 x5 x6 x7 x8 x9 x10 x11 x12 x13 x14 x15 x16 x17 x18 x19 H]
  have hP := (fpair (sel (D.qh b h i) (D.ck b h) i) i s).isLt
  generalize (fpair (sel (D.qh b h i) (D.ck b h) i) i s).val = P at hP
  have hN : (BitVec.ofNat 32 P).toNat < 2 ^ (32 - 1) := by
    rw [BitVec.toNat_ofNat]; omega
  rw [Idealize.ShloMosaic.Routing.wrap_of_lt _ _ hN, WordCmp.toInt_ofNat_of_lt (by norm_num; omega)]
  exact ⟨rfl, rfl⟩
/-- The keys of the fine branch. -/
theorem rv121_at (b : Fin 4) (h : Fin 8) (i : Fin 1024) (t : Fin 6) (d : Fin 64) :
    (val_main_v121 (F := Ideal) x0 x1 x2 x5 x6 x7 x9 x11 x12 x15) (ix5 b h i t d) = ((D.kh b h (fpos (sel (D.qh b h i) (D.ck b h) i) i t) d : ℝ) : EReal) := by
  rw [rv121_raw]
  obtain ⟨e0, e1, e2⟩ := rv119_raw x0 x1 x2 x5 x6 x7 x9 x11 x12 x15 b h i (⟨t.val / 2, by omega⟩ : Fin 3)
  unfold val_main_v120
  rw [gather3_at _ _ b h i _ _ d (fpair (sel (D.qh b h i) (D.ck b h) i) i ⟨t.val / 2, by omega⟩) (by rw [e0]; exact (rv103_at b).1)
    (by rw [e1]; exact (rv108_at h).1) (by rw [e2]; exact (rv113_at D x0 x1 x2 x3 x4 x5 x6 x7 x8 x9 x10 x11 x12 x13 x14 x15 x16 x17 x18 x19 H b h i _).1), rv93_raw, rv25_at D x0 x1 x2 x3 x4 x5 x6 x7 x8 x9 x10 x11 x12 x13 x14 x15 x16 x17 x18 x19 H]
  congr 2
  exact Fin.ext (fpos_pair _ i t).symm
/-- The values of the fine branch. -/
theorem rv144_at (b : Fin 4) (h : Fin 8) (i : Fin 1024) (t : Fin 6) (d : Fin 64) :
    (val_main_v144 (F := Ideal) x0 x1 x2 x5 x6 x7 x8 x9 x11 x12 x15) (ix5 b h i t d) = D.vh b h (fpos (sel (D.qh b h i) (D.ck b h) i) i t) d := by
  rw [rv144_raw]
  obtain ⟨e0, e1, e2⟩ := rv142_raw x0 x1 x2 x5 x6 x7 x9 x11 x12 x15 b h i (⟨t.val / 2, by omega⟩ : Fin 3)
  unfold val_main_v143
  rw [gather3_at _ _ b h i _ _ d (fpair (sel (D.qh b h i) (D.ck b h) i) i ⟨t.val / 2, by omega⟩) (by rw [e0]; exact (rv103_at b).2)
    (by rw [e1]; exact (rv108_at h).2) (by rw [e2]; exact (rv113_at D x0 x1 x2 x3 x4 x5 x6 x7 x8 x9 x10 x11 x12 x13 x14 x15 x16 x17 x18 x19 H b h i _).2), rv94_raw, rv28_at D x0 x1 x2 x3 x4 x5 x6 x7 x8 x9 x10 x11 x12 x13 x14 x15 x16 x17 x18 x19 H]
  exact congrArg (fun z => D.vh b h z d) (Fin.ext (fpos_pair _ i t).symm)
/-- The mask of the fine branch. -/
theorem rv156_at (b : Fin 4) (h : Fin 8) (i : Fin 1024) (t : Fin 6) :
    (val_main_v156 (F := Ideal) x0 x1 x2 x5 x6 x7 x9 x11 x12 x15) (ix4 b h i t) = 1#1 ↔ (fpos (sel (D.qh b h i) (D.ck b h) i) i t).val ≤ i.val := by
  have hf := (fpos (sel (D.qh b h i) (D.ck b h) i) i t).isLt
  rw [rv156_raw, rv153_raw, rv92_at D x0 x1 x2 x3 x4 x5 x6 x7 x8 x9 x10 x11 x12 x13 x14 x15 x16 x17 x18 x19 H]
  have e : BitVec.ofNat 32 (fpair (sel (D.qh b h i) (D.ck b h) i) i (⟨t.val / 2, by omega⟩ : Fin 3)).val * 2#32 + BitVec.ofNat 32 (t.val % 2)
      = BitVec.ofNat 32 (fpos (sel (D.qh b h i) (D.ck b h) i) i t).val := by
    rw [fpos_pair, Nat.mul_comm 2, BitVec.ofNat_add, BitVec.ofNat_mul]
  rw [e, IntOp.cmpi_sle, WordCmp.toInt_ofNat_of_lt (by norm_num; omega), WordCmp.toInt_ofNat_of_lt (by norm_num; omega)]
  omega
end

end Cert.Nsa

end
-- ==== Proof.Nsa.RefD.lean ====
/-
  The fine branch of the reference: the masked scores, their softmax, and the weighted mean.
-/
module

public import proofs.«01_k».proof.Proof.Nsa.RefC
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

/-- A maximum along the last axis of 6. -/
theorem hmax6 (y : FVec Ideal S4x8x1024x6 .f32) (b : Fin 4) (h : Fin 8) (i : Fin 1024) :
    Host.reduce FloatOps.maximumf y (constant (F := Ideal) S_ .f32 0xFF800000#32) Cert.ReferenceIdeal.Gen.reducesTo_S4x8x1024x6_S4x8x1024_d3 Cert.ReferenceIdeal.Gen.h_S_ (ix3 b h i)
      = Finset.univ.fold max (Ideal.ofBits .f32 0xFF800000#32) (fun l : Fin 6 => y (ix4 b h i l)) := by
  pointwise

section
variable (D : Data)
  (x0 : Vec Ideal S4x384x32x32 .f32) (x1 : Vec Ideal S384x384 .f32) (x2 : Vec Ideal S384 .f32)
  (x3 : Vec Ideal S384x384 .f32) (x4 x5 : Vec Ideal S384 .f32) (x6 x7 x8 : Vec Ideal S384x512 .f32)
  (x9 x10 : Vec Ideal S8x16x64 .f32) (x11 : Vec Ideal S1024x64 .f32) (x12 : Vec Ideal S64 .f32)
  (x13 : Vec Ideal S1024x64 .f32) (x14 : Vec Ideal S64 .f32) (x15 x16 : Vec Ideal S8x1x64 .f32)
  (x17 : Vec Ideal S384x24 .f32) (x18 : Vec Ideal S24 .f32) (x19 : Vec Ideal S512x384 .f32)

/-- The masked scores. -/
theorem rv160_raw (b : Fin 4) (h : Fin 8) (i : Fin 1024) (j : Fin 6) :
    (val_main_v160 (F := Ideal) x0 x1 x2 x5 x6 x7 x9 x11 x12 x15) (ix4 b h i j) = Scalar.select ((val_main_v156 (F := Ideal) x0 x1 x2 x5 x6 x7 x9 x11 x12 x15) (ix4 b h i j))
      ((∑ d : Fin 64, (val_main_v22 (F := Ideal) x0 x1 x2 x5 x6) (ix4 b h i d) * (val_main_v121 (F := Ideal) x0 x1 x2 x5 x6 x7 x9 x11 x12 x15) (ix5 b h i j d)) * Ideal.ofBits .f32 0x3E000000#32) (Ideal.ofBits .f32 0xFF800000#32) := by
  unfold val_main_v160 val_main_v159 val_main_v157
  generalize (val_main_v22 (F := Ideal) x0 x1 x2 x5 x6) = y
  generalize (val_main_v121 (F := Ideal) x0 x1 x2 x5 x6 x7 x9 x11 x12 x15) = z
  generalize (val_main_v156 (F := Ideal) x0 x1 x2 x5 x6 x7 x9 x11 x12 x15) = p
  pointwise [val_main_v158, val_main_cst_24, val_main_call2_v1]
  rfl
/-- The weights from the masked scores. -/
theorem rv171_raw (b : Fin 4) (h : Fin 8) (i : Fin 1024) (j : Fin 6) :
    (val_main_v171 (F := Ideal) x0 x1 x2 x5 x6 x7 x9 x11 x12 x15) (ix4 b h i j) = Ideal.div (Ideal.exp ((val_main_v160 (F := Ideal) x0 x1 x2 x5 x6 x7 x9 x11 x12 x15) (ix4 b h i j) - (val_main_v163 (F := Ideal) x0 x1 x2 x5 x6 x7 x9 x11 x12 x15) (ix3 b h i)))
      (∑ l : Fin 6, Ideal.exp ((val_main_v160 (F := Ideal) x0 x1 x2 x5 x6 x7 x9 x11 x12 x15) (ix4 b h i l) - (val_main_v163 (F := Ideal) x0 x1 x2 x5 x6 x7 x9 x11 x12 x15) (ix3 b h i))) := by
  unfold val_main_v171 val_main_v170 val_main_v169 val_main_v168 val_main_v167 val_main_v166 val_main_v165 val_main_v164
  generalize (val_main_v160 (F := Ideal) x0 x1 x2 x5 x6 x7 x9 x11 x12 x15) = y
  generalize (val_main_v163 (F := Ideal) x0 x1 x2 x5 x6 x7 x9 x11 x12 x15) = z
  pointwise [val_main_cst_28]
/-- The maximum of the masked scores. -/
theorem rv163_raw (b : Fin 4) (h : Fin 8) (i : Fin 1024) :
    (val_main_v163 (F := Ideal) x0 x1 x2 x5 x6 x7 x9 x11 x12 x15) (ix3 b h i) = Finset.univ.fold max ⊥ (fun l : Fin 6 => (val_main_v160 (F := Ideal) x0 x1 x2 x5 x6 x7 x9 x11 x12 x15) (ix4 b h i l)) := by
  have e' : (val_main_v161 (F := Ideal) x0 x1 x2 x5 x6 x7 x9 x11 x12 x15) (ix3 b h i) = Finset.univ.fold max (Ideal.ofBits .f32 0xFF800000#32) (fun l : Fin 6 => (val_main_v160 (F := Ideal) x0 x1 x2 x5 x6 x7 x9 x11 x12 x15) (ix4 b h i l)) := by
    unfold val_main_v161 val_main_cst_26
    generalize (val_main_v160 (F := Ideal) x0 x1 x2 x5 x6 x7 x9 x11 x12 x15) = y
    exact hmax6 y b h i
  have e : (val_main_v163 (F := Ideal) x0 x1 x2 x5 x6 x7 x9 x11 x12 x15) (ix3 b h i) = max (Ideal.ofBits .f32 0xFF800000#32) ((val_main_v161 (F := Ideal) x0 x1 x2 x5 x6 x7 x9 x11 x12 x15) (ix3 b h i)) := by
    unfold val_main_v163
    generalize (val_main_v161 (F := Ideal) x0 x1 x2 x5 x6 x7 x9 x11 x12 x15) = y
    pointwise [val_main_v162, val_main_cst_27]
  rw [e, e', word_bot]
  exact max_eq_right bot_le
/-- The weighted sum. -/
theorem rv172_raw (b : Fin 4) (h : Fin 8) (i : Fin 1024) (d : Fin 64) :
    (val_main_v172 (F := Ideal) x0 x1 x2 x5 x6 x7 x8 x9 x11 x12 x15) (ix4 b h i d) = ∑ j : Fin 6, (val_main_v171 (F := Ideal) x0 x1 x2 x5 x6 x7 x9 x11 x12 x15) (ix4 b h i j) * (val_main_v144 (F := Ideal) x0 x1 x2 x5 x6 x7 x8 x9 x11 x12 x15) (ix5 b h i j d) := by
  unfold val_main_v172
  generalize (val_main_v171 (F := Ideal) x0 x1 x2 x5 x6 x7 x9 x11 x12 x15) = y
  generalize (val_main_v144 (F := Ideal) x0 x1 x2 x5 x6 x7 x8 x9 x11 x12 x15) = z
  pointwise

variable (H : Holds D x0 x1 x2 x3 x4 x5 x6 x7 x8 x9 x10 x11 x12 x13 x14 x15 x16 x17 x18 x19)
include H

/-- The masked scores of the data. -/
theorem rv160_at (b : Fin 4) (h : Fin 8) (i : Fin 1024) (t : Fin 6) :
    (val_main_v160 (F := Ideal) x0 x1 x2 x5 x6 x7 x9 x11 x12 x15) (ix4 b h i t) = if (fpos (sel (D.qh b h i) (D.ck b h) i) i t).val ≤ i.val
      then ((score (D.qh b h i) (D.kh b h (fpos (sel (D.qh b h i) (D.ck b h) i) i t)) : ℝ) : EReal) else ⊥ := by
  rw [rv160_raw]
  simp only [rv22_at D x0 x1 x2 x3 x4 x5 x6 x7 x8 x9 x10 x11 x12 x13 x14 x15 x16 x17 x18 x19 H, rv121_at D x0 x1 x2 x3 x4 x5 x6 x7 x8 x9 x10 x11 x12 x13 x14 x15 x16 x17 x18 x19 H]
  rw [word_eighth, word_bot, dot_coe, ← EReal.coe_mul]
  unfold Scalar.select
  exact if_congr (rv156_at D x0 x1 x2 x3 x4 x5 x6 x7 x8 x9 x10 x11 x12 x13 x14 x15 x16 x17 x18 x19 H b h i t) rfl rfl
/-- The fine weights of the data. -/
theorem rv171_at (b : Fin 4) (h : Fin 8) (i : Fin 1024) (t : Fin 6) :
    (val_main_v171 (F := Ideal) x0 x1 x2 x5 x6 x7 x9 x11 x12 x15) (ix4 b h i t) = ((fw (D.qh b h i) (D.kh b h) (sel (D.qh b h i) (D.ck b h) i) i t
      / ∑ l, fw (D.qh b h i) (D.kh b h) (sel (D.qh b h i) (D.ck b h) i) i l : ℝ) : EReal) := by
  rw [rv171_raw]
  exact softmax_masked (fun t : Fin 6 => (fpos (sel (D.qh b h i) (D.ck b h) i) i t).val ≤ i.val)
    (fun t => score (D.qh b h i) (D.kh b h (fpos (sel (D.qh b h i) (D.ck b h) i) i t))) 4
    (by
      have : (fpos (sel (D.qh b h i) (D.ck b h) i) i 4).val = 2 * (i.val / 2) := by simp [fpos]
      omega)
    (fun t => (val_main_v160 (F := Ideal) x0 x1 x2 x5 x6 x7 x9 x11 x12 x15) (ix4 b h i t)) ((val_main_v163 (F := Ideal) x0 x1 x2 x5 x6 x7 x9 x11 x12 x15) (ix3 b h i)) (fun t => rv160_at D x0 x1 x2 x3 x4 x5 x6 x7 x8 x9 x10 x11 x12 x13 x14 x15 x16 x17 x18 x19 H b h i t) (rv163_raw x0 x1 x2 x5 x6 x7 x9 x11 x12 x15 b h i) t
/-- The fine branch of the data. -/
theorem rv172_at (b : Fin 4) (h : Fin 8) (i : Fin 1024) (d : Fin 64) :
    (val_main_v172 (F := Ideal) x0 x1 x2 x5 x6 x7 x8 x9 x11 x12 x15) (ix4 b h i d) = fOut (D.qh b h i) (D.kh b h) (D.vh b h) (sel (D.qh b h i) (D.ck b h) i) i d := by
  rw [rv172_raw]
  simp only [rv171_at D x0 x1 x2 x3 x4 x5 x6 x7 x8 x9 x10 x11 x12 x13 x14 x15 x16 x17 x18 x19 H, rv144_at D x0 x1 x2 x3 x4 x5 x6 x7 x8 x9 x10 x11 x12 x13 x14 x15 x16 x17 x18 x19 H]
  rfl
end

end Cert.Nsa

end
-- ==== Proof.Nsa.RefE.lean ====
/-
  The sliding window of the reference: the gathered rows, the masked scores, their softmax, and the weighted mean.
-/
module

public import proofs.«01_k».proof.Proof.Nsa.RefA
public import proofs.«01_k».proof.Proof.Nsa.Ops
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

/-- A maximum along the last axis of 8. -/
theorem hmax8 (y : FVec Ideal S4x8x1024x8 .f32) (b : Fin 4) (h : Fin 8) (i : Fin 1024) :
    Host.reduce FloatOps.maximumf y (constant (F := Ideal) S_ .f32 0xFF800000#32) Cert.ReferenceIdeal.Gen.reducesTo_S4x8x1024x8_S4x8x1024_d3 Cert.ReferenceIdeal.Gen.h_S_ (ix3 b h i)
      = Finset.univ.fold max (Ideal.ofBits .f32 0xFF800000#32) (fun l : Fin 8 => y (ix4 b h i l)) := by
  pointwise

/-- The position of the row that lies `o` above row `i`, in the index of the gathered keys. -/
theorem rv186_at : ∀ (i : Fin 1024) (o : Fin 8), ((val_main_v186 (F := Ideal)) (ix2 i o)).toInt.toNat = i.val - o.val := by
  decide +kernel
/-- The same position in the index of the gathered values. -/
theorem rv193_at (i : Fin 1024) (o : Fin 8) : ((val_main_v193 (F := Ideal)) (ix2 i o)).toInt.toNat = i.val - o.val := rv186_at i o
/-- The mask of the window. -/
theorem rv180_at : ∀ (i : Fin 1024) (o : Fin 8), (val_main_v180 (F := Ideal)) (ix2 i o) = 1#1 ↔ o.val ≤ i.val := by
  decide +kernel

section
variable (D : Data)
  (x0 : Vec Ideal S4x384x32x32 .f32) (x1 : Vec Ideal S384x384 .f32) (x2 : Vec Ideal S384 .f32)
  (x3 : Vec Ideal S384x384 .f32) (x4 x5 : Vec Ideal S384 .f32) (x6 x7 x8 : Vec Ideal S384x512 .f32)
  (x9 x10 : Vec Ideal S8x16x64 .f32) (x11 : Vec Ideal S1024x64 .f32) (x12 : Vec Ideal S64 .f32)
  (x13 : Vec Ideal S1024x64 .f32) (x14 : Vec Ideal S64 .f32) (x15 x16 : Vec Ideal S8x1x64 .f32)
  (x17 : Vec Ideal S384x24 .f32) (x18 : Vec Ideal S24 .f32) (x19 : Vec Ideal S512x384 .f32)

/-- The masked scores. -/
theorem rv200_raw (b : Fin 4) (h : Fin 8) (i : Fin 1024) (j : Fin 8) :
    (val_main_v200 (F := Ideal) x0 x1 x2 x5 x6 x7) (ix4 b h i j) = Scalar.select ((val_main_v180 (F := Ideal)) (ix2 i j))
      ((∑ d : Fin 64, (val_main_v22 (F := Ideal) x0 x1 x2 x5 x6) (ix4 b h i d) * (val_main_v188 (F := Ideal) x0 x1 x2 x5 x7) (ix5 b h i j d)) * Ideal.ofBits .f32 0x3E000000#32) (Ideal.ofBits .f32 0xFF800000#32) := by
  unfold val_main_v200 val_main_v198 val_main_v196 val_main_call4_v1 val_main_v199
  generalize (val_main_v22 (F := Ideal) x0 x1 x2 x5 x6) = y
  generalize (val_main_v188 (F := Ideal) x0 x1 x2 x5 x7) = z
  generalize (val_main_v180 (F := Ideal)) = p
  pointwise [val_main_v197, val_main_cst_36, val_main_call4_v2]
  rfl
/-- The weights from the masked scores. -/
theorem rv211_raw (b : Fin 4) (h : Fin 8) (i : Fin 1024) (j : Fin 8) :
    (val_main_v211 (F := Ideal) x0 x1 x2 x5 x6 x7) (ix4 b h i j) = Ideal.div (Ideal.exp ((val_main_v200 (F := Ideal) x0 x1 x2 x5 x6 x7) (ix4 b h i j) - (val_main_v203 (F := Ideal) x0 x1 x2 x5 x6 x7) (ix3 b h i)))
      (∑ l : Fin 8, Ideal.exp ((val_main_v200 (F := Ideal) x0 x1 x2 x5 x6 x7) (ix4 b h i l) - (val_main_v203 (F := Ideal) x0 x1 x2 x5 x6 x7) (ix3 b h i))) := by
  unfold val_main_v211 val_main_v210 val_main_v209 val_main_v208 val_main_v207 val_main_v206 val_main_v205 val_main_v204
  generalize (val_main_v200 (F := Ideal) x0 x1 x2 x5 x6 x7) = y
  generalize (val_main_v203 (F := Ideal) x0 x1 x2 x5 x6 x7) = z
  pointwise [val_main_cst_40]
/-- The maximum of the masked scores. -/
theorem rv203_raw (b : Fin 4) (h : Fin 8) (i : Fin 1024) :
    (val_main_v203 (F := Ideal) x0 x1 x2 x5 x6 x7) (ix3 b h i) = Finset.univ.fold max ⊥ (fun l : Fin 8 => (val_main_v200 (F := Ideal) x0 x1 x2 x5 x6 x7) (ix4 b h i l)) := by
  have e' : (val_main_v201 (F := Ideal) x0 x1 x2 x5 x6 x7) (ix3 b h i) = Finset.univ.fold max (Ideal.ofBits .f32 0xFF800000#32) (fun l : Fin 8 => (val_main_v200 (F := Ideal) x0 x1 x2 x5 x6 x7) (ix4 b h i l)) := by
    unfold val_main_v201 val_main_cst_38
    generalize (val_main_v200 (F := Ideal) x0 x1 x2 x5 x6 x7) = y
    exact hmax8 y b h i
  have e : (val_main_v203 (F := Ideal) x0 x1 x2 x5 x6 x7) (ix3 b h i) = max (Ideal.ofBits .f32 0xFF800000#32) ((val_main_v201 (F := Ideal) x0 x1 x2 x5 x6 x7) (ix3 b h i)) := by
    unfold val_main_v203
    generalize (val_main_v201 (F := Ideal) x0 x1 x2 x5 x6 x7) = y
    pointwise [val_main_v202, val_main_cst_39]
  rw [e, e', word_bot]
  exact max_eq_right bot_le
/-- The weighted sum. -/
theorem rv212_raw (b : Fin 4) (h : Fin 8) (i : Fin 1024) (d : Fin 64) :
    (val_main_v212 (F := Ideal) x0 x1 x2 x5 x6 x7 x8) (ix4 b h i d) = ∑ j : Fin 8, (val_main_v211 (F := Ideal) x0 x1 x2 x5 x6 x7) (ix4 b h i j) * (val_main_v195 (F := Ideal) x0 x1 x2 x5 x8) (ix5 b h i j d) := by
  unfold val_main_v212
  generalize (val_main_v211 (F := Ideal) x0 x1 x2 x5 x6 x7) = y
  generalize (val_main_v195 (F := Ideal) x0 x1 x2 x5 x8) = z
  pointwise
/-- The gathered keys. -/
theorem rv188_raw (b : Fin 4) (h : Fin 8) (i : Fin 1024) (o : Fin 8) (d : Fin 64) :
    (val_main_v188 (F := Ideal) x0 x1 x2 x5 x7) (ix5 b h i o d) = (val_main_v25 (F := Ideal) x0 x1 x2 x5 x7) (ix4 b h (wpos i o) d) := by
  have e : (val_main_v187 (F := Ideal)) (ix3 i o 0) = (val_main_v186 (F := Ideal)) (ix2 i o) := by
    unfold val_main_v187
    generalize (val_main_v186 (F := Ideal)) = y
    pointwise
  unfold val_main_v188
  exact gather1_at _ _ b h i o d (wpos i o) (by rw [e]; exact rv186_at i o)
/-- The gathered values. -/
theorem rv195_raw (b : Fin 4) (h : Fin 8) (i : Fin 1024) (o : Fin 8) (d : Fin 64) :
    (val_main_v195 (F := Ideal) x0 x1 x2 x5 x8) (ix5 b h i o d) = (val_main_v28 (F := Ideal) x0 x1 x2 x5 x8) (ix4 b h (wpos i o) d) := by
  have e : (val_main_v194 (F := Ideal)) (ix3 i o 0) = (val_main_v193 (F := Ideal)) (ix2 i o) := by
    unfold val_main_v194
    generalize (val_main_v193 (F := Ideal)) = y
    pointwise
  unfold val_main_v195
  exact gather1_at _ _ b h i o d (wpos i o) (by rw [e]; exact rv193_at i o)

variable (H : Holds D x0 x1 x2 x3 x4 x5 x6 x7 x8 x9 x10 x11 x12 x13 x14 x15 x16 x17 x18 x19)
include H

/-- The masked scores of the data. -/
theorem rv200_at (b : Fin 4) (h : Fin 8) (i : Fin 1024) (o : Fin 8) :
    (val_main_v200 (F := Ideal) x0 x1 x2 x5 x6 x7) (ix4 b h i o) = if o.val ≤ i.val then ((score (D.qh b h i) (D.kh b h (wpos i o)) : ℝ) : EReal) else ⊥ := by
  rw [rv200_raw]
  simp only [rv188_raw, rv22_at D x0 x1 x2 x3 x4 x5 x6 x7 x8 x9 x10 x11 x12 x13 x14 x15 x16 x17 x18 x19 H, rv25_at D x0 x1 x2 x3 x4 x5 x6 x7 x8 x9 x10 x11 x12 x13 x14 x15 x16 x17 x18 x19 H]
  rw [word_eighth, word_bot, dot_coe, ← EReal.coe_mul]
  unfold Scalar.select
  exact if_congr (rv180_at i o) rfl rfl
/-- The window's weights of the data. -/
theorem rv211_at (b : Fin 4) (h : Fin 8) (i : Fin 1024) (o : Fin 8) :
    (val_main_v211 (F := Ideal) x0 x1 x2 x5 x6 x7) (ix4 b h i o) = ((ww (D.qh b h i) (D.kh b h) i o / ∑ l, ww (D.qh b h i) (D.kh b h) i l : ℝ) : EReal) := by
  rw [rv211_raw]
  exact softmax_masked (fun o : Fin 8 => o.val ≤ i.val) (fun o => score (D.qh b h i) (D.kh b h (wpos i o))) 0 (by simp)
    (fun o => (val_main_v200 (F := Ideal) x0 x1 x2 x5 x6 x7) (ix4 b h i o)) ((val_main_v203 (F := Ideal) x0 x1 x2 x5 x6 x7) (ix3 b h i)) (fun o => rv200_at D x0 x1 x2 x3 x4 x5 x6 x7 x8 x9 x10 x11 x12 x13 x14 x15 x16 x17 x18 x19 H b h i o) (rv203_raw x0 x1 x2 x5 x6 x7 b h i) o
/-- The sliding window of the data. -/
theorem rv212_at (b : Fin 4) (h : Fin 8) (i : Fin 1024) (d : Fin 64) :
    (val_main_v212 (F := Ideal) x0 x1 x2 x5 x6 x7 x8) (ix4 b h i d) = wOut (D.qh b h i) (D.kh b h) (D.vh b h) i d := by
  rw [rv212_raw]
  simp only [rv211_at D x0 x1 x2 x3 x4 x5 x6 x7 x8 x9 x10 x11 x12 x13 x14 x15 x16 x17 x18 x19 H, rv195_raw, rv28_at D x0 x1 x2 x3 x4 x5 x6 x7 x8 x9 x10 x11 x12 x13 x14 x15 x16 x17 x18 x19 H]
  rfl
end

end Cert.Nsa

end
-- ==== Proof.Nsa.RefF.lean ====
/-
  The reference from its three branches to its result: the gates, the combined attention rows, the two projections, the
  bias and the input.
-/
module

public import proofs.«01_k».proof.Proof.Nsa.RefD
public import proofs.«01_k».proof.Proof.Nsa.RefE
public import proofs.«01_k».proof.Proof.Gen.ReferenceIdeal.Read

@[expose] public section

set_option maxRecDepth 16384
set_option maxHeartbeats 1000000

noncomputable section

namespace Cert.Nsa

open Idealize.ShloMosaic
open Cert.ReferenceIdeal Cert.ReferenceIdeal.Read

section
variable (D : Data)
  (x0 : Vec Ideal S4x384x32x32 .f32) (x1 : Vec Ideal S384x384 .f32) (x2 : Vec Ideal S384 .f32)
  (x3 : Vec Ideal S384x384 .f32) (x4 x5 : Vec Ideal S384 .f32) (x6 x7 x8 : Vec Ideal S384x512 .f32)
  (x9 x10 : Vec Ideal S8x16x64 .f32) (x11 : Vec Ideal S1024x64 .f32) (x12 : Vec Ideal S64 .f32)
  (x13 : Vec Ideal S1024x64 .f32) (x14 : Vec Ideal S64 .f32) (x15 x16 : Vec Ideal S8x1x64 .f32)
  (x17 : Vec Ideal S384x24 .f32) (x18 : Vec Ideal S24 .f32) (x19 : Vec Ideal S512x384 .f32)

/-- The gates. -/
theorem rv224_raw (b : Fin 4) (h : Fin 8) (n : Fin 1024) (s : Fin 3) :
    (val_main_v224 (F := Ideal) x0 x1 x2 x5 x17 x18) (ix4 b h n s) = Ideal.div (Ideal.ofBits .f32 0x3F800000#32) (Ideal.ofBits .f32 0x3F800000#32
      + Ideal.exp (-((∑ o : Fin 384, (val_main_v19 (F := Ideal) x0 x1 x2 x5) (ix3 b n o) * x17 (ix2 o (gidx h s))) + x18 (ix1 (gidx h s))))) := by
  unfold val_main_v224 val_main_v223 val_main_v222 val_main_v220 val_main_v218 val_main_v217 val_main_v216 val_main_v213
  generalize (val_main_v19 (F := Ideal) x0 x1 x2 x5) = y
  pointwise [val_main_v214, val_main_v215, val_main_cst_41, val_main_v219, val_main_cst_42, val_main_v221, gidx]
  simp only [Nat.mul_comm 3]
/-- The combined branches. -/
theorem rv235_raw (b : Fin 4) (h : Fin 8) (n : Fin 1024) (d : Fin 64) :
    (val_main_v235 (F := Ideal) x0 x1 x2 x5 x6 x7 x8 x9 x10 x11 x12 x13 x14 x15 x16 x17 x18) (ix4 b h n d) = (val_main_v85 (F := Ideal) x0 x1 x2 x5 x6 x7 x8 x9 x10 x11 x12 x13 x14 x15 x16) (ix4 b h n d) * (val_main_v224 (F := Ideal) x0 x1 x2 x5 x17 x18) (ix4 b h n 0) + (val_main_v172 (F := Ideal) x0 x1 x2 x5 x6 x7 x8 x9 x11 x12 x15) (ix4 b h n d) * (val_main_v224 (F := Ideal) x0 x1 x2 x5 x17 x18) (ix4 b h n 1)
      + (val_main_v212 (F := Ideal) x0 x1 x2 x5 x6 x7 x8) (ix4 b h n d) * (val_main_v224 (F := Ideal) x0 x1 x2 x5 x17 x18) (ix4 b h n 2) := by
  unfold val_main_v235 val_main_v231 val_main_v227 val_main_v230 val_main_v234 val_main_v226 val_main_v229 val_main_v233 val_main_v225 val_main_v228 val_main_v232
  generalize (val_main_v85 (F := Ideal) x0 x1 x2 x5 x6 x7 x8 x9 x10 x11 x12 x13 x14 x15 x16) = y
  generalize (val_main_v172 (F := Ideal) x0 x1 x2 x5 x6 x7 x8 x9 x11 x12 x15) = z
  generalize (val_main_v212 (F := Ideal) x0 x1 x2 x5 x6 x7 x8) = w
  generalize (val_main_v224 (F := Ideal) x0 x1 x2 x5 x17 x18) = g
  pointwise
/-- The projected attention rows. -/
theorem rv238_raw (b : Fin 4) (n : Fin 1024) (o : Fin 384) :
    (val_main_v238 (F := Ideal) x0 x1 x2 x5 x6 x7 x8 x9 x10 x11 x12 x13 x14 x15 x16 x17 x18 x19) (ix3 b n o) = ∑ e : Fin 512, (val_main_v235 (F := Ideal) x0 x1 x2 x5 x6 x7 x8 x9 x10 x11 x12 x13 x14 x15 x16 x17 x18) (ix4 b (⟨e.val / 64, by omega⟩ : Fin 8) n (⟨e.val % 64, by omega⟩ : Fin 64)) * x19 (ix2 e o) := by
  unfold val_main_v238 val_main_v237 val_main_v236
  generalize (val_main_v235 (F := Ideal) x0 x1 x2 x5 x6 x7 x8 x9 x10 x11 x12 x13 x14 x15 x16 x17 x18) = y
  pointwise
/-- The result. -/
theorem rv246_raw (b : Fin 4) (c : Fin 384) (h w : Fin 32) :
    (val_main_v246 (F := Ideal) x0 x1 x2 x3 x4 x5 x6 x7 x8 x9 x10 x11 x12 x13 x14 x15 x16 x17 x18 x19) (ix4 b c h w) = ((∑ o : Fin 384, x3 (ix2 c o) * (val_main_v238 (F := Ideal) x0 x1 x2 x5 x6 x7 x8 x9 x10 x11 x12 x13 x14 x15 x16 x17 x18 x19) (ix3 b (⟨h.val * 32 + w.val, by omega⟩ : Fin 1024) o)) + x4 (ix1 c))
      + (val_main_v4 (F := Ideal) x0 x1 x2) (ix4 b c h w) := by
  unfold val_main_v246 val_main_v245 val_main_v242 val_main_v241 val_main_v240 val_main_v239
  generalize (val_main_v238 (F := Ideal) x0 x1 x2 x5 x6 x7 x8 x9 x10 x11 x12 x13 x14 x15 x16 x17 x18 x19) = y
  generalize (val_main_v4 (F := Ideal) x0 x1 x2) = z
  pointwise [val_main_v243, val_main_v244]

variable (H : Holds D x0 x1 x2 x3 x4 x5 x6 x7 x8 x9 x10 x11 x12 x13 x14 x15 x16 x17 x18 x19)
include H

/-- The gates of the data. -/
theorem rv224_at (b : Fin 4) (h : Fin 8) (n : Fin 1024) (s : Fin 3) : (val_main_v224 (F := Ideal) x0 x1 x2 x5 x17 x18) (ix4 b h n s) = D.gate b n (gidx h s) := by
  rw [rv224_raw, word_one]
  simp only [rv19_at D x0 x1 x2 x3 x4 x5 x6 x7 x8 x9 x10 x11 x12 x13 x14 x15 x16 x17 x18 x19 H, H.h17, H.h18]
  rfl
/-- The attention rows of the data. -/
theorem rv235_at (b : Fin 4) (h : Fin 8) (n : Fin 1024) (d : Fin 64) : (val_main_v235 (F := Ideal) x0 x1 x2 x5 x6 x7 x8 x9 x10 x11 x12 x13 x14 x15 x16 x17 x18) (ix4 b h n d) = D.ath b h n d := by
  rw [rv235_raw, rv85_at D x0 x1 x2 x3 x4 x5 x6 x7 x8 x9 x10 x11 x12 x13 x14 x15 x16 x17 x18 x19 H, rv172_at D x0 x1 x2 x3 x4 x5 x6 x7 x8 x9 x10 x11 x12 x13 x14 x15 x16 x17 x18 x19 H, rv212_at D x0 x1 x2 x3 x4 x5 x6 x7 x8 x9 x10 x11 x12 x13 x14 x15 x16 x17 x18 x19 H, rv224_at D x0 x1 x2 x3 x4 x5 x6 x7 x8 x9 x10 x11 x12 x13 x14 x15 x16 x17 x18 x19 H, rv224_at D x0 x1 x2 x3 x4 x5 x6 x7 x8 x9 x10 x11 x12 x13 x14 x15 x16 x17 x18 x19 H, rv224_at D x0 x1 x2 x3 x4 x5 x6 x7 x8 x9 x10 x11 x12 x13 x14 x15 x16 x17 x18 x19 H]
  rfl
/-- The projected attention rows of the data. -/
theorem rv238_at (b : Fin 4) (n : Fin 1024) (o : Fin 384) : (val_main_v238 (F := Ideal) x0 x1 x2 x5 x6 x7 x8 x9 x10 x11 x12 x13 x14 x15 x16 x17 x18 x19) (ix3 b n o) = D.pr b n o := by
  rw [rv238_raw]
  simp only [rv235_at D x0 x1 x2 x3 x4 x5 x6 x7 x8 x9 x10 x11 x12 x13 x14 x15 x16 x17 x18 x19 H, H.h19]
  rfl
/-- The result of the data. -/
theorem rv246_at (b : Fin 4) (c : Fin 384) (h w : Fin 32) :
    (val_main_v246 (F := Ideal) x0 x1 x2 x3 x4 x5 x6 x7 x8 x9 x10 x11 x12 x13 x14 x15 x16 x17 x18 x19) (ix4 b c h w) = D.res b (⟨h.val * 32 + w.val, by omega⟩ : Fin 1024) c := by
  have hx := rv4_at D x0 x1 x2 x3 x4 x5 x6 x7 x8 x9 x10 x11 x12 x13 x14 x15 x16 x17 x18 x19 H b c (⟨h.val * 32 + w.val, by omega⟩ : Fin 1024)
  have eh : (⟨(h.val * 32 + w.val) / 32, by omega⟩ : Fin 32) = h := Fin.ext (by show (h.val * 32 + w.val) / 32 = h.val; omega)
  have ew : (⟨(h.val * 32 + w.val) % 32, by omega⟩ : Fin 32) = w := Fin.ext (by show (h.val * 32 + w.val) % 32 = w.val; omega)
  simp only [eh, ew] at hx
  rw [rv246_raw, hx]
  simp only [rv238_at D x0 x1 x2 x3 x4 x5 x6 x7 x8 x9 x10 x11 x12 x13 x14 x15 x16 x17 x18 x19 H, H.h3, H.h4, mul_comm (D.po c _)]
  rfl
end

end Cert.Nsa

end
-- ==== Proof.Nsa.Fin.lean ====
/-
  The precondition read back: finite arrays hold real numbers, so the arguments hold the data made from them.
-/
module

public import proofs.«01_k».proof.Proof.Nsa.Holds
public import proofs.«01_k».proof.Pre_finite

@[expose] public section

set_option maxRecDepth 16384

noncomputable section

namespace Cert.Nsa

open Idealize.ShloMosaic
open Cert.Pre_finite

/-- The side conditions of the precondition's operations. -/
theorem pre_facts : Cert.Pre_finite.Facts :=
  ⟨by decide, by decide, by decide, by decide, by decide, by decide⟩

/-- The word of positive infinity read as an extended real. -/
theorem inf_word : (FloatOps.ofBits (F := Ideal) .f32 0x7F800000#32 : EReal) = ⊤ := by
  show Ideal.ofBits .f32 0x7F800000#32 = ⊤
  rfl

/-- A number whose absolute value is below infinity is real. -/
theorem real_of_abs (v : EReal) (h : (max v (-v) : EReal) < ⊤) : v = ((v.toReal : ℝ) : EReal) := by
  refine (EReal.coe_toReal ?_ ?_).symm
  · rintro rfl
    simp at h
  · rintro rfl
    simp at h

/-- An array that passes the test of the precondition holds real numbers. -/
theorem real_of_lt {S : Shape} (hb : S_.BroadcastsInDim S (![] : Fin 0 → Fin S.rank)) (x : FVec Ideal S .f32)
    (h : cmpf .olt (Host.absf x) (broadcastInDim S ![] hb (constant (F := Ideal) S_ .f32 0x7F800000#32)) = fun _ => 1#1)
    (i : S.Idx) : x i = ((EReal.toReal (x i) : ℝ) : EReal) := by
  have e := congrFun h i
  have e' : BitVec.ofBool (decide ((max (x i) (-(x i)) : EReal) < FloatOps.ofBits (F := Ideal) .f32 0x7F800000#32)) = 1#1 := e
  rw [inf_word] at e'
  refine real_of_abs _ ?_
  by_contra hc
  rw [decide_eq_false hc] at e'
  exact absurd e' (by decide)

variable (x0 : FVec Ideal S4x384x32x32 .f32)
  (x1 : FVec Ideal S384x384 .f32)
  (x2 : FVec Ideal S384 .f32)
  (x3 : FVec Ideal S384x384 .f32)
  (x4 : FVec Ideal S384 .f32)
  (x5 : FVec Ideal S384 .f32)
  (x6 : FVec Ideal S384x512 .f32)
  (x7 : FVec Ideal S384x512 .f32)
  (x8 : FVec Ideal S384x512 .f32)
  (x9 : FVec Ideal S8x16x64 .f32)
  (x10 : FVec Ideal S8x16x64 .f32)
  (x11 : FVec Ideal S1024x64 .f32)
  (x12 : FVec Ideal S64 .f32)
  (x13 : FVec Ideal S1024x64 .f32)
  (x14 : FVec Ideal S64 .f32)
  (x15 : FVec Ideal S8x1x64 .f32)
  (x16 : FVec Ideal S8x1x64 .f32)
  (x17 : FVec Ideal S384x24 .f32)
  (x18 : FVec Ideal S24 .f32)
  (x19 : FVec Ideal S512x384 .f32)

/-- The data the twenty arrays hold. -/
def dataOf : Data where
  x := fun b n o => x0 (ix4 b o (⟨n.val / 32, by omega⟩ : Fin 32) (⟨n.val % 32, by omega⟩ : Fin 32))
  w := fun o k => x1 (ix2 o k)
  pb := fun o => x2 (ix1 o)
  g := fun o => EReal.toReal (x5 (ix1 o))
  wq := fun o e => EReal.toReal (x6 (ix2 o e))
  wk := fun o e => EReal.toReal (x7 (ix2 o e))
  wv := fun o e => x8 (ix2 o e)
  kp := fun h p d => EReal.toReal (x9 (ix3 h p d))
  vp := fun h p d => x10 (ix3 h p d)
  wkc := fun y e => EReal.toReal (x11 (ix2 y e))
  bkc := fun e => EReal.toReal (x12 (ix1 e))
  wvc := fun y e => x13 (ix2 y e)
  bvc := fun e => x14 (ix1 e)
  mck := fun h d => EReal.toReal (x15 (ix3 h 0 d))
  mcv := fun h d => x16 (ix3 h 0 d)
  wg := fun o e => x17 (ix2 o e)
  bg := fun e => x18 (ix1 e)
  wo := fun e o => x19 (ix2 e o)
  po := fun o k => x3 (ix2 o k)
  pob := fun o => x4 (ix1 o)

/-- Arrays that pass every test of the precondition hold their data. -/
theorem holds_of_pre
    (h5 : cmpf .olt (Host.absf x5) (broadcastInDim S384 ![] (pre_facts.bcast_S_S384) (constant (F := Ideal) S_ .f32 0x7F800000#32)) = fun _ => 1#1)
    (h6 : cmpf .olt (Host.absf x6) (broadcastInDim S384x512 ![] (pre_facts.bcast_S_S384x512) (constant (F := Ideal) S_ .f32 0x7F800000#32)) = fun _ => 1#1)
    (h7 : cmpf .olt (Host.absf x7) (broadcastInDim S384x512 ![] (pre_facts.bcast_S_S384x512) (constant (F := Ideal) S_ .f32 0x7F800000#32)) = fun _ => 1#1)
    (h9 : cmpf .olt (Host.absf x9) (broadcastInDim S8x16x64 ![] (pre_facts.bcast_S_S8x16x64) (constant (F := Ideal) S_ .f32 0x7F800000#32)) = fun _ => 1#1)
    (h11 : cmpf .olt (Host.absf x11) (broadcastInDim S1024x64 ![] (pre_facts.bcast_S_S1024x64) (constant (F := Ideal) S_ .f32 0x7F800000#32)) = fun _ => 1#1)
    (h12 : cmpf .olt (Host.absf x12) (broadcastInDim S64 ![] (pre_facts.bcast_S_S64) (constant (F := Ideal) S_ .f32 0x7F800000#32)) = fun _ => 1#1)
    (h15 : cmpf .olt (Host.absf x15) (broadcastInDim S8x1x64 ![] (pre_facts.bcast_S_S8x1x64) (constant (F := Ideal) S_ .f32 0x7F800000#32)) = fun _ => 1#1)
    : Holds (dataOf x0 x1 x2 x3 x4 x5 x6 x7 x8 x9 x10 x11 x12 x13 x14 x15 x16 x17 x18 x19) x0 x1 x2 x3 x4 x5 x6 x7 x8 x9 x10 x11 x12 x13 x14 x15 x16 x17 x18 x19 where
  h0 := fun _ _ _ => rfl
  h1 := fun _ _ => rfl
  h2 := fun _ => rfl
  h3 := fun _ _ => rfl
  h4 := fun _ => rfl
  h5 := fun _ => real_of_lt _ x5 h5 _
  h6 := fun _ _ => real_of_lt _ x6 h6 _
  h7 := fun _ _ => real_of_lt _ x7 h7 _
  h8 := fun _ _ => rfl
  h9 := fun _ _ _ => real_of_lt _ x9 h9 _
  h10 := fun _ _ _ => rfl
  h11 := fun _ _ => real_of_lt _ x11 h11 _
  h12 := fun _ => real_of_lt _ x12 h12 _
  h13 := fun _ _ => rfl
  h14 := fun _ => rfl
  h15 := fun _ _ => real_of_lt _ x15 h15 _
  h16 := fun _ _ => rfl
  h17 := fun _ _ => rfl
  h18 := fun _ => rfl
  h19 := fun _ _ => rfl

end Cert.Nsa

end
-- ==== Proof.lean ====
/-
  The claims about the kernel, its idealization and the plain reference, put together from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Nsa.Run
public import proofs.«01_k».proof.Proof.Nsa.KVal
public import proofs.«01_k».proof.Proof.Nsa.RefF
public import proofs.«01_k».proof.Proof.Nsa.Fin
public import Idealize.ShloMosaic.Adequacy
public import Idealize.ShloMosaic.Init

@[expose] public section

noncomputable section

namespace Cert.Proof

open Idealize.ShloMosaic Idealize.SL.Sem Cert.Kernel

/-- The plain reference leaves its arguments alone and every counter at zero: it declares no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run m g)

/-- The data that one device's arguments hold. -/
abbrev dataAt (m : (ℓ : Loc Cert.KernelIdeal.nD Cert.KernelIdeal.τ Cert.KernelIdeal.sig) → Buf (Elt Ideal) ℓ) (c : Dev Cert.KernelIdeal.nD) : Cert.Nsa.Data :=
  Cert.Nsa.dataOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))

/-- Under the precondition the kernel's arguments hold their data. -/
theorem holds_at (m : (ℓ : Loc Cert.KernelIdeal.nD Cert.KernelIdeal.τ Cert.KernelIdeal.sig) → Buf (Elt Ideal) ℓ)
    (hp : Cert.Pre_KernelIdeal_finite (hPre_finite := Cert.Nsa.pre_facts) m) (c : Dev Cert.KernelIdeal.nD) :
    Cert.Nsa.Holds (dataAt m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) := by
  obtain ⟨h5, h6, h7, h9, h11, h12, h15⟩ := hp c
  exact Cert.Nsa.holds_of_pre _ _ _ _ _ _ _ _ _ _ _ _ _ _ _ _ _ _ _ _ h5 h6 h7 h9 h11 h12 h15

/-- The result the kernel's program leaves, by entry. -/
theorem kernel_entry (m : (ℓ : Loc Cert.KernelIdeal.nD Cert.KernelIdeal.τ Cert.KernelIdeal.sig) → Buf (Elt Ideal) ℓ) (ρ : Dev Cert.KernelIdeal.nD → PrngReg)
    (hp : Cert.Pre_KernelIdeal_finite (hPre_finite := Cert.Nsa.pre_facts) m) (c : Dev Cert.KernelIdeal.nD) (b : Fin 4) (k : Fin 384) (h w : Fin 32) :
    Cert.KernelIdeal.Gen.W6 m ρ c (Proc.devRef .tc Cert.KernelIdeal.main_v48) (ix4 b k h w) = (dataAt m c).res b ⟨h.val * 32 + w.val, by omega⟩ k :=
  Cert.Nsa.v48_at m ρ c (dataAt m c) (holds_at m hp c) b k h w

/-- The reference's result over the same arguments is the kernel's. -/
theorem same_result (m : (ℓ : Loc Cert.KernelIdeal.nD Cert.KernelIdeal.τ Cert.KernelIdeal.sig) → Buf (Elt Ideal) ℓ) (ρ : Dev Cert.KernelIdeal.nD → PrngReg)
    (hp : Cert.Pre_KernelIdeal_finite (hPre_finite := Cert.Nsa.pre_facts) m) (c : Dev Cert.KernelIdeal.nD) :
    Cert.ReferenceIdeal.Read.val_main_v246 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      = Cert.KernelIdeal.Gen.W6 m ρ c (Proc.devRef .tc Cert.KernelIdeal.main_v48) := by
  refine funext fun y => ?_
  have hy : y = ix4 (y 0) (y 1) (y 2) (y 3) := by blk_ext
  rw [hy]
  exact (Cert.Nsa.rv246_at (dataAt m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (holds_at m hp c) (y 0) (y 1) (y 2) (y 3)).trans (kernel_entry m ρ hp c (y 0) (y 1) (y 2) (y 3)).symm

/-- The plain reference run from the same arguments ends with the array the kernel's program leaves, its arguments unchanged. -/
theorem reference_value (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_finite (hPre_finite := Cert.Nsa.pre_facts) m) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    : Cert.ReferenceIdeal.Read.val_main_v246 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
      = Cert.KernelIdeal.Gen.W6 m ρ c (Proc.devRef .tc Cert.KernelIdeal.main_v48) := by
  rw [a0, a1, a2, a3, a4, a5, a6, a7, a8, a9, a10, a11, a12, a13, a14, a15, a16, a17, a18, a19]
  exact same_result m ρ hp c

/-- On finite arguments the kernel's program and the plain reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Nsa.pre_facts) := by
  intro m g m' g' hp ha
  refine ⟨fun c => Cert.KernelIdeal.Gen.W6 m g c (Proc.devRef .tc Cert.KernelIdeal.main_v48), Cert.Nsa.run_main m g, ?_⟩
  refine (θ_run Cert.ReferenceIdeal.defs _ _).mono (fun r h c => ⟨?_, (h c).2⟩) (Cert.ReferenceIdeal.Value.run m' g')
  obtain ⟨a0, a1, a2, a3, a4, a5, a6, a7, a8, a9, a10, a11, a12, a13, a14, a15, a16, a17, a18, a19⟩ := ha c
  exact (h c).1.trans ((Cert.ReferenceIdeal.Read.val_main_v246_eq (StableHlo.launchContents m' c)).trans
    (reference_value m g m' hp c a0 a1 a2 a3 a4 a5 a6 a7 a8 a9 a10 a11 a12 a13 a14 a15 a16 a17 a18 a19))

/-- Everything that the certificate claims. -/
theorem claim : Cert.Claim := ⟨Cert.Kernel.Gen.facts, Cert.KernelIdeal.Gen.facts, Cert.ReferenceIdeal.Gen.facts, Cert.Nsa.pre_facts,
  fun m ρ _ => Cert.Kernel.Gen.frame m ρ,
  fun m ρ _ => Cert.KernelIdeal.Gen.frame m ρ,
  fun m ρ _ => Cert.KernelIdeal.Gen.frame m ρ,
  fun m ρ _ => frame_r m ρ,
  fun m ρ _ => frame_r m ρ,
  IdealRules.named_const.statement Cert.KernelIdeal.κ "mask" .f32 0xF149F2CA#32 ⊥ rfl,
  algebraic⟩

end Cert.Proof

end
